-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 [hPre_in_range : Cert.Pre_in_range.Facts] (m : (ℓ : Loc Cert.Kernel12.nD Cert.Kernel12.τ Cert.Kernel12.sig) → Buf (Elt Bits) ℓ) : Prop :=
  ∀ c : Dev Cert.Kernel12.nD,
    (Cert.Pre_in_range.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3))).1 = (fun _ => 1#1)
    ∧ (Cert.Pre_in_range.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3))).2 = (fun _ => 1#1)

def Pre_Kernel12Ideal [hPre_in_range : Cert.Pre_in_range.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_in_range.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_in_range.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_in_range [hPre_in_range : Cert.Pre_in_range.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_in_range.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_in_range.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] [hPre_in_range : Cert.Pre_in_range.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] [hPre_in_range : Cert.Pre_in_range.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_in_range [hReference12Ideal : Cert.Reference12Ideal.Facts] [hPre_in_range : Cert.Pre_in_range.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_in_range m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] [hPre_in_range : Cert.Pre_in_range.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v20) = v0 c
          ∧ r.2.mem ((c.tc : Thread Cert.Reference21Ideal.nD Cert.Reference21Ideal.τ).loc Cert.Reference21Ideal.main_v21) = v1 c
          ∧ r.2.mem ((c.tc : Thread Cert.Reference21Ideal.nD Cert.Reference21Ideal.τ).loc Cert.Reference21Ideal.main_v22) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12) (hPre_in_range := hPre_in_range)
    ∧ quiescent_Kernel12Ideal (hKernel12Ideal := hKernel12Ideal) (hPre_in_range := hPre_in_range)
    ∧ quiescent_Reference12Ideal (hReference12Ideal := hReference12Ideal)
    ∧ quiescent_Reference12Ideal_pre_in_range (hReference12Ideal := hReference12Ideal) (hPre_in_range := hPre_in_range)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal) (hPre_in_range := hPre_in_range)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8192x1024 : Shape := ⟨2, ![8192, 1024]⟩
abbrev S8192x9216 : Shape := ⟨2, ![8192, 9216]⟩
abbrev S4x256x256 : Shape := ⟨3, ![4, 256, 256]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  slices_S8192x9216_S8192x1024_0_0 : S8192x9216.Slices ![0, 0] S8192x1024
  bitsLt_bf16_f32 : FTy.bits .bf16 < FTy.bits .f32
  bcast_S_S4x256x256 : S_.BroadcastsInDim S4x256x256 (![] : Fin 0 → Fin S4x256x256.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x9216 .f32) (main_arg2 : FVec F S4x256x256 .bf16) (main_arg3 : FVec F S1x1024 .f32) : IVec S8192x1024 1 × IVec S8192x1024 1 × IVec S4x256x256 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extractStridedSlice S8192x1024 ![0, 0] · slices_S8192x9216_S8192x1024_0_0) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S4x256x256 .f32 := (extf .f32 · bitsLt_bf16_f32) main_arg2
  let main_v8 : FVec F S4x256x256 .f32 := Host.absf main_v7
  let main_cst_1 : FVec F S_ .f32 := constant S_ .f32 0x7F800000#32
  let main_v9 : FVec F S4x256x256 .f32 := broadcastInDim S4x256x256 ![] bcast_S_S4x256x256 main_cst_1
  let main_v10 : IVec S4x256x256 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v2, main_v6, main_v10, main_v13)
-- ==== Pre_in_range.lean ====
abbrev S1 : Shape := ⟨1, ![1]⟩
abbrev S8192x2048 : Shape := ⟨2, ![8192, 2048]⟩
abbrev S2048x9216 : Shape := ⟨2, ![2048, 9216]⟩
abbrev S8192x9216 : Shape := ⟨2, ![8192, 9216]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8192x2048 .bf16) (main_arg2 : FVec F S2048x9216 .bf16) (main_arg3 : FVec F S8192x9216 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 6#32
  let main_v2 : IVec S1 32 := broadcastInDim S1 ![] bcast_S_S1 main_c_0
  let main_v3 : IVec S1 1 := cmpi .sle main_arg0 main_v2
  (main_v1, main_v3)
-- ==== Kernel.lean ====
abbrev S8192x1024 : Shape := ⟨2, ![8192, 1024]⟩
abbrev S8192x9216 : Shape := ⟨2, ![8192, 9216]⟩
abbrev S4x256x256 : Shape := ⟨3, ![4, 256, 256]⟩
abbrev S1x1024 : Shape := ⟨2, ![1, 1024]⟩
abbrev S256x1024 : Shape := ⟨2, ![256, 1024]⟩
abbrev S16x1024 : Shape := ⟨2, ![16, 1024]⟩
abbrev S272x1024 : Shape := ⟨2, ![272, 1024]⟩
abbrev S256x1 : Shape := ⟨2, ![256, 1]⟩
abbrev S272x256 : Shape := ⟨2, ![272, 256]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x9216, .f32⟩
  | .hbm, ⟨2, _⟩ => ⟨S4x256x256, .bf16⟩
  | .hbm, ⟨3, _⟩ => ⟨S1x1024, .f32⟩
  | .hbm, ⟨4, _⟩ => ⟨S8192x1024, .bf16⟩
  | .hbm, ⟨5, _⟩ => ⟨S4x256x256, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S4x256x256, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S4x256x256, .f32⟩
  | .local _ .vmem, ⟨11, _⟩ => ⟨S1x1024, .f32⟩
  | .local _ .vmem, ⟨12, _⟩ => ⟨S272x1024, .f32⟩
  | .local _ .vmem, ⟨13, _⟩ => ⟨S272x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1024 : Shape := ⟨2, ![8192, 1024]⟩
abbrev S8192x9216 : Shape := ⟨2, ![8192, 9216]⟩
abbrev S4x256x256 : Shape := ⟨3, ![4, 256, 256]⟩
abbrev S1x1024 : Shape := ⟨2, ![1, 1024]⟩
abbrev S_ : Shape := ⟨0, ![]⟩
abbrev S8192 : Shape := ⟨1, ![8192]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S1024 : Shape := ⟨1, ![1024]⟩
abbrev S4x8192x256 : Shape := ⟨3, ![4, 8192, 256]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S8192x9216, .f32⟩
  | 2 => ⟨S4x256x256, .bf16⟩
  | 3 => ⟨S1x1024, .f32⟩
  | 4 => ⟨S8192x1024, .f32⟩
  | 5 => ⟨S4x256x256, .f32⟩
  | 6 => ⟨S_, .f32⟩
  | 7 => ⟨S_, .f32⟩
  | 8 => ⟨S8192x1024, .f32⟩
  | 9 => ⟨S8192, .f32⟩
  | 10 => ⟨S_, .f32⟩
  | 11 => ⟨S8192, .f32⟩
  | 12 => ⟨S8192, .f32⟩
  | 13 => ⟨S8192x256, .f32⟩
  | 14 => ⟨S_, .f32⟩
  | 15 => ⟨S2x256, .f32⟩
  | 16 => ⟨S8190x256, .f32⟩
  | 17 => ⟨S8192x256, .f32⟩
  | 18 => ⟨S_, .f32⟩
  | 19 => ⟨S2x256, .f32⟩
  | 20 => ⟨S_, .f32⟩
  | 21 => ⟨S8192, .f32⟩
  | 22 => ⟨S8192, .f32⟩
  | 23 => ⟨S8192x1, .f32⟩
  | 24 => ⟨S8192x256, .f32⟩
  | 25 => ⟨S8192x256, .f32⟩
  | 26 => ⟨S8192x256, .f32⟩
  | 27 => ⟨S8192x256, .f32⟩
  | 28 => ⟨S_, .f32⟩
  | 29 => ⟨S4x256, .f32⟩
  | 30 => ⟨S8188x256, .f32⟩
  | 31 => ⟨S8192x256, .f32⟩
  | 32 => ⟨S_, .f32⟩
  | 33 => ⟨S4x256, .f32⟩
  | 34 => ⟨S_, .f32⟩
  | 35 => ⟨S8192, .f32⟩
  | 36 => ⟨S8192, .f32⟩
  | 37 => ⟨S8192x1, .f32⟩
  | 38 => ⟨S8192x256, .f32⟩
  | 39 => ⟨S8192x256, .f32⟩
  | 40 => ⟨S8192x256, .f32⟩
  | 41 => ⟨S8192x256, .f32⟩
  | 42 => ⟨S_, .f32⟩
  | 43 => ⟨S8x256, .f32⟩
  | 44 => ⟨S8184x256, .f32⟩
  | 45 => ⟨S8192x256, .f32⟩
  | 46 => ⟨S_, .f32⟩
  | 47 => ⟨S8x256, .f32⟩
  | 48 => ⟨S_, .f32⟩
  | 49 => ⟨S8192, .f32⟩
  | 50 => ⟨S8192, .f32⟩
  | 51 => ⟨S8192x1, .f32⟩
  | 52 => ⟨S8192x256, .f32⟩
  | 53 => ⟨S8192x256, .f32⟩
  | 54 => ⟨S8192x256, .f32⟩
  | 55 => ⟨S8192x256, .f32⟩
  | 56 => ⟨S_, .f32⟩
  | 57 => ⟨S16x256, .f32⟩
  | 58 => ⟨S8176x256, .f32⟩
  | 59 => ⟨S8192x256, .f32⟩
  | 60 => ⟨S_, .f32⟩
  | 61 => ⟨S16x256, .f32⟩
  | 62 => ⟨S_, .f32⟩
  | 63 => ⟨S8192, .f32⟩
  | 64 => ⟨S8192, .f32⟩
  | 65 => ⟨S8192x1, .f32⟩
  | 66 => ⟨S8192x256, .f32⟩
  | 67 => ⟨S8192x256, .f32⟩
  | 68 => ⟨S8192x256, .f32⟩
  | 69 => ⟨S8192x1x256, .f32⟩
  | 70 => ⟨S8192x1x256, .f32⟩
  | 71 => ⟨S8192x1x256, .f32⟩
  | 72 => ⟨S8192x1x256, .f32⟩
  | 73 => ⟨S8192x4x256, .f32⟩
  | 74 => ⟨S8192x4x256, .f32⟩
  | 75 => ⟨S8192x4x256, .f32⟩
  | 76 => ⟨S4x256x8192, .f32⟩
  | 77 => ⟨S8192x4x256, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S1024, .f32⟩
  | 84 => ⟨S1x1024, .f32⟩
  | 85 => ⟨S8192x1024, .f32⟩
  | 86 => ⟨S8192x1024, .f32⟩
  | 87 => ⟨S8192x4x256, .f32⟩
  | 88 => ⟨S4x256x8192, .f32⟩
  | 89 => ⟨S4x8192x256, .f32⟩
  | 90 => ⟨S8192x4x256, .f32⟩
  | 91 => ⟨S4x256x256, .f32⟩
  | 92 => ⟨S4x256x256, .f32⟩
  | 93 => ⟨S8192x4x256, .f32⟩
  | 94 => ⟨S8192x1024, .f32⟩
  | 95 => ⟨S8192x1x256, .f32⟩
  | 96 => ⟨S8192x256, .f32⟩
  | 97 => ⟨S8192x1x256, .f32⟩
  | 98 => ⟨S8192x256, .f32⟩
  | 99 => ⟨S8192x1x256, .f32⟩
  | 100 => ⟨S8192x256, .f32⟩
  | 101 => ⟨S8192x1x256, .f32⟩
  | 102 => ⟨S8192x256, .f32⟩
  | 103 => ⟨S8192x256, .f32⟩
  | 104 => ⟨S8192x256, .f32⟩
  | 105 => ⟨S8192x256, .f32⟩
  | 106 => ⟨S16x256, .f32⟩
  | 107 => ⟨S8176x256, .f32⟩
  | 108 => ⟨S_, .f32⟩
  | 109 => ⟨S8192x256, .f32⟩
  | 110 => ⟨S8192x256, .f32⟩
  | 111 => ⟨S_, .f32⟩
  | 112 => ⟨S8192x1024, .f32⟩
  | 113 => ⟨S8192x256, .f32⟩
  | 114 => ⟨S8192x256, .f32⟩
  | 115 => ⟨S8192x256, .f32⟩
  | 116 => ⟨S8x256, .f32⟩
  | 117 => ⟨S8184x256, .f32⟩
  | 118 => ⟨S_, .f32⟩
  | 119 => ⟨S8192x256, .f32⟩
  | 120 => ⟨S8192x256, .f32⟩
  | 121 => ⟨S_, .f32⟩
  | 122 => ⟨S8192x1024, .f32⟩
  | 123 => ⟨S8192x1024, .f32⟩
  | 124 => ⟨S8192x256, .f32⟩
  | 125 => ⟨S8192x256, .f32⟩
  | 126 => ⟨S8192x256, .f32⟩
  | 127 => ⟨S4x256, .f32⟩
  | _ => ⟨S8192x1024, .f32⟩

abbrev hbmTy0_1 (i : Nat) : BufTy := match i % 128 with
  | 0 => ⟨S8188x256, .f32⟩
  | 1 => ⟨S_, .f32⟩
  | 2 => ⟨S8192x256, .f32⟩
  | 3 => ⟨S8192x256, .f32⟩
  | 4 => ⟨S_, .f32⟩
  | 5 => ⟨S8192x1024, .f32⟩
  | 6 => ⟨S8192x1024, .f32⟩
  | 7 => ⟨S8192x256, .f32⟩
  | 8 => ⟨S8192x256, .f32⟩
  | 9 => ⟨S8192x256, .f32⟩
  | 10 => ⟨S2x256, .f32⟩
  | 11 => ⟨S8190x256, .f32⟩
  | 12 => ⟨S_, .f32⟩
  | 13 => ⟨S8192x256, .f32⟩
  | 14 => ⟨S8192x256, .f32⟩
  | 15 => ⟨S_, .f32⟩
  | 16 => ⟨S8192x1024, .f32⟩
  | 17 => ⟨S8192x1024, .f32⟩
  | 18 => ⟨S_, .f32⟩
  | 19 => ⟨S_, .f32⟩
  | 20 => ⟨S8192x1024, .f32⟩
  | 21 => ⟨S8192x1024, .f32⟩
  | 22 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_13 : Ref sig .tc := ⟨.hbm, 108, rfl⟩
abbrev main_v88 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_cst_16 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_17 : Ref sig .tc := ⟨.hbm, 129, rfl⟩
abbrev main_v105 : Ref sig .tc := ⟨.hbm, 130, rfl⟩
abbrev main_v106 : Ref sig .tc := ⟨.hbm, 131, rfl⟩
abbrev main_cst_18 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_19 : Ref sig .tc := ⟨.hbm, 140, rfl⟩
abbrev main_v114 : Ref sig .tc := ⟨.hbm, 141, rfl⟩
abbrev main_v115 : Ref sig .tc := ⟨.hbm, 142, rfl⟩
abbrev main_cst_20 : Ref sig .tc := ⟨.hbm, 143, rfl⟩
abbrev main_v116 : Ref sig .tc := ⟨.hbm, 144, rfl⟩
abbrev main_v117 : Ref sig .tc := ⟨.hbm, 145, rfl⟩
abbrev main_call1_call0_cst : Ref sig .tc := ⟨.hbm, 146, rfl⟩
abbrev main_call1_call0_v0 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩

abbrev nD : Nat := 1
abbrev τ : Topo := Topo.v7x

variable {F : FTy → Type} [FloatOps F]
-- ==== Kernel2.lean ====
abbrev S8192x9216 : Shape := ⟨2, ![8192, 9216]⟩
abbrev S2048x9216 : Shape := ⟨2, ![2048, 9216]⟩
abbrev S8192x2048 : Shape := ⟨2, ![8192, 2048]⟩
abbrev S1x2048 : Shape := ⟨2, ![1, 2048]⟩
abbrev S512x2304 : Shape := ⟨2, ![512, 2304]⟩
abbrev S2048x2304 : Shape := ⟨2, ![2048, 2304]⟩
abbrev S512x2048 : Shape := ⟨2, ![512, 2048]⟩
abbrev S8x2048 : Shape := ⟨2, ![8, 2048]⟩
abbrev S8 : Shape := ⟨1, ![8]⟩
abbrev S8x1 : Shape := ⟨2, ![8, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S8192x9216, .bf16⟩
  | .hbm, ⟨1, _⟩ => ⟨S2048x9216, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S512x2304, .bf16⟩
  | .local _ .vmem, ⟨1, _⟩ => ⟨S512x2304, .bf16⟩
  | .local _ .vmem, ⟨2, _⟩ => ⟨S2048x2304, .bf16⟩
  | .local _ .vmem, ⟨3, _⟩ => ⟨S2048x2304, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S8192x9216 : Shape := ⟨2, ![8192, 9216]⟩
abbrev S2048x9216 : Shape := ⟨2, ![2048, 9216]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S2048x9216, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x9216, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x9216, .f32⟩
  | .hbm, ⟨26, _⟩ => ⟨S8192x9216, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S2x8192x6144 : Shape := ⟨3, ![2, 8192, 6144]⟩
abbrev S2048x12288 : Shape := ⟨2, ![2048, 12288]⟩
abbrev S8192x2048 : Shape := ⟨2, ![8192, 2048]⟩
abbrev S1x2048 : Shape := ⟨2, ![1, 2048]⟩
abbrev S1x512x2048 : Shape := ⟨3, ![1, 512, 2048]⟩
abbrev S2048x2048 : Shape := ⟨2, ![2048, 2048]⟩
abbrev S512x2048 : Shape := ⟨2, ![512, 2048]⟩
abbrev S8x2048 : Shape := ⟨2, ![8, 2048]⟩
abbrev S8 : Shape := ⟨1, ![8]⟩
abbrev S8x1 : Shape := ⟨2, ![8, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S2x8192x6144, .bf16⟩
  | .hbm, ⟨1, _⟩ => ⟨S2048x12288, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 6], ![false, false]⟩

def k0_cond4 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference3Ideal.lean ====
abbrev S2x8192x6144 : Shape := ⟨3, ![2, 8192, 6144]⟩
abbrev S2048x12288 : Shape := ⟨2, ![2048, 12288]⟩
abbrev S8192x2048 : Shape := ⟨2, ![8192, 2048]⟩
abbrev S1x2048 : Shape := ⟨2, ![1, 2048]⟩
abbrev S1x8192x6144 : Shape := ⟨3, ![1, 8192, 6144]⟩
abbrev S8192x6144 : Shape := ⟨2, ![8192, 6144]⟩
abbrev S8192x12288 : Shape := ⟨2, ![8192, 12288]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x6144, .bf16⟩
  | .hbm, ⟨1, _⟩ => ⟨S2048x12288, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x8192x6144, .bf16⟩
  | .hbm, ⟨6, _⟩ => ⟨S8192x6144, .bf16⟩
  | .hbm, ⟨7, _⟩ => ⟨S1x8192x6144, .bf16⟩
  | .hbm, ⟨8, _⟩ => ⟨S8192x6144, .bf16⟩
  | .hbm, ⟨9, _⟩ => ⟨S8192x12288, .bf16⟩
  | .hbm, ⟨10, _⟩ => ⟨S8192x12288, .f32⟩
  | .hbm, ⟨11, _⟩ => ⟨S2048x12288, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x12288, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .bf16⟩
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel4.lean ====
abbrev S8192x2048 : Shape := ⟨2, ![8192, 2048]⟩
abbrev S2x8192x6144 : Shape := ⟨3, ![2, 8192, 6144]⟩
abbrev S2048x12288 : Shape := ⟨2, ![2048, 12288]⟩
abbrev S1024x2048 : Shape := ⟨2, ![1024, 2048]⟩
abbrev S1x1024x1536 : Shape := ⟨3, ![1, 1024, 1536]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x6144, .bf16⟩
  | .hbm, ⟨2, _⟩ => ⟨S2048x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S2048x1536, .bf16⟩
  | .local _ .vmem, ⟨5, _⟩ => ⟨S2048x1536, .bf16⟩
  | .local _ .vmem, ⟨6, _⟩ => ⟨S2048x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S8192x2048 : Shape := ⟨2, ![8192, 2048]⟩
abbrev S2x8192x6144 : Shape := ⟨3, ![2, 8192, 6144]⟩
abbrev S1x8192x6144 : Shape := ⟨3, ![1, 8192, 6144]⟩
abbrev S8192x6144 : Shape := ⟨2, ![8192, 6144]⟩
abbrev S8192x12288 : Shape := ⟨2, ![8192, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x6144, .bf16⟩
  | .hbm, ⟨2, _⟩ => ⟨S1x8192x6144, .bf16⟩
  | .hbm, ⟨3, _⟩ => ⟨S8192x6144, .bf16⟩
  | .hbm, ⟨4, _⟩ => ⟨S1x8192x6144, .bf16⟩
  | .hbm, ⟨5, _⟩ => ⟨S8192x6144, .bf16⟩
  | .hbm, ⟨6, _⟩ => ⟨S8192x12288, .bf16⟩
  | .hbm, ⟨7, _⟩ => ⟨S_, .f32⟩
  | .hbm, ⟨8, _⟩ => ⟨S2048x12288, .f32⟩
  | .hbm, ⟨9, _⟩ => ⟨S8192x2048, .f32⟩
  | .hbm, ⟨10, _⟩ => ⟨S8192x12288, .f32⟩
  | .hbm, ⟨11, _⟩ => ⟨S8192x12288, .f32⟩
  | .hbm, ⟨12, _⟩ => ⟨S12288x2048, .f32⟩
  | .hbm, ⟨13, _⟩ => ⟨S2048x12288, .f32⟩
  | .hbm, ⟨14, _⟩ => ⟨S2048x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S8192x2048 : Shape := ⟨2, ![8192, 2048]⟩
abbrev S8192x9216 : Shape := ⟨2, ![8192, 9216]⟩
abbrev S2048x9216 : Shape := ⟨2, ![2048, 9216]⟩
abbrev S1024x2048 : Shape := ⟨2, ![1024, 2048]⟩
abbrev S1024x1536 : Shape := ⟨2, ![1024, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S2048x9216, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .bf16⟩
  | .local _ .vmem, ⟨5, _⟩ => ⟨S2048x1536, .bf16⟩
  | .local _ .vmem, ⟨6, _⟩ => ⟨S2048x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x9216 : Shape := ⟨2, ![8192, 9216]⟩
abbrev S_ : Shape := ⟨0, ![]⟩
abbrev S2048x9216 : Shape := ⟨2, ![2048, 9216]⟩
abbrev S9216x2048 : Shape := ⟨2, ![9216, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S_, .f32⟩
  | .hbm, ⟨3, _⟩ => ⟨S2048x9216, .f32⟩
  | .hbm, ⟨4, _⟩ => ⟨S8192x2048, .f32⟩
  | .hbm, ⟨5, _⟩ => ⟨S8192x9216, .f32⟩
  | .hbm, ⟨6, _⟩ => ⟨S8192x9216, .f32⟩
  | .hbm, ⟨7, _⟩ => ⟨S9216x2048, .f32⟩
  | .hbm, ⟨8, _⟩ => ⟨S2048x9216, .f32⟩
  | .hbm, ⟨9, _⟩ => ⟨S2048x9216, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x6144 : Shape := ⟨2, ![8192, 6144]⟩
abbrev S8192x2048 : Shape := ⟨2, ![8192, 2048]⟩
abbrev S6144x2048 : Shape := ⟨2, ![6144, 2048]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S6144x2048, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x6144 : Shape := ⟨2, ![8192, 6144]⟩
abbrev S8192x2048 : Shape := ⟨2, ![8192, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S_, .f32⟩
  | .hbm, ⟨3, _⟩ => ⟨S6144x2048, .f32⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S2048x6144, .f32⟩
  | .hbm, ⟨8, _⟩ => ⟨S6144x2048, .f32⟩
  | .hbm, ⟨9, _⟩ => ⟨S6144x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x2048, .f32⟩
  | .hbm, ⟨3, _⟩ => ⟨S2048x12288, .f32⟩
  | .hbm, ⟨4, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S1 : Shape := ⟨1, ![1]⟩
abbrev S8192x2048 : Shape := ⟨2, ![8192, 2048]⟩
abbrev S2048x9216 : Shape := ⟨2, ![2048, 9216]⟩
abbrev S8192x9216 : Shape := ⟨2, ![8192, 9216]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 4
  | .vmem => 6
  | .smem => 1
  | _ => 0

abbrev bufTy : (tb : Table) → Fin (tcTables nBuf tb) → BufTy
  | .hbm, ⟨0, _⟩ => ⟨S8192x2048, .bf16⟩
  | .hbm, ⟨1, _⟩ => ⟨S2048x9216, .bf16⟩
  | .hbm, ⟨2, _⟩ => ⟨S8192x9216, .f32⟩
  | .hbm, ⟨3, _⟩ => ⟨S8192x9216, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .smem, ⟨0, _⟩ => ⟨S1, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  let c0_i32_0 : BitVec 32 := 0#32
  ![c0_i32.toNat, v1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.addi v0 arg1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S1 : Shape := ⟨1, ![1]⟩
abbrev S8192x2048 : Shape := ⟨2, ![8192, 2048]⟩
abbrev S2048x9216 : Shape := ⟨2, ![2048, 9216]⟩
abbrev S8192x9216 : Shape := ⟨2, ![8192, 9216]⟩
abbrev S9216 : Shape := ⟨1, ![9216]⟩
abbrev S_ : Shape := ⟨0, ![]⟩
abbrev S1x9216 : Shape := ⟨2, ![1, 9216]⟩

abbrev nBuf : Space → Nat
  | .hbm => 24
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x2048, .bf16⟩
  | .hbm, ⟨2, _⟩ => ⟨S2048x9216, .bf16⟩
  | .hbm, ⟨3, _⟩ => ⟨S8192x9216, .f32⟩
  | .hbm, ⟨4, _⟩ => ⟨S8192x2048, .f32⟩
  | .hbm, ⟨5, _⟩ => ⟨S2048x9216, .f32⟩
  | .hbm, ⟨6, _⟩ => ⟨S8192x9216, .f32⟩
  | .hbm, ⟨7, _⟩ => ⟨S9216, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S9216, .i32⟩
  | .hbm, ⟨12, _⟩ => ⟨S9216, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S9216, .i32⟩
  | .hbm, ⟨19, _⟩ => ⟨S9216, .i1⟩
  | .hbm, ⟨20, _⟩ => ⟨S9216, .i1⟩
  | .hbm, ⟨21, _⟩ => ⟨S1x9216, .i1⟩
  | .hbm, ⟨22, _⟩ => ⟨S8192x9216, .i1⟩
  | .hbm, ⟨23, _⟩ => ⟨S8192x9216, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel13.lean ====
abbrev S2048x1152 : Shape := ⟨2, ![2048, 1152]⟩
abbrev S8x2048x1152 : Shape := ⟨3, ![8, 2048, 1152]⟩
abbrev S256x1152 : Shape := ⟨2, ![256, 1152]⟩
abbrev S8x256x1152 : Shape := ⟨3, ![8, 256, 1152]⟩
abbrev S1x256x1152 : Shape := ⟨3, ![1, 256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S8x2048x1152, .bf16⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S8x256x1152, .bf16⟩
  | .local _ .vmem, ⟨7, _⟩ => ⟨S8x256x1152, .bf16⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
abbrev S2048x1152 : Shape := ⟨2, ![2048, 1152]⟩
abbrev S8x2048x1152 : Shape := ⟨3, ![8, 2048, 1152]⟩
abbrev S256x1152 : Shape := ⟨2, ![256, 1152]⟩
abbrev S8x256x1152 : Shape := ⟨3, ![8, 256, 1152]⟩
abbrev S1x256x1152 : Shape := ⟨3, ![1, 256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S8x2048x1152, .bf16⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S8x256x1152, .bf16⟩
  | .local _ .vmem, ⟨7, _⟩ => ⟨S8x256x1152, .bf16⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2048x1152 : Shape := ⟨2, ![2048, 1152]⟩
abbrev S8x2048x1152 : Shape := ⟨3, ![8, 2048, 1152]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S8x2048x1152, .bf16⟩
  | .hbm, ⟨4, _⟩ => ⟨S8x2048x1152, .f32⟩
  | .hbm, ⟨5, _⟩ => ⟨S_, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S_, .f32⟩
  | .hbm, ⟨11, _⟩ => ⟨S2048x1152, .f32⟩
  | .hbm, ⟨12, _⟩ => ⟨S2048x1152, .f32⟩
  | .hbm, ⟨13, _⟩ => ⟨S2048x1152, .f32⟩
  | .hbm, ⟨14, _⟩ => ⟨S_, .f32⟩
  | .hbm, ⟨15, _⟩ => ⟨S2048x1152, .f32⟩
  | .hbm, ⟨16, _⟩ => ⟨S2048x1152, .f32⟩
  | .hbm, ⟨17, _⟩ => ⟨S2048x1152, .f32⟩
  | .hbm, ⟨18, _⟩ => ⟨S_, .f32⟩
  | .hbm, ⟨19, _⟩ => ⟨S2048x1152, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S_, .f32⟩
  | .hbm, ⟨26, _⟩ => ⟨S2048x1152, .f32⟩
  | .hbm, ⟨27, _⟩ => ⟨S2048x1152, .f32⟩
  | .hbm, ⟨28, _⟩ => ⟨S2048x1152, .f32⟩
  | .hbm, ⟨29, _⟩ => ⟨S_, .f32⟩
  | .hbm, ⟨30, _⟩ => ⟨S2048x1152, .f32⟩
  | .hbm, ⟨31, _⟩ => ⟨S2048x1152, .f32⟩
  | .hbm, ⟨32, _⟩ => ⟨S2048x1152, .f32⟩
  | .hbm, ⟨33, _⟩ => ⟨S_, .f32⟩
  | .hbm, ⟨34, _⟩ => ⟨S2048x1152, .f32⟩
  | .hbm, ⟨35, _⟩ => ⟨S2048x1152, .f32⟩
  | .hbm, ⟨36, _⟩ => ⟨S2048x1152, .f32⟩
  | .hbm, ⟨37, _⟩ => ⟨S_, .f32⟩
  | .hbm, ⟨38, _⟩ => ⟨S2048x1152, .f32⟩
  | .hbm, ⟨39, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S128x256 : Shape := ⟨2, ![128, 256]⟩
abbrev S8x128x256 : Shape := ⟨3, ![8, 128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S8x128x256, .bf16⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S8x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel14Ideal.lean ====
abbrev S128x256 : Shape := ⟨2, ![128, 256]⟩
abbrev S8x128x256 : Shape := ⟨3, ![8, 128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S8x128x256, .bf16⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S8x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S128x256 : Shape := ⟨2, ![128, 256]⟩
abbrev S8x128x256 : Shape := ⟨3, ![8, 128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S8x128x256, .bf16⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S8x256x256, .bf16⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel15Ideal.lean ====
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S8x256x256, .bf16⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S256x256 : Shape := ⟨2, ![256, 256]⟩
abbrev S8x256x256 : Shape := ⟨3, ![8, 256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S8x256x256, .bf16⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S1024x256 : Shape := ⟨2, ![1024, 256]⟩
abbrev S8x1024x256 : Shape := ⟨3, ![8, 1024, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
abbrev S1024x256 : Shape := ⟨2, ![1024, 256]⟩
abbrev S8x1024x256 : Shape := ⟨3, ![8, 1024, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S8x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel17Ideal.lean ====
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S8x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S256x2048 : Shape := ⟨2, ![256, 2048]⟩
abbrev S8x256x2048 : Shape := ⟨3, ![8, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S2048x1536 : Shape := ⟨2, ![2048, 1536]⟩
abbrev S8x2048x1536 : Shape := ⟨3, ![8, 2048, 1536]⟩
abbrev S256x1536 : Shape := ⟨2, ![256, 1536]⟩
abbrev S8x256x1536 : Shape := ⟨3, ![8, 256, 1536]⟩
abbrev S1x256x1536 : Shape := ⟨3, ![1, 256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S8x256x1536, .bf16⟩
  | .local _ .vmem, ⟨7, _⟩ => ⟨S8x256x1536, .bf16⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S2048x1536 : Shape := ⟨2, ![2048, 1536]⟩
abbrev S8x2048x1536 : Shape := ⟨3, ![8, 2048, 1536]⟩
abbrev S256x1536 : Shape := ⟨2, ![256, 1536]⟩
abbrev S8x256x1536 : Shape := ⟨3, ![8, 256, 1536]⟩
abbrev S1x256x1536 : Shape := ⟨3, ![1, 256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S8x256x1536, .bf16⟩
  | .local _ .vmem, ⟨7, _⟩ => ⟨S8x256x1536, .bf16⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2048x1536 : Shape := ⟨2, ![2048, 1536]⟩
abbrev S8x2048x1536 : Shape := ⟨3, ![8, 2048, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S8x2048x1536, .f32⟩
  | .hbm, ⟨5, _⟩ => ⟨S_, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S_, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S768x2048 : Shape := ⟨2, ![768, 2048]⟩
abbrev S8x768x2048 : Shape := ⟨3, ![8, 768, 2048]⟩
abbrev S256x2048 : Shape := ⟨2, ![256, 2048]⟩
abbrev S8x256x2048 : Shape := ⟨3, ![8, 256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S768x2048, .f32⟩
  | .hbm, ⟨1, _⟩ => ⟨S768x2048, .f32⟩
  | .hbm, ⟨2, _⟩ => ⟨S768x2048, .f32⟩
  | .hbm, ⟨3, _⟩ => ⟨S8x768x2048, .bf16⟩
  | .hbm, ⟨4, _⟩ => ⟨S768x2048, .f32⟩
  | .hbm, ⟨5, _⟩ => ⟨S768x2048, .f32⟩
  | .hbm, ⟨6, _⟩ => ⟨S768x2048, .f32⟩
  | .hbm, ⟨7, _⟩ => ⟨S768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x256x2048, .bf16⟩
  | .local _ .vmem, ⟨7, _⟩ => ⟨S8x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S768x2048 : Shape := ⟨2, ![768, 2048]⟩
abbrev S8x768x2048 : Shape := ⟨3, ![8, 768, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S768x2048, .f32⟩
  | .hbm, ⟨2, _⟩ => ⟨S768x2048, .f32⟩
  | .hbm, ⟨3, _⟩ => ⟨S8x768x2048, .bf16⟩
  | .hbm, ⟨4, _⟩ => ⟨S8x768x2048, .f32⟩
  | .hbm, ⟨5, _⟩ => ⟨S_, .f32⟩
  | .hbm, ⟨6, _⟩ => ⟨S768x2048, .f32⟩
  | .hbm, ⟨7, _⟩ => ⟨S_, .f32⟩
  | .hbm, ⟨8, _⟩ => ⟨S768x2048, .f32⟩
  | .hbm, ⟨9, _⟩ => ⟨S768x2048, .f32⟩
  | .hbm, ⟨10, _⟩ => ⟨S_, .f32⟩
  | .hbm, ⟨11, _⟩ => ⟨S768x2048, .f32⟩
  | .hbm, ⟨12, _⟩ => ⟨S768x2048, .f32⟩
  | .hbm, ⟨13, _⟩ => ⟨S768x2048, .f32⟩
  | .hbm, ⟨14, _⟩ => ⟨S_, .f32⟩
  | .hbm, ⟨15, _⟩ => ⟨S768x2048, .f32⟩
  | .hbm, ⟨16, _⟩ => ⟨S768x2048, .f32⟩
  | .hbm, ⟨17, _⟩ => ⟨S768x2048, .f32⟩
  | .hbm, ⟨18, _⟩ => ⟨S_, .f32⟩
  | .hbm, ⟨19, _⟩ => ⟨S768x2048, .f32⟩
  | .hbm, ⟨20, _⟩ => ⟨S768x2048, .f32⟩
  | .hbm, ⟨21, _⟩ => ⟨S768x2048, .f32⟩
  | .hbm, ⟨22, _⟩ => ⟨S_, .f32⟩
  | .hbm, ⟨23, _⟩ => ⟨S768x2048, .f32⟩
  | .hbm, ⟨24, _⟩ => ⟨S768x2048, .f32⟩
  | .hbm, ⟨25, _⟩ => ⟨S_, .f32⟩
  | .hbm, ⟨26, _⟩ => ⟨S768x2048, .f32⟩
  | .hbm, ⟨27, _⟩ => ⟨S768x2048, .f32⟩
  | .hbm, ⟨28, _⟩ => ⟨S768x2048, .f32⟩
  | .hbm, ⟨29, _⟩ => ⟨S_, .f32⟩
  | .hbm, ⟨30, _⟩ => ⟨S768x2048, .f32⟩
  | .hbm, ⟨31, _⟩ => ⟨S768x2048, .f32⟩
  | .hbm, ⟨32, _⟩ => ⟨S768x2048, .f32⟩
  | .hbm, ⟨33, _⟩ => ⟨S_, .f32⟩
  | .hbm, ⟨34, _⟩ => ⟨S768x2048, .f32⟩
  | .hbm, ⟨35, _⟩ => ⟨S768x2048, .f32⟩
  | .hbm, ⟨36, _⟩ => ⟨S768x2048, .f32⟩
  | .hbm, ⟨37, _⟩ => ⟨S_, .f32⟩
  | .hbm, ⟨38, _⟩ => ⟨S768x2048, .f32⟩
  | .hbm, ⟨39, _⟩ => ⟨S768x2048, .f32⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S16x512 : Shape := ⟨2, ![16, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel21.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S8192x9216 : Shape := ⟨2, ![8192, 9216]⟩
abbrev S1x4096 : Shape := ⟨2, ![1, 4096]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩
abbrev S1x1024 : Shape := ⟨2, ![1, 1024]⟩
abbrev S16x512 : Shape := ⟨2, ![16, 512]⟩
abbrev S1x512 : Shape := ⟨2, ![1, 512]⟩

abbrev nBuf : Space → Nat
  | .hbm => 9
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .hbm, ⟨3, _⟩ => ⟨S2048x2048, .bf16⟩
  | .hbm, ⟨4, _⟩ => ⟨S8192x9216, .f32⟩
  | .hbm, ⟨5, _⟩ => ⟨S1x4096, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S8192x9216 : Shape := ⟨2, ![8192, 9216]⟩
abbrev S1x4096 : Shape := ⟨2, ![1, 4096]⟩
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .hbm, ⟨3, _⟩ => ⟨S2048x2048, .bf16⟩
  | .hbm, ⟨4, _⟩ => ⟨S8192x9216, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S1024x2048, .f32⟩
  | .hbm, ⟨19, _⟩ => ⟨S8192x2048, .f32⟩
  | .hbm, ⟨20, _⟩ => ⟨S8192x2048, .f32⟩
  | .hbm, ⟨21, _⟩ => ⟨S2048x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S8192x2048, .bf16⟩
  | .hbm, ⟨30, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Pool.Model.lean ====
/- The pooling mixer's gradient as formulas over the extended reals, one number per row and column.
   The kernel's blocks and the reference's arrays are both compared with these formulas. -/
module

public import Idealize.ShloMosaic.Lib.Pointwise

@[expose] public section

noncomputable section

namespace Cert.Pool

open Idealize.ShloMosaic

/-- The arrays the gradient is taken from, read at plain numbers: the cotangent `dy` and the pooled input `u` (row,
    column), the four groups' weights `w` (group, row, column), and the output scale `s` (column). -/
structure Ins where
  dy : ℕ → ℕ → EReal
  u : ℕ → ℕ → EReal
  w : ℕ → ℕ → ℕ → EReal
  s : ℕ → EReal

namespace Ins

variable (I : Ins)

/-- The length of group `g`'s window: 2, 4, 8, 16. -/
def win (g : ℕ) : ℕ := 2 ^ (g + 1)

/-- How many rows a window of length `n` that ends at row `t` really has. -/
def cnt (n t : ℕ) : EReal := (((min (t + 1) n : ℕ) : ℝ) : EReal)

/-- The sum of the window of `n` rows that ends at row `t`, in column `j`. -/
def wsum (n t j : ℕ) : EReal := ∑ k ∈ Finset.range n, if k ≤ t then I.u (t - k) j else 0

/-- Group `g`'s window mean less the row itself. -/
def dif (g t c : ℕ) : EReal := Ideal.div (I.wsum (win g) t (256 * g + c)) (cnt (win g) t) - I.u t (256 * g + c)

/-- The mixed row before the output scale. -/
def mix (g t d : ℕ) : EReal := ∑ c ∈ Finset.range 256, I.dif g t c * I.w g c d

/-- The cotangent of the mixed row. -/
def dmix (g t d : ℕ) : EReal := I.dy t (256 * g + d) * I.s (256 * g + d)

/-- The cotangent of `dif`. -/
def ddif (g t c : ℕ) : EReal := ∑ d ∈ Finset.range 256, I.dmix g t d * I.w g c d

/-- The cotangent of one row's share of a window; no row after the last has one. -/
def share (g t c : ℕ) : EReal := if t < 8192 then Ideal.div (I.ddif g t c) (cnt (win g) t) else 0

/-- The gradient of the pooled input. -/
def du (g t c : ℕ) : EReal := (∑ k ∈ Finset.range (win g), I.share g (t + k) c) - I.ddif g t c

/-- One row's part of the weights' gradient. -/
def dwAt (g a b t : ℕ) : EReal := I.dif g t a * I.dmix g t b

/-- One row's part of the scale's gradient. -/
def dsAt (g d t : ℕ) : EReal := I.dy t (256 * g + d) * I.mix g t d

end Ins

end Cert.Pool
-- ==== Proof.Pool.Payload.lean ====
/- What the kernel's arithmetic on one block computes, element by element, over the extended reals. -/
module

public import proofs.«01_k».proof.Proof.Gen.KernelIdeal.Skeleton
public import proofs.«01_k».proof.Proof.Pool.Model
public import Idealize.ShloMosaic.Lib.Pointwise

@[expose] public section

noncomputable section

namespace Cert.KernelIdeal.Pool

open Cert.KernelIdeal Cert.KernelIdeal.Gen Idealize.ShloMosaic Cert.Pool Cert.Pool.Ins

/-- A rotation of 272 rows down by `s` reads the row `s` above, where there is one. -/
theorem rot_up (x s : ℕ) (h : s ≤ x) (h' : x < 272) : (x + 272 - s) % 272 = x - s := by omega

/-- A rotation of 272 rows down by `s` reads the row `272 - s` below, where there is one. -/
theorem rot_down (x s : ℕ) (h : s ≤ 272) (h' : x + (272 - s) < 272) : (x + 272 - s) % 272 = x + (272 - s) := by omega

/-- The window's row count, computed in 32-bit words, is the number of rows. -/
theorem count_word (i : grid0.Coords) (r : Fin 256) (n : ℕ) (hn : n < 2 ^ 31) :
    (FloatOps.sitofp FTy.f32 (IntOp.minsi (IntOp.addi (IntOp.addi (Scalar.muli (Scalar.subi (31#32) (BitVec.ofNat 32 (i 0).val)) 256#32)
      (BitVec.ofNat 32 r.val)) 1#32) (BitVec.ofNat 32 n)) : Idealize.ShloMosaic.Ideal .f32) = cnt n (256 * (31 - (i 0).val) + r.val) := by
  have hi : (i 0).val < 32 := (i 0).isLt
  generalize (i 0).val = k at hi ⊢
  have hr := r.isLt
  generalize r.val = r at hr ⊢
  have e : IntOp.addi (IntOp.addi (Scalar.muli (Scalar.subi (31#32) (BitVec.ofNat 32 k)) 256#32) (BitVec.ofNat 32 r)) 1#32
      = BitVec.ofNat 32 (256 * (31 - k) + r + 1) := by
    apply BitVec.eq_of_toNat_eq
    simp [IntOp.addi, Scalar.muli, Scalar.subi, IntOp.muli, IntOp.subi]
    omega
  rw [e]
  generalize hq : 256 * (31 - k) + r = q at *
  have hq' : q < 8192 := by omega
  have h1 : (BitVec.ofNat 32 (q + 1)).toInt = ((q + 1 : ℕ) : ℤ) := by
    rw [BitVec.toInt_eq_toNat_of_lt (by simp; omega)]; simp; omega
  have h2 : (BitVec.ofNat 32 n).toInt = (n : ℤ) := by
    rw [BitVec.toInt_eq_toNat_of_lt (by simp; omega)]; simp; omega
  have h3 : (IntOp.minsi (BitVec.ofNat 32 (q + 1)) (BitVec.ofNat 32 n)).toInt = ((min (q + 1) n : ℕ) : ℤ) := by
    unfold IntOp.minsi
    split <;> rename_i hc <;> simp only [BitVec.slt, h1, h2, decide_eq_true_eq] at hc <;> simp only [h1, h2] <;> omega
  show (((IntOp.minsi (BitVec.ofNat 32 (q + 1)) (BitVec.ofNat 32 n)).toInt : ℝ) : EReal) = _
  rw [h3, cnt]
  norm_cast

section Means

variable (i : grid0.Coords) (V : Vec Idealize.ShloMosaic.Ideal S272x256 .f32) (f : ℕ → ℕ → EReal)
  (hV : ∀ (e : Fin 272) (c : Fin 256), V (ix2 e c) = f e.val c.val) (r c : Fin 256)
include hV

/-- Group 0's mean: one doubling of the rows above makes a window of 2. -/
theorem mean0 : k0_pay9 (F := Idealize.ShloMosaic.Ideal) i V (ix2 r c)
    = Ideal.div (∑ k ∈ Finset.range 2, f (16 + r.val - k) c.val) (cnt 2 (256 * (31 - (i 0).val) + r.val)) := by
  have hr := r.isLt
  pointwise [k0_pay9, k0_pay8]
  rw [← count_word i r 2 (by norm_num)]
  simp (disch := omega) only [hV, rot_up, Finset.sum_range_succ, Finset.sum_range_zero, zero_add, Nat.sub_zero]

/-- Group 1's mean: two doublings make a window of 4. -/
theorem mean1 : k0_pay10 (F := Idealize.ShloMosaic.Ideal) (k0_pay8 i) V (ix2 r c)
    = Ideal.div (∑ k ∈ Finset.range 4, f (16 + r.val - k) c.val) (cnt 4 (256 * (31 - (i 0).val) + r.val)) := by
  have hr := r.isLt
  pointwise [k0_pay10, k0_pay8]
  rw [← count_word i r 4 (by norm_num)]
  simp (disch := omega) only [hV, rot_up, Finset.sum_range_succ, Finset.sum_range_zero, zero_add, Nat.sub_zero]
  simp only [Nat.sub_sub, Nat.reduceAdd, add_assoc]

/-- Group 2's mean: three doublings make a window of 8. -/
theorem mean2 : k0_pay11 (F := Idealize.ShloMosaic.Ideal) (k0_pay8 i) V (ix2 r c)
    = Ideal.div (∑ k ∈ Finset.range 8, f (16 + r.val - k) c.val) (cnt 8 (256 * (31 - (i 0).val) + r.val)) := by
  have hr := r.isLt
  pointwise [k0_pay11, k0_pay8]
  rw [← count_word i r 8 (by norm_num)]
  simp (disch := omega) only [hV, rot_up, Finset.sum_range_succ, Finset.sum_range_zero, zero_add, Nat.sub_zero]
  simp only [Nat.sub_sub, Nat.reduceAdd, add_assoc]

omit r in
/-- Three doublings: from row 7 on, the sum of the 8 rows that end there. -/
theorem eight (e : Fin 272) (he : 7 ≤ e.val) : k0_pay12 (F := Idealize.ShloMosaic.Ideal) V (ix2 e c)
    = ∑ k ∈ Finset.range 8, f (e.val - k) c.val := by
  have hr := e.isLt
  pointwise [k0_pay12]
  simp (disch := omega) only [hV, rot_up, Finset.sum_range_succ, Finset.sum_range_zero, zero_add, Nat.sub_zero]
  simp only [Nat.sub_sub, Nat.reduceAdd, add_assoc]

/-- Group 3's mean: four doublings make a window of 16. -/
theorem mean3 : k0_pay14 (F := Idealize.ShloMosaic.Ideal) (k0_pay8 i) (k0_pay12 V) (k0_pay13 V) (ix2 r c)
    = Ideal.div (∑ k ∈ Finset.range 16, f (16 + r.val - k) c.val) (cnt 16 (256 * (31 - (i 0).val) + r.val)) := by
  have hr := r.isLt
  have h12 := eight V f hV c
  unfold k0_pay13
  generalize k0_pay12 (F := Idealize.ShloMosaic.Ideal) V = W at h12 ⊢
  pointwise [k0_pay14, k0_pay8]
  rw [← count_word i r 16 (by norm_num)]
  simp (disch := omega) only [rot_up]
  rw [h12 _ (by simp; omega), h12 _ (by simp; omega)]
  simp only [Finset.sum_range_succ, Finset.sum_range_zero, zero_add, Nat.sub_zero, Nat.sub_sub, Nat.reduceAdd, add_assoc]

end Means

section Backward

variable (D : Vec Idealize.ShloMosaic.Ideal S256x256 .f32) (V : Vec Idealize.ShloMosaic.Ideal S272x256 .f32) (f : ℕ → ℕ → EReal)
  (hV : ∀ (e : Fin 272) (c : Fin 256), V (ix2 e c) = f e.val c.val) (r c : Fin 256)
include hV

/-- Group 0's input gradient: the window of 2 rows from this one on, less the direct part. -/
theorem back0 : k0_pay41 (F := Idealize.ShloMosaic.Ideal) D V (ix2 r c) = (∑ k ∈ Finset.range 2, f (r.val + k) c.val) - D (ix2 r c) := by
  have hr := r.isLt
  pointwise [k0_pay41]
  simp (disch := omega) only [hV, rot_down, Nat.reduceSub, Finset.sum_range_succ, Finset.sum_range_zero, zero_add, add_zero]

/-- Group 1's input gradient: the window of 4 rows from this one on, less the direct part. -/
theorem back1 : k0_pay42 (F := Idealize.ShloMosaic.Ideal) D V (ix2 r c) = (∑ k ∈ Finset.range 4, f (r.val + k) c.val) - D (ix2 r c) := by
  have hr := r.isLt
  pointwise [k0_pay42]
  simp (disch := omega) only [hV, rot_down, Nat.reduceSub, Finset.sum_range_succ, Finset.sum_range_zero, zero_add, add_zero]
  simp only [add_assoc, Nat.reduceAdd]

/-- Group 2's input gradient: the window of 8 rows from this one on, less the direct part. -/
theorem back2 : k0_pay43 (F := Idealize.ShloMosaic.Ideal) D V (ix2 r c) = (∑ k ∈ Finset.range 8, f (r.val + k) c.val) - D (ix2 r c) := by
  have hr := r.isLt
  pointwise [k0_pay43]
  simp (disch := omega) only [hV, rot_down, Nat.reduceSub, Finset.sum_range_succ, Finset.sum_range_zero, zero_add, add_zero]
  simp only [add_assoc, Nat.reduceAdd]

/-- Group 3's input gradient: the window of 16 rows from this one on, less the direct part. -/
theorem back3 : k0_pay44 (F := Idealize.ShloMosaic.Ideal) D V (ix2 r c) = (∑ k ∈ Finset.range 16, f (r.val + k) c.val) - D (ix2 r c) := by
  have hr := r.isLt
  pointwise [k0_pay44]
  simp (disch := omega) only [hV, rot_down, Nat.reduceSub, Finset.sum_range_succ, Finset.sum_range_zero, zero_add, add_zero]
  simp only [add_assoc, Nat.reduceAdd]

end Backward

section Products

variable (m u dy : Vec Idealize.ShloMosaic.Ideal S256x256 .f32) (s a : Vec Idealize.ShloMosaic.Ideal S1x256 .f32)
  (w : Vec Idealize.ShloMosaic.Ideal S1x256x256 .bf16) (z : Vec Idealize.ShloMosaic.Ideal S1x256x256 .f32)

/-- The scale's gradient of one group: what was there plus the block's rows of cotangent times mixed row. -/
theorem scale_apply (c : Fin 256) : k0_pay16 (F := Idealize.ShloMosaic.Ideal) m u w dy a (ix2 0 c)
    = a (ix2 0 c) + ∑ r : Fin 256, dy (ix2 r c) * ∑ k : Fin 256, (m (ix2 r k) - u (ix2 r k)) * w (ix3 0 k c) := by
  pointwise [k0_pay16, k0_pay15]

/-- The cotangent of a block's differences: the scaled cotangent times the transposed weights. -/
theorem ddif_apply (r c : Fin 256) : k0_pay18 (F := Idealize.ShloMosaic.Ideal) dy s w (ix2 r c)
    = ∑ d : Fin 256, dy (ix2 r d) * s (ix2 0 d) * w (ix3 0 c d) := by
  pointwise [k0_pay18, k0_pay17]

/-- The weights' gradient of one group: what was there plus the block's rows of difference times scaled cotangent. -/
theorem weight_apply (p q : Fin 256) : k0_pay20 (F := Idealize.ShloMosaic.Ideal) (k0_pay19 m u dy s z) (ix3 0 p q)
    = z (ix3 0 p q) + ∑ r : Fin 256, (m (ix2 r p) - u (ix2 r p)) * (dy (ix2 r q) * s (ix2 0 q)) := by
  pointwise [k0_pay20, k0_pay19, k0_pay15, k0_pay17]

/-- The shares a block stores: the cotangent of the differences over the window's row count. -/
theorem share0 (i : grid0.Coords) (r c : Fin 256) : k0_pay21 (F := Idealize.ShloMosaic.Ideal) (k0_pay7 i) m (ix2 r c)
    = Ideal.div (m (ix2 r c)) (cnt 2 (256 * (31 - (i 0).val) + r.val)) := by
  rw [← count_word i r 2 (by norm_num)]
  pointwise [k0_pay21, k0_pay7]

/-- The same for the window of 4. -/
theorem share1 (i : grid0.Coords) (r c : Fin 256) : k0_pay27 (F := Idealize.ShloMosaic.Ideal) (k0_pay7 i) m (ix2 r c)
    = Ideal.div (m (ix2 r c)) (cnt 4 (256 * (31 - (i 0).val) + r.val)) := by
  rw [← count_word i r 4 (by norm_num)]
  pointwise [k0_pay27, k0_pay7]

/-- The same for the window of 8. -/
theorem share2 (i : grid0.Coords) (r c : Fin 256) :
    k0_pay34 (F := Idealize.ShloMosaic.Ideal) (k0_pay7 i) (k0_pay30 dy s) w (ix2 r c)
    = Ideal.div (k0_pay18 (F := Idealize.ShloMosaic.Ideal) dy s w (ix2 r c)) (cnt 8 (256 * (31 - (i 0).val) + r.val)) := by
  rw [← count_word i r 8 (by norm_num)]
  pointwise [k0_pay34, k0_pay32, k0_pay31, k0_pay30, k0_pay18, k0_pay17, k0_pay7]

/-- The same for the window of 16. -/
theorem share3 (i : grid0.Coords) (r c : Fin 256) : k0_pay40 (F := Idealize.ShloMosaic.Ideal) (k0_pay7 i) dy s w (ix2 r c)
    = Ideal.div (k0_pay18 (F := Idealize.ShloMosaic.Ideal) dy s w (ix2 r c)) (cnt 16 (256 * (31 - (i 0).val) + r.val)) := by
  rw [← count_word i r 16 (by norm_num)]
  pointwise [k0_pay40, k0_pay38, k0_pay37, k0_pay18, k0_pay17, k0_pay7]

/-- The four groups' scale gradients are the same arithmetic. -/
theorem scale_same : k0_pay23 m u w dy a = k0_pay16 m u w dy a ∧ k0_pay29 m u w dy a = k0_pay16 m u w dy a
    ∧ k0_pay36 m u w dy a = k0_pay16 m u w dy a := ⟨rfl, rfl, rfl⟩

/-- The four groups' difference cotangents are the same arithmetic. -/
theorem ddif_same : k0_pay25 dy s w = k0_pay18 dy s w ∧ k0_pay32 (k0_pay30 dy s) w = k0_pay18 dy s w
    ∧ k0_pay38 dy s w = k0_pay18 dy s w := ⟨rfl, rfl, rfl⟩

/-- The four groups' weight gradients are the same arithmetic. -/
theorem weight_same : k0_pay26 (k0_pay22 m u) (k0_pay24 dy s) z = k0_pay20 (k0_pay19 m u dy s z)
    ∧ k0_pay33 (k0_pay28 m u) (k0_pay30 dy s) z = k0_pay20 (k0_pay19 m u dy s z)
    ∧ k0_pay39 (k0_pay35 m u) dy s z = k0_pay20 (k0_pay19 m u dy s z) := ⟨rfl, rfl, rfl⟩

end Products

end Cert.KernelIdeal.Pool
-- ==== Proof.Pool.Strips.lean ====
/- Buffers filled strip by strip: four column strips of 256 columns, or four slabs of a rank-3 buffer, each written with one
   payload, read back at an index. -/
module

public import Idealize.ShloMosaic.Lib.Pointwise
public import Idealize.ShloMosaic.Lib.WritesUnit
public import Idealize.ShloMosaic.Lib.Pipeline.Value

@[expose] public section

namespace Cert.Strips

open Idealize.ShloMosaic Idealize.SL.Sem

/-- The index a unit-stride box of a rank-2 buffer gives to its entry `(r, c)`. -/
theorem idx_box {R C n k o p : ℕ} (inb : ∀ a : Fin 2, (![o, p] : Fin 2 → ℕ) a + (![n, k] : Fin 2 → ℕ) a ≤ (![R, C] : Fin 2 → ℕ) a)
    (r : Fin n) (c : Fin k) (hr : o + r.val < R) (hc : p + c.val < C) :
    (Rect.unit (s := ⟨2, ![R, C]⟩) ![o, p] ![n, k] inb).toLoadRect.idx (ix2 r c) = ix2 ⟨o + r.val, hr⟩ ⟨p + c.val, hc⟩ := by
  funext a; apply Fin.ext
  show (![o, p] : Fin 2 → ℕ) a + 1 * _ = _
  fin_cases a <;> simp

/-- Every index of a rank-2 array is one of its rows and columns. -/
theorem idx2 {R C : ℕ} (y : (⟨2, ![R, C]⟩ : Shape).Idx) : ∃ (r : Fin R) (c : Fin C), y = ix2 r c :=
  ⟨y 0, y 1, funext fun a => by fin_cases a <;> rfl⟩

/-- Every index of a rank-3 array is one of its slabs, rows and columns. -/
theorem idx3 {A R C : ℕ} (y : (⟨3, ![A, R, C]⟩ : Shape).Idx) : ∃ (a : Fin A) (r : Fin R) (c : Fin C), y = ix3 a r c :=
  ⟨y 0, y 1, y 2, funext fun a => by fin_cases a <;> rfl⟩

variable {Val : EltTy → Type} {e : EltTy}

/-- A load of a whole matrix reads the matrix. -/
theorem ld_whole {R C : ℕ} (inb : ∀ a : Fin 2, (![0, 0] : Fin 2 → ℕ) a + (![R, C] : Fin 2 → ℕ) a ≤ (![R, C] : Fin 2 → ℕ) a)
    (x : (⟨2, ![R, C]⟩ : Shape).Idx → Val e) : View.ld x (Rect.unit (s := ⟨2, ![R, C]⟩) ![0, 0] ![R, C] inb) = x :=
  View.ld_unit_zero (by funext a; fin_cases a <;> rfl) inb x

section One

variable [∀ e, Nonempty (Val e)] {S : Shape} {off size : Fin S.rank → ℕ} (inb : ∀ a, off a + size a ≤ S.size a)
  (w : (Rect.unit off size inb).shape.Idx → Val e) (L : List (View.Piece Val S e)) (y : S.Idx)

/-- An index inside the newest piece reads its payload. -/
theorem canon_hit (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]
  exact View.canon_cons_emb _ w L x

/-- An index outside the newest piece on some axis reads the earlier pieces. -/
theorem canon_miss (a : Fin S.rank) (ha : (y a).val < off a ∨ off a + size a ≤ (y a).val) :
    View.canon ((⟨Rect.unit off size inb, w⟩ : View.Piece Val S e) :: L) y = View.canon L y := by
  refine View.canon_cons_of_not_mem _ L ?_
  rw [Rect.mem_set_unit]
  intro hall
  have := hall a
  omega

end One

section Four

variable {R n : ℕ} (hn : n ≤ R) (G : ℕ → ℕ → Val e)
  (i0 : ∀ a : Fin 2, (![0, 0] : Fin 2 → ℕ) a + (![n, 256] : Fin 2 → ℕ) a ≤ (![R, 1024] : Fin 2 → ℕ) a)
  (i1 : ∀ a : Fin 2, (![0, 256] : Fin 2 → ℕ) a + (![n, 256] : Fin 2 → ℕ) a ≤ (![R, 1024] : Fin 2 → ℕ) a)
  (i2 : ∀ a : Fin 2, (![0, 512] : Fin 2 → ℕ) a + (![n, 256] : Fin 2 → ℕ) a ≤ (![R, 1024] : Fin 2 → ℕ) a)
  (i3 : ∀ a : Fin 2, (![0, 768] : Fin 2 → ℕ) a + (![n, 256] : Fin 2 → ℕ) a ≤ (![R, 1024] : Fin 2 → ℕ) a)
  (p0 p1 p2 p3 : (⟨2, ![n, 256]⟩ : Shape).Idx → Val e)
  (h0 : ∀ (r : Fin n) (c : Fin 256), p0 (ix2 r c) = G r.val c.val)
  (h1 : ∀ (r : Fin n) (c : Fin 256), p1 (ix2 r c) = G r.val (256 + c.val))
  (h2 : ∀ (r : Fin n) (c : Fin 256), p2 (ix2 r c) = G r.val (512 + c.val))
  (h3 : ∀ (r : Fin n) (c : Fin 256), p3 (ix2 r c) = G r.val (768 + c.val))
  (L : List (View.Piece Val (⟨2, ![R, 1024]⟩ : Shape) e)) (r : Fin R) (j : Fin 1024)

include h0 h1 h2 h3 in
/-- Four column strips of `n` rows, written over earlier pieces: in the first `n` rows the strips' function, below them what was
    there before. -/
theorem canon_four [∀ e, Nonempty (Val e)] :
    View.canon ((⟨Rect.unit (s := ⟨2, ![R, 1024]⟩) ![0, 768] ![n, 256] i3, p3⟩ : View.Piece Val (⟨2, ![R, 1024]⟩ : Shape) e)
      :: ⟨Rect.unit (s := ⟨2, ![R, 1024]⟩) ![0, 512] ![n, 256] i2, p2⟩ :: ⟨Rect.unit (s := ⟨2, ![R, 1024]⟩) ![0, 256] ![n, 256] i1, p1⟩
      :: ⟨Rect.unit (s := ⟨2, ![R, 1024]⟩) ![0, 0] ![n, 256] i0, p0⟩ :: L) (ix2 r j)
    = if r.val < n then G r.val j.val else View.canon L (ix2 r j) := by
  have hj := j.isLt
  by_cases hr : r.val < n
  · rw [if_pos hr]
    by_cases c3 : 768 ≤ j.val
    · refine Eq.trans (canon_hit _ _ _ _ (ix2 ⟨r.val, hr⟩ ⟨j.val - 768, by omega⟩) (by
        intro a; fin_cases a <;> simp; omega)) ?_
      exact (h3 ⟨r.val, hr⟩ ⟨j.val - 768, by omega⟩).trans (congrArg (G r.val) (by simp; omega))
    refine Eq.trans (canon_miss _ _ _ _ (1 : Fin 2) (by left; simpa using c3)) ?_
    by_cases c2 : 512 ≤ j.val
    · refine Eq.trans (canon_hit _ _ _ _ (ix2 ⟨r.val, hr⟩ ⟨j.val - 512, by omega⟩) (by
        intro a; fin_cases a <;> simp; omega)) ?_
      exact (h2 ⟨r.val, hr⟩ ⟨j.val - 512, by omega⟩).trans (congrArg (G r.val) (by simp; omega))
    refine Eq.trans (canon_miss _ _ _ _ (1 : Fin 2) (by left; simpa using c2)) ?_
    by_cases c1 : 256 ≤ j.val
    · refine Eq.trans (canon_hit _ _ _ _ (ix2 ⟨r.val, hr⟩ ⟨j.val - 256, by omega⟩) (by
        intro a; fin_cases a <;> simp; omega)) ?_
      exact (h1 ⟨r.val, hr⟩ ⟨j.val - 256, by omega⟩).trans (congrArg (G r.val) (by simp; omega))
    refine Eq.trans (canon_miss _ _ _ _ (1 : Fin 2) (by left; simpa using c1)) ?_
    refine Eq.trans (canon_hit _ _ _ _ (ix2 ⟨r.val, hr⟩ ⟨j.val, by omega⟩) (by
        intro a; fin_cases a <;> simp)) ?_
    exact h0 ⟨r.val, hr⟩ ⟨j.val, by omega⟩
  · rw [if_neg hr]
    have hm : (0 : ℕ) + n ≤ r.val := by omega
    refine Eq.trans (canon_miss _ _ _ _ (0 : Fin 2) (by right; simpa using hm)) ?_
    refine Eq.trans (canon_miss _ _ _ _ (0 : Fin 2) (by right; simpa using hm)) ?_
    refine Eq.trans (canon_miss _ _ _ _ (0 : Fin 2) (by right; simpa using hm)) ?_
    refine Eq.trans (canon_miss _ _ _ _ (0 : Fin 2) (by right; simpa using hm)) ?_
    rfl

include h0 h1 h2 h3 in
/-- The same for a buffer read after the four strips were written over contents `f`. -/
theorem read_four {sig : RefSig} {κ : Kind} {sp : Space} (v : View sig κ sp (⟨2, ![R, 1024]⟩ : Shape) e) (f : v.ty.Contents Val) :
    v.read Val (v.writes Val f ((⟨Rect.unit (s := ⟨2, ![R, 1024]⟩) ![0, 768] ![n, 256] i3, p3⟩ : View.Piece Val (⟨2, ![R, 1024]⟩ : Shape) e)
      :: ⟨Rect.unit (s := ⟨2, ![R, 1024]⟩) ![0, 512] ![n, 256] i2, p2⟩ :: ⟨Rect.unit (s := ⟨2, ![R, 1024]⟩) ![0, 256] ![n, 256] i1, p1⟩
      :: ⟨Rect.unit (s := ⟨2, ![R, 1024]⟩) ![0, 0] ![n, 256] i0, p0⟩ :: L)) (ix2 r j)
    = if r.val < n then G r.val j.val else v.read Val (v.writes Val f L) (ix2 r j) := by
  have hj := j.isLt
  by_cases hr : r.val < n
  · rw [if_pos hr]
    by_cases c3 : 768 ≤ j.val
    · refine Eq.trans (View.read_writes_cons_unit_of_mem v f _ _ _ _ (ix2 ⟨r.val, hr⟩ ⟨j.val - 768, by omega⟩) rfl (by
        intro a; fin_cases a <;> simp; omega)) ?_
      exact (h3 ⟨r.val, hr⟩ ⟨j.val - 768, by omega⟩).trans (congrArg (G r.val) (by simp; omega))
    refine Eq.trans (View.read_writes_cons_unit_of_not_mem v f _ _ _ _ rfl (1 : Fin 2) (by left; simpa using c3)) ?_
    by_cases c2 : 512 ≤ j.val
    · refine Eq.trans (View.read_writes_cons_unit_of_mem v f _ _ _ _ (ix2 ⟨r.val, hr⟩ ⟨j.val - 512, by omega⟩) rfl (by
        intro a; fin_cases a <;> simp; omega)) ?_
      exact (h2 ⟨r.val, hr⟩ ⟨j.val - 512, by omega⟩).trans (congrArg (G r.val) (by simp; omega))
    refine Eq.trans (View.read_writes_cons_unit_of_not_mem v f _ _ _ _ rfl (1 : Fin 2) (by left; simpa using c2)) ?_
    by_cases c1 : 256 ≤ j.val
    · refine Eq.trans (View.read_writes_cons_unit_of_mem v f _ _ _ _ (ix2 ⟨r.val, hr⟩ ⟨j.val - 256, by omega⟩) rfl (by
        intro a; fin_cases a <;> simp; omega)) ?_
      exact (h1 ⟨r.val, hr⟩ ⟨j.val - 256, by omega⟩).trans (congrArg (G r.val) (by simp; omega))
    refine Eq.trans (View.read_writes_cons_unit_of_not_mem v f _ _ _ _ rfl (1 : Fin 2) (by left; simpa using c1)) ?_
    refine Eq.trans (View.read_writes_cons_unit_of_mem v f _ _ _ _ (ix2 ⟨r.val, hr⟩ ⟨j.val, by omega⟩) rfl (by
        intro a; fin_cases a <;> simp)) ?_
    exact h0 ⟨r.val, hr⟩ ⟨j.val, by omega⟩
  · rw [if_neg hr]
    have hm : (0 : ℕ) + n ≤ r.val := by omega
    refine Eq.trans (View.read_writes_cons_unit_of_not_mem v f _ _ _ _ rfl (0 : Fin 2) (by right; simpa using hm)) ?_
    refine Eq.trans (View.read_writes_cons_unit_of_not_mem v f _ _ _ _ rfl (0 : Fin 2) (by right; simpa using hm)) ?_
    refine Eq.trans (View.read_writes_cons_unit_of_not_mem v f _ _ _ _ rfl (0 : Fin 2) (by right; simpa using hm)) ?_
    refine Eq.trans (View.read_writes_cons_unit_of_not_mem v f _ _ _ _ rfl (0 : Fin 2) (by right; simpa using hm)) ?_
    rfl

end Four

section Slabs

variable (G : ℕ → ℕ → ℕ → Val e)
  (i0 : ∀ a : Fin 3, (![0, 0, 0] : Fin 3 → ℕ) a + (![1, 256, 256] : Fin 3 → ℕ) a ≤ (![4, 256, 256] : Fin 3 → ℕ) a)
  (i1 : ∀ a : Fin 3, (![1, 0, 0] : Fin 3 → ℕ) a + (![1, 256, 256] : Fin 3 → ℕ) a ≤ (![4, 256, 256] : Fin 3 → ℕ) a)
  (i2 : ∀ a : Fin 3, (![2, 0, 0] : Fin 3 → ℕ) a + (![1, 256, 256] : Fin 3 → ℕ) a ≤ (![4, 256, 256] : Fin 3 → ℕ) a)
  (i3 : ∀ a : Fin 3, (![3, 0, 0] : Fin 3 → ℕ) a + (![1, 256, 256] : Fin 3 → ℕ) a ≤ (![4, 256, 256] : Fin 3 → ℕ) a)
  (p0 p1 p2 p3 : (⟨3, ![1, 256, 256]⟩ : Shape).Idx → Val e)
  (h0 : ∀ p q : Fin 256, p0 (ix3 0 p q) = G 0 p.val q.val) (h1 : ∀ p q : Fin 256, p1 (ix3 0 p q) = G 1 p.val q.val)
  (h2 : ∀ p q : Fin 256, p2 (ix3 0 p q) = G 2 p.val q.val) (h3 : ∀ p q : Fin 256, p3 (ix3 0 p q) = G 3 p.val q.val)
  (L : List (View.Piece Val (⟨3, ![4, 256, 256]⟩ : Shape) e)) (g : Fin 4) (p q : Fin 256)

include h0 h1 h2 h3 in
/-- Four slabs fill a rank-3 buffer. -/
theorem canon_slabs [∀ e, Nonempty (Val e)] :
    View.canon ((⟨Rect.unit (s := ⟨3, ![4, 256, 256]⟩) ![3, 0, 0] ![1, 256, 256] i3, p3⟩ : View.Piece Val (⟨3, ![4, 256, 256]⟩ : Shape) e)
      :: ⟨Rect.unit (s := ⟨3, ![4, 256, 256]⟩) ![2, 0, 0] ![1, 256, 256] i2, p2⟩
      :: ⟨Rect.unit (s := ⟨3, ![4, 256, 256]⟩) ![1, 0, 0] ![1, 256, 256] i1, p1⟩
      :: ⟨Rect.unit (s := ⟨3, ![4, 256, 256]⟩) ![0, 0, 0] ![1, 256, 256] i0, p0⟩ :: L) (ix3 g p q) = G g.val p.val q.val := by
  fin_cases g
  · refine Eq.trans (canon_miss _ _ _ _ (0 : Fin 3) (by left; simp)) ?_
    refine Eq.trans (canon_miss _ _ _ _ (0 : Fin 3) (by left; simp)) ?_
    refine Eq.trans (canon_miss _ _ _ _ (0 : Fin 3) (by left; simp)) ?_
    refine Eq.trans (canon_hit _ _ _ _ (ix3 0 p q) (by intro a; fin_cases a <;> simp)) ?_
    exact h0 p q
  · refine Eq.trans (canon_miss _ _ _ _ (0 : Fin 3) (by left; simp)) ?_
    refine Eq.trans (canon_miss _ _ _ _ (0 : Fin 3) (by left; simp)) ?_
    refine Eq.trans (canon_hit _ _ _ _ (ix3 0 p q) (by intro a; fin_cases a <;> simp)) ?_
    exact h1 p q
  · refine Eq.trans (canon_miss _ _ _ _ (0 : Fin 3) (by left; simp)) ?_
    refine Eq.trans (canon_hit _ _ _ _ (ix3 0 p q) (by intro a; fin_cases a <;> simp)) ?_
    exact h2 p q
  · refine Eq.trans (canon_hit _ _ _ _ (ix3 0 p q) (by intro a; fin_cases a <;> simp)) ?_
    exact h3 p q

end Slabs

end Cert.Strips
-- ==== Proof.Pool.Block.lean ====
/- One block of 256 rows: what its loads read and what each group of 256 columns computes, in terms of the gradient's formulas. -/
module

public import proofs.«01_k».proof.Proof.Pool.Payload
public import proofs.«01_k».proof.Proof.Pool.Strips
public import Idealize.ShloMosaic.Lib.Pipeline.ReadBack

@[expose] public section

noncomputable section

namespace Cert.KernelIdeal.Pool

open Cert.KernelIdeal Cert.KernelIdeal.Gen Idealize.ShloMosaic Idealize.SL.Sem Cert.Pool Cert.Pool.Ins Cert.Strips

/-- The blocks the body is given at grid coordinate `i` are those of rows `256 b … 256 b + 255` of the arrays in `I`, with the
    16 rows before them (of no matter in the first block). -/
structure BlockOf (I : Ins) (b : ℕ) (i : grid0.Coords) (x0 x1 : Vec Idealize.ShloMosaic.Ideal S256x1024 .f32)
    (x2 : Vec Idealize.ShloMosaic.Ideal S16x1024 .f32) (x3 : Vec Idealize.ShloMosaic.Ideal S4x256x256 .bf16)
    (x4 : Vec Idealize.ShloMosaic.Ideal S1x1024 .f32) : Prop where
  lt : b < 32
  coord : (i 0).val = 31 - b
  dy : ∀ (r : Fin 256) (j : Fin 1024), x0 (ix2 r j) = I.dy (256 * b + r.val) j.val
  u : ∀ (r : Fin 256) (j : Fin 1024), x1 (ix2 r j) = I.u (256 * b + r.val) j.val
  halo : b ≠ 0 → ∀ (r : Fin 16) (j : Fin 1024), x2 (ix2 r j) = I.u (256 * b + r.val - 16) j.val
  w : ∀ (g : Fin 4) (p q : Fin 256), x3 (ix3 g p q) = I.w g.val p.val q.val
  s : ∀ j : Fin 1024, x4 (ix2 0 j) = I.s j.val

section

variable {I : Ins} {b : ℕ} {i : grid0.Coords} {x0 x1 : Vec Idealize.ShloMosaic.Ideal S256x1024 .f32} {x2 : Vec Idealize.ShloMosaic.Ideal S16x1024 .f32}
  {x3 : Vec Idealize.ShloMosaic.Ideal S4x256x256 .bf16} {x4 : Vec Idealize.ShloMosaic.Ideal S1x1024 .f32}

/-- Row `e` of the rows laid out for block `b`: the 16 rows before the block, then the block; zero before the array's first row. -/
def rowsOf (I : Ins) (b e j : ℕ) : EReal := if 256 * b + e < 16 then 0 else I.u (256 * b + e - 16) j

/-- The window's sum over the laid-out rows is the window's sum over the array's rows. -/
theorem sum_rowsOf (I : Ins) (b n r j : ℕ) (hn : n ≤ 16) :
    ∑ k ∈ Finset.range n, rowsOf I b (16 + r - k) j = I.wsum n (256 * b + r) j := by
  refine Finset.sum_congr rfl fun k hk => ?_
  have hk' := Finset.mem_range.mp hk
  unfold rowsOf
  by_cases h : k ≤ 256 * b + r
  · rw [if_pos h, if_neg (by omega)]; congr 1; omega
  · rw [if_neg h, if_pos (by omega)]

variable (H : BlockOf I b i x0 x1 x2 x3 x4)
include H

/-- The laid-out rows as the body writes them, read back through a box. -/
theorem rows_apply {sig : RefSig} {κ : Kind} {sp : Space} (v : View sig κ sp S272x1024 .f32) {o p n : ℕ}
    (h6 : ∀ a, (![16, 0] : Fin 2 → ℕ) a + S256x1024.size a ≤ S272x1024.size a)
    (h5 : ∀ a, (![0, 0] : Fin 2 → ℕ) a + S16x1024.size a ≤ S272x1024.size a)
    (g6 : ∀ a, (![0, 0] : Fin 2 → ℕ) a + S256x1024.size a ≤ S256x1024.size a)
    (g5 : ∀ a, (![0, 0] : Fin 2 → ℕ) a + S16x1024.size a ≤ S16x1024.size a)
    (inb : ∀ a : Fin 2, (![o, p] : Fin 2 → ℕ) a + (![n, 256] : Fin 2 → ℕ) a ≤ (![272, 1024] : Fin 2 → ℕ) a)
    (r : Fin n) (c : Fin 256) :
    v.readCov (Val := Elt Idealize.ShloMosaic.Ideal) [⟨Rect.unit ![16, 0] S256x1024.size h6, k0_pay6 (F := Idealize.ShloMosaic.Ideal) (View.ld x1 (Rect.unit ![0, 0] S256x1024.size g6))⟩,
      ⟨Rect.unit ![0, 0] S16x1024.size h5, k0_pay5 (F := Idealize.ShloMosaic.Ideal) i (View.ld x2 (Rect.unit ![0, 0] S16x1024.size g5))⟩]
      (Rect.unit (s := S272x1024) ![o, p] ![n, 256] inb).toLoadRect (ix2 r c) = rowsOf I b (o + r.val) (p + c.val) := by
  have hr : o + r.val < 272 := by have := inb 0; have := r.isLt; simp at *; omega
  have hc : p + c.val < 1024 := by have := inb 1; have := c.isLt; simp at *; omega
  have hb := H.lt
  rw [View.readCov_eq_canon']
  show View.canon _ ((Rect.unit (s := ⟨2, ![272, 1024]⟩) ![o, p] ![n, 256] inb).toLoadRect.idx (ix2 r c)) = _
  rw [idx_box inb r c hr hc]
  unfold rowsOf
  by_cases h16 : 16 ≤ o + r.val
  · refine Eq.trans (canon_hit _ _ _ _ (ix2 ⟨o + r.val - 16, by omega⟩ ⟨p + c.val, hc⟩) (by intro a; fin_cases a <;> simp; omega)) ?_
    rw [if_neg (by omega)]
    pointwise [k0_pay6]
    refine Eq.trans (H.u _ _) ?_
    congr 1 <;> simp <;> omega
  · refine Eq.trans (canon_miss _ _ _ _ (0 : Fin 2) (by left; simp; omega)) ?_
    refine Eq.trans (canon_hit _ _ _ _ (ix2 ⟨o + r.val, by omega⟩ ⟨p + c.val, hc⟩) (by intro a; fin_cases a <;> simp)) ?_
    pointwise [k0_pay5]
    have hw : Scalar.cmpi CmpIPredicate.eq (BitVec.ofNat 32 (i 0).val) 31#32 = if b = 0 then 1#1 else 0#1 := by
      rw [H.coord]
      have : ∀ b : Fin 32, Scalar.cmpi CmpIPredicate.eq (BitVec.ofNat 32 (31 - b.val)) 31#32 = if b.val = 0 then 1#1 else 0#1 := by decide
      exact this ⟨b, hb⟩
    rw [hw]
    by_cases h0 : b = 0
    · rw [if_pos h0, if_pos (by omega)]; rfl
    · rw [if_neg h0, if_neg (by omega)]
      refine Eq.trans (H.halo h0 _ _) ?_
      congr 1 <;> simp <;> omega

end

/-- A group's arithmetic on one block. `M` holds the group's means, `U` its columns of the block, `Y` its cotangent columns,
    `S` its scale columns and `W` its weights. -/
structure GroupOf (I : Ins) (b g : ℕ) (M U Y : Vec Idealize.ShloMosaic.Ideal S256x256 .f32) (S : Vec Idealize.ShloMosaic.Ideal S1x256 .f32)
    (W : Vec Idealize.ShloMosaic.Ideal S1x256x256 .bf16) : Prop where
  m : ∀ r c : Fin 256, M (ix2 r c) = Ideal.div (I.wsum (win g) (256 * b + r.val) (256 * g + c.val)) (cnt (win g) (256 * b + r.val))
  u : ∀ r c : Fin 256, U (ix2 r c) = I.u (256 * b + r.val) (256 * g + c.val)
  y : ∀ r c : Fin 256, Y (ix2 r c) = I.dy (256 * b + r.val) (256 * g + c.val)
  s : ∀ c : Fin 256, S (ix2 0 c) = I.s (256 * g + c.val)
  w : ∀ p q : Fin 256, W (ix3 0 p q) = I.w g p.val q.val

section

variable {I : Ins} {b g : ℕ} {M U Y : Vec Idealize.ShloMosaic.Ideal S256x256 .f32} {S : Vec Idealize.ShloMosaic.Ideal S1x256 .f32}
  {W : Vec Idealize.ShloMosaic.Ideal S1x256x256 .bf16} (H : GroupOf I b g M U Y S W)
include H

/-- The group's scale gradient after the block: the block's rows added. -/
theorem GroupOf.scale (a : Vec Idealize.ShloMosaic.Ideal S1x256 .f32) (c : Fin 256) : k0_pay16 (F := Idealize.ShloMosaic.Ideal) M U W Y a (ix2 0 c)
    = a (ix2 0 c) + ∑ r ∈ Finset.range 256, I.dsAt g c.val (256 * b + r) := by
  rw [scale_apply, Finset.sum_range]
  congr 1
  refine Finset.sum_congr rfl fun r _ => ?_
  unfold Ins.dsAt Ins.mix Ins.dif
  rw [H.y, Finset.sum_range]
  simp only [H.m, H.u, H.w]

/-- The group's weight gradient after the block: the block's rows added. -/
theorem GroupOf.weight (z : Vec Idealize.ShloMosaic.Ideal S1x256x256 .f32) (p q : Fin 256) :
    k0_pay20 (F := Idealize.ShloMosaic.Ideal) (k0_pay19 M U Y S z) (ix3 0 p q)
      = z (ix3 0 p q) + ∑ r ∈ Finset.range 256, I.dwAt g p.val q.val (256 * b + r) := by
  rw [weight_apply, Finset.sum_range]
  simp only [Ins.dwAt, Ins.dif, Ins.dmix, H.m, H.u, H.y, H.s]

/-- The cotangent of the group's differences. -/
theorem GroupOf.back (r c : Fin 256) : k0_pay18 (F := Idealize.ShloMosaic.Ideal) Y S W (ix2 r c) = I.ddif g (256 * b + r.val) c.val := by
  rw [ddif_apply]
  unfold Ins.ddif Ins.dmix
  rw [Finset.sum_range]
  simp only [H.y, H.s, H.w]

end

end Cert.KernelIdeal.Pool
-- ==== Proof.Pool.Body.lean ====
/- What one grid point leaves in its output blocks and in the carried rows, in terms of the gradient's formulas. -/
module

public import proofs.«01_k».proof.Proof.Gen.KernelIdeal.Value
public import proofs.«01_k».proof.Proof.Pool.Block

@[expose] public section

set_option maxRecDepth 16384

noncomputable section

namespace Cert.KernelIdeal.Pool

open Cert.KernelIdeal Cert.KernelIdeal.Gen Idealize.ShloMosaic Idealize.ShloMosaic.TcCoe Idealize.SL.Sem Cert.Pool Cert.Pool.Ins Cert.Strips

variable {I : Ins} {b : ℕ} (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S16x1024 .f32) (harg3 : arg3.IsWhole) (arg4 : Memref sig .tc .vmem S4x256x256 .bf16) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S4x256x256 .f32) (harg7 : arg7.IsWhole) (arg8 : Memref sig .tc .vmem S1x1024 .f32) (harg8 : arg8.IsWhole)
  (arg9 : Memref sig .tc .vmem S272x1024 .f32) (harg9 : arg9.IsWhole) (arg10 : Memref sig .tc .vmem S272x1024 .f32) (harg10 : arg10.IsWhole)
  (x0 x1 : Vec Idealize.ShloMosaic.Ideal S256x1024 .f32) (x2 : Vec Idealize.ShloMosaic.Ideal S16x1024 .f32)
  (x3 : Vec Idealize.ShloMosaic.Ideal S4x256x256 .bf16) (x4 : Vec Idealize.ShloMosaic.Ideal S1x1024 .f32)
  (xo6 : Vec Idealize.ShloMosaic.Ideal S4x256x256 .f32) (xo7 : Vec Idealize.ShloMosaic.Ideal S1x1024 .f32)
  (xs1 : Vec Idealize.ShloMosaic.Ideal S272x1024 .f32)
  (H : BlockOf I b i x0 x1 x2 x3 x4)

section Groups

variable {i x0 x1 x2 x3 x4}

/-- A box of the laid-out rows as the body reads it back. -/
abbrev rowsBox (v : View sig .tc .vmem S272x1024 .f32) (i : grid0.Coords) (x1 : Vec Idealize.ShloMosaic.Ideal S256x1024 .f32)
    (x2 : Vec Idealize.ShloMosaic.Ideal S16x1024 .f32) (o p n : ℕ)
    (inb : ∀ a : Fin 2, (![o, p] : Fin 2 → ℕ) a + (![n, 256] : Fin 2 → ℕ) a ≤ (![272, 1024] : Fin 2 → ℕ) a) :
    (⟨2, ![n, 256]⟩ : Shape).Idx → EReal :=
  v.readCov (Val := Elt Idealize.ShloMosaic.Ideal)
    [⟨Rect.unit ![16, 0] ![256, 1024] inb_S272x1024_S256x1024_16_0,
      k0_pay6 (F := Idealize.ShloMosaic.Ideal) (View.ld x1 (Rect.unit ![0, 0] ![256, 1024] inb_S256x1024_S256x1024_0_0))⟩,
    ⟨Rect.unit ![0, 0] ![16, 1024] inb_S272x1024_S16x1024_0_0,
      k0_pay5 (F := Idealize.ShloMosaic.Ideal) i (View.ld x2 (Rect.unit ![0, 0] ![16, 1024] inb_S16x1024_S16x1024_0_0))⟩]
    (Rect.unit (s := S272x1024) ![o, p] ![n, 256] inb).toLoadRect

include H

/-- The means over the laid-out rows are the window means. -/
theorem mean_of (g : ℕ) (hg : win g ≤ 16) (r c : Fin 256) :
    Ideal.div (∑ k ∈ Finset.range (win g), rowsOf I b (16 + r.val - k) (256 * g + c.val)) (cnt (win g) (256 * (31 - (i 0).val) + r.val))
      = Ideal.div (I.wsum (win g) (256 * b + r.val) (256 * g + c.val)) (cnt (win g) (256 * b + r.val)) := by
  have := H.lt
  rw [sum_rowsOf I b (win g) r.val _ hg, H.coord, show 31 - (31 - b) = b by omega]

/-- A row of the block among the laid-out rows. -/
theorem row_of (r : Fin 256) (j : ℕ) : rowsOf I b (16 + r.val) j = I.u (256 * b + r.val) j := by
  unfold rowsOf; rw [if_neg (by omega)]; congr 1; omega

variable (v : View sig .tc .vmem S272x1024 .f32)

/-- Group 0 of a block: columns 0 … 255, windows of 2. -/
theorem group0 : GroupOf I b 0 (k0_pay9 (F := Idealize.ShloMosaic.Ideal) i (rowsBox v i x1 x2 0 0 272 inb_S272x1024_S272x256_0_0))
    (rowsBox v i x1 x2 16 0 256 inb_S272x1024_S256x256_16_0)
    (View.ld x0 (Rect.unit ![0, 0] ![256, 256] inb_S256x1024_S256x256_0_0)) (View.ld x4 (Rect.unit ![0, 0] ![1, 256] inb_S1x1024_S1x256_0_0))
    (View.ld x3 (Rect.unit ![0, 0, 0] ![1, 256, 256] inb_S4x256x256_S1x256x256_0_0_0)) where
  m r c := (mean0 i _ (fun e c => rowsOf I b e (256 * 0 + c)) (fun e c => (rows_apply H v _ _ _ _ _ e c).trans (by simp)) r c).trans
    (mean_of H 0 (by decide) r c)
  u r c := ((rows_apply H v _ _ _ _ _ r c).trans (by simp)).trans (row_of H r (256 * 0 + c.val))
  y r c := by pointwise; rw [H.dy]
  s c := by pointwise; rw [H.s]
  w p q := by pointwise; rw [H.w]; rfl

/-- Group 1 of a block: columns 256 … 511, windows of 4. -/
theorem group1 : GroupOf I b 1 (k0_pay10 (F := Idealize.ShloMosaic.Ideal) (k0_pay8 i) (rowsBox v i x1 x2 0 256 272 inb_S272x1024_S272x256_0_256))
    (rowsBox v i x1 x2 16 256 256 inb_S272x1024_S256x256_16_256)
    (View.ld x0 (Rect.unit ![0, 256] ![256, 256] inb_S256x1024_S256x256_0_256)) (View.ld x4 (Rect.unit ![0, 256] ![1, 256] inb_S1x1024_S1x256_0_256))
    (View.ld x3 (Rect.unit ![1, 0, 0] ![1, 256, 256] inb_S4x256x256_S1x256x256_1_0_0)) where
  m r c := (mean1 i _ (fun e c => rowsOf I b e (256 * 1 + c)) (fun e c => (rows_apply H v _ _ _ _ _ e c).trans (by simp)) r c).trans
    (mean_of H 1 (by decide) r c)
  u r c := ((rows_apply H v _ _ _ _ _ r c).trans (by simp)).trans (row_of H r (256 * 1 + c.val))
  y r c := by pointwise; rw [H.dy]
  s c := by pointwise; rw [H.s]
  w p q := by pointwise; rw [H.w]; rfl

/-- Group 2 of a block: columns 512 … 767, windows of 8. -/
theorem group2 : GroupOf I b 2 (k0_pay11 (F := Idealize.ShloMosaic.Ideal) (k0_pay8 i) (rowsBox v i x1 x2 0 512 272 inb_S272x1024_S272x256_0_512))
    (rowsBox v i x1 x2 16 512 256 inb_S272x1024_S256x256_16_512)
    (View.ld x0 (Rect.unit ![0, 512] ![256, 256] inb_S256x1024_S256x256_0_512)) (View.ld x4 (Rect.unit ![0, 512] ![1, 256] inb_S1x1024_S1x256_0_512))
    (View.ld x3 (Rect.unit ![2, 0, 0] ![1, 256, 256] inb_S4x256x256_S1x256x256_2_0_0)) where
  m r c := (mean2 i _ (fun e c => rowsOf I b e (256 * 2 + c)) (fun e c => (rows_apply H v _ _ _ _ _ e c).trans (by simp)) r c).trans
    (mean_of H 2 (by decide) r c)
  u r c := ((rows_apply H v _ _ _ _ _ r c).trans (by simp)).trans (row_of H r (256 * 2 + c.val))
  y r c := by pointwise; rw [H.dy]
  s c := by pointwise; rw [H.s]
  w p q := by pointwise; rw [H.w]; rfl

/-- Group 3 of a block: columns 768 … 1023, windows of 16. -/
theorem group3 : GroupOf I b 3 (k0_pay14 (F := Idealize.ShloMosaic.Ideal) (k0_pay8 i)
      (k0_pay12 (F := Idealize.ShloMosaic.Ideal) (rowsBox v i x1 x2 0 768 272 inb_S272x1024_S272x256_0_768))
      (k0_pay13 (F := Idealize.ShloMosaic.Ideal) (rowsBox v i x1 x2 0 768 272 inb_S272x1024_S272x256_0_768)))
    (rowsBox v i x1 x2 16 768 256 inb_S272x1024_S256x256_16_768)
    (View.ld x0 (Rect.unit ![0, 768] ![256, 256] inb_S256x1024_S256x256_0_768)) (View.ld x4 (Rect.unit ![0, 768] ![1, 256] inb_S1x1024_S1x256_0_768))
    (View.ld x3 (Rect.unit ![3, 0, 0] ![1, 256, 256] inb_S4x256x256_S1x256x256_3_0_0)) where
  m r c := (mean3 i _ (fun e c => rowsOf I b e (256 * 3 + c)) (fun e c => (rows_apply H v _ _ _ _ _ e c).trans (by simp)) r c).trans
    (mean_of H 3 (by decide) r c)
  u r c := ((rows_apply H v _ _ _ _ _ r c).trans (by simp)).trans (row_of H r (256 * 3 + c.val))
  y r c := by pointwise; rw [H.dy]
  s c := by pointwise; rw [H.s]
  w p q := by pointwise; rw [H.w]; rfl

end Groups

/-- Column `256 g + c` lies in group `g` at its column `c`. -/
theorem col_div (g c : ℕ) (h : c < 256) : (256 * g + c) / 256 = g ∧ (256 * g + c) % 256 = c := by omega

/-- A sum that reads its column by group and place, at column `256 g + c`. -/
theorem col_read {α : Type} (f : ℕ → ℕ → α) (g c j : ℕ) (h : c < 256) (hj : j = 256 * g + c) : f (j / 256) (j % 256) = f g c := by
  subst hj; rw [(col_div g c h).1, (col_div g c h).2]

section Strips

variable {i x0 x1 x2 x3 x4} (v : View sig .tc .vmem S272x1024 .f32)
include H

/-- The four groups' scale gradients side by side: each adds the block's rows to what its columns held. -/
theorem scale_strips (z : ℕ → EReal) (a0 a1 a2 a3 : Vec Idealize.ShloMosaic.Ideal S1x256 .f32)
    (h0 : ∀ c : Fin 256, a0 (ix2 0 c) = z c.val) (h1 : ∀ c : Fin 256, a1 (ix2 0 c) = z (256 + c.val))
    (h2 : ∀ c : Fin 256, a2 (ix2 0 c) = z (512 + c.val)) (h3 : ∀ c : Fin 256, a3 (ix2 0 c) = z (768 + c.val))
    (L : List (View.Piece (Elt Idealize.ShloMosaic.Ideal) S1x1024 .f32)) (j : Fin 1024) :
    View.canon (Val := Elt Idealize.ShloMosaic.Ideal) (e := .f32)
      (⟨Rect.unit ![0, 768] ![1, 256] inb_S1x1024_S1x256_0_768,
          k0_pay36 (F := Idealize.ShloMosaic.Ideal) (k0_pay14 (k0_pay8 i) (k0_pay12 (rowsBox v i x1 x2 0 768 272 inb_S272x1024_S272x256_0_768))
            (k0_pay13 (rowsBox v i x1 x2 0 768 272 inb_S272x1024_S272x256_0_768)))
            (rowsBox v i x1 x2 16 768 256 inb_S272x1024_S256x256_16_768)
            (View.ld x3 (Rect.unit ![3, 0, 0] ![1, 256, 256] inb_S4x256x256_S1x256x256_3_0_0))
            (View.ld x0 (Rect.unit ![0, 768] ![256, 256] inb_S256x1024_S256x256_0_768)) a3⟩ ::
        ⟨Rect.unit ![0, 512] ![1, 256] inb_S1x1024_S1x256_0_512,
          k0_pay29 (F := Idealize.ShloMosaic.Ideal) (k0_pay11 (k0_pay8 i) (rowsBox v i x1 x2 0 512 272 inb_S272x1024_S272x256_0_512))
            (rowsBox v i x1 x2 16 512 256 inb_S272x1024_S256x256_16_512)
            (View.ld x3 (Rect.unit ![2, 0, 0] ![1, 256, 256] inb_S4x256x256_S1x256x256_2_0_0))
            (View.ld x0 (Rect.unit ![0, 512] ![256, 256] inb_S256x1024_S256x256_0_512)) a2⟩ ::
        ⟨Rect.unit ![0, 256] ![1, 256] inb_S1x1024_S1x256_0_256,
          k0_pay23 (F := Idealize.ShloMosaic.Ideal) (k0_pay10 (k0_pay8 i) (rowsBox v i x1 x2 0 256 272 inb_S272x1024_S272x256_0_256))
            (rowsBox v i x1 x2 16 256 256 inb_S272x1024_S256x256_16_256)
            (View.ld x3 (Rect.unit ![1, 0, 0] ![1, 256, 256] inb_S4x256x256_S1x256x256_1_0_0))
            (View.ld x0 (Rect.unit ![0, 256] ![256, 256] inb_S256x1024_S256x256_0_256)) a1⟩ ::
        ⟨Rect.unit ![0, 0] ![1, 256] inb_S1x1024_S1x256_0_0,
          k0_pay16 (F := Idealize.ShloMosaic.Ideal) (k0_pay9 i (rowsBox v i x1 x2 0 0 272 inb_S272x1024_S272x256_0_0))
            (rowsBox v i x1 x2 16 0 256 inb_S272x1024_S256x256_16_0)
            (View.ld x3 (Rect.unit ![0, 0, 0] ![1, 256, 256] inb_S4x256x256_S1x256x256_0_0_0))
            (View.ld x0 (Rect.unit ![0, 0] ![256, 256] inb_S256x1024_S256x256_0_0)) a0⟩ :: L) (ix2 0 j)
      = z j.val + ∑ r ∈ Finset.range 256, I.dsAt (j.val / 256) (j.val % 256) (256 * b + r) := by
  have key : ∀ (g j c : ℕ) (_ : c < 256) (_ : j = 256 * g + c), ∑ r ∈ Finset.range 256, I.dsAt g c (256 * b + r)
      = ∑ r ∈ Finset.range 256, I.dsAt (j / 256) (j % 256) (256 * b + r) := fun g j c hc hj =>
    (col_read (fun g c => ∑ r ∈ Finset.range 256, I.dsAt g c (256 * b + r)) g c j hc hj).symm
  refine Eq.trans (canon_four (n := 1) (fun _ j => z j + ∑ r ∈ Finset.range 256, I.dsAt (j / 256) (j % 256) (256 * b + r))
     _ _ _ _ _ _ _ _ ?_ ?_ ?_ ?_ _ _ _) ?_
  · intro r c
    obtain rfl : r = 0 := Subsingleton.elim _ _
    exact ((group0 H v).scale _ c).trans (congrArg₂ (· + ·) (h0 c) (key 0 c.val c.val c.isLt (by omega)))
  · intro r c
    obtain rfl : r = 0 := Subsingleton.elim _ _
    exact ((group1 H v).scale _ c).trans (congrArg₂ (· + ·) (h1 c) (key 1 (256 + c.val) c.val c.isLt (by omega)))
  · intro r c
    obtain rfl : r = 0 := Subsingleton.elim _ _
    exact ((group2 H v).scale _ c).trans (congrArg₂ (· + ·) (h2 c) (key 2 (512 + c.val) c.val c.isLt (by omega)))
  · intro r c
    obtain rfl : r = 0 := Subsingleton.elim _ _
    exact ((group3 H v).scale _ c).trans (congrArg₂ (· + ·) (h3 c) (key 3 (768 + c.val) c.val c.isLt (by omega)))
  · exact if_pos Nat.one_pos

end Strips

include H in
set_option maxHeartbeats 1000000 in
/-- At a later point the scale's gradient gains the block's rows. -/
theorem scale_B (hc0 : ¬cond0_0 i) (z : ℕ → EReal) (hz : ∀ j : Fin 1024, xo7 (ix2 0 j) = z j.val) (j : Fin 1024) :
    out0_B_7 c i arg1 harg1 arg2 harg2 arg3 harg3 arg4 harg4 arg5 harg5 arg6 harg6 arg7 harg7 arg8 harg8 arg9 harg9 arg10 harg10 hc0 x0 x1 x2 x3 x4 xo6 xo7 xs1
      (ix2 0 j) = z j.val + ∑ r ∈ Finset.range 256, I.dsAt (j.val / 256) (j.val % 256) (256 * b + r) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 xo6 xo7 xs1)]
  unfold kernelRun0_B
  dsimp only
  sl_unfold_words
  simp only [View.readAt_eq_ld, harg1.read_unread, harg2.read_unread, harg3.read_unread, harg4.read_unread, harg5.read_unread, harg8.read_unread]
  refine scale_strips H arg9.view z _ _ _ _ (fun c => ?_) (fun c => ?_) (fun c => ?_) (fun c => ?_) _ j <;> pointwise <;> rw [hz]

include H in
set_option maxHeartbeats 1000000 in
/-- At the first point the scale's gradient is the block's rows. -/
theorem scale_A (hc0 : cond0_0 i) (j : Fin 1024) :
    out0_A_7 c i arg1 harg1 arg2 harg2 arg3 harg3 arg4 harg4 arg5 harg5 arg6 harg6 arg7 harg7 arg8 harg8 arg9 harg9 arg10 harg10 hc0 x0 x1 x2 x3 x4
      (ix2 0 j) = 0 + ∑ r ∈ Finset.range 256, I.dsAt (j.val / 256) (j.val % 256) (256 * b + r) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  refine scale_strips H arg9.view (fun _ => 0) _ _ _ _ (fun c => ?_) (fun c => ?_) (fun c => ?_) (fun c => ?_) _ j
  all_goals
    simp (disch := decide) only [↓ View.readCov_skip, ↓ View.readCov_fill]
    pointwise [k0_pay4]

end Cert.KernelIdeal.Pool
-- ==== Proof.Pool.Shares.lean ====
/- What one grid point carries to the next: the rows' shares. -/
module

public import proofs.«01_k».proof.Proof.Pool.Body

@[expose] public section

set_option maxRecDepth 16384

noncomputable section

namespace Cert.KernelIdeal.Pool

open Cert.KernelIdeal Cert.KernelIdeal.Gen Idealize.ShloMosaic Idealize.ShloMosaic.TcCoe Idealize.SL.Sem Cert.Pool Cert.Pool.Ins Cert.Strips

variable {I : Ins} {b : ℕ} (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S16x1024 .f32) (harg3 : arg3.IsWhole) (arg4 : Memref sig .tc .vmem S4x256x256 .bf16) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S4x256x256 .f32) (harg7 : arg7.IsWhole) (arg8 : Memref sig .tc .vmem S1x1024 .f32) (harg8 : arg8.IsWhole)
  (arg9 : Memref sig .tc .vmem S272x1024 .f32) (harg9 : arg9.IsWhole) (arg10 : Memref sig .tc .vmem S272x1024 .f32) (harg10 : arg10.IsWhole)
  (x0 x1 : Vec Idealize.ShloMosaic.Ideal S256x1024 .f32) (x2 : Vec Idealize.ShloMosaic.Ideal S16x1024 .f32)
  (x3 : Vec Idealize.ShloMosaic.Ideal S4x256x256 .bf16) (x4 : Vec Idealize.ShloMosaic.Ideal S1x1024 .f32)
  (xo6 : Vec Idealize.ShloMosaic.Ideal S4x256x256 .f32) (xo7 : Vec Idealize.ShloMosaic.Ideal S1x1024 .f32)
  (xs1 : Vec Idealize.ShloMosaic.Ideal S272x1024 .f32)
  (H : BlockOf I b i x0 x1 x2 x3 x4)

section Strips

variable {i x0 x1 x2 x3 x4}

/-- The four column strips of shares as the body writes them over earlier pieces. -/
abbrev strips (i : grid0.Coords) (x0 : Vec Idealize.ShloMosaic.Ideal S256x1024 .f32) (x3 : Vec Idealize.ShloMosaic.Ideal S4x256x256 .bf16)
    (x4 : Vec Idealize.ShloMosaic.Ideal S1x1024 .f32) (L : List (View.Piece (Elt Idealize.ShloMosaic.Ideal) S272x1024 .f32)) :
    List (View.Piece (Elt Idealize.ShloMosaic.Ideal) S272x1024 .f32) :=
  ⟨Rect.unit ![0, 768] ![256, 256] inb_S272x1024_S256x256_0_768,
    k0_pay40 (F := Idealize.ShloMosaic.Ideal) (k0_pay7 i) (View.ld x0 (Rect.unit ![0, 768] ![256, 256] inb_S256x1024_S256x256_0_768))
      (View.ld x4 (Rect.unit ![0, 768] ![1, 256] inb_S1x1024_S1x256_0_768))
      (View.ld x3 (Rect.unit ![3, 0, 0] ![1, 256, 256] inb_S4x256x256_S1x256x256_3_0_0))⟩ ::
  ⟨Rect.unit ![0, 512] ![256, 256] inb_S272x1024_S256x256_0_512,
    k0_pay34 (F := Idealize.ShloMosaic.Ideal) (k0_pay7 i) (k0_pay30 (View.ld x0 (Rect.unit ![0, 512] ![256, 256] inb_S256x1024_S256x256_0_512))
      (View.ld x4 (Rect.unit ![0, 512] ![1, 256] inb_S1x1024_S1x256_0_512)))
      (View.ld x3 (Rect.unit ![2, 0, 0] ![1, 256, 256] inb_S4x256x256_S1x256x256_2_0_0))⟩ ::
  ⟨Rect.unit ![0, 256] ![256, 256] inb_S272x1024_S256x256_0_256,
    k0_pay27 (F := Idealize.ShloMosaic.Ideal) (k0_pay7 i) (k0_pay25 (View.ld x0 (Rect.unit ![0, 256] ![256, 256] inb_S256x1024_S256x256_0_256))
      (View.ld x4 (Rect.unit ![0, 256] ![1, 256] inb_S1x1024_S1x256_0_256))
      (View.ld x3 (Rect.unit ![1, 0, 0] ![1, 256, 256] inb_S4x256x256_S1x256x256_1_0_0)))⟩ ::
  ⟨Rect.unit ![0, 0] ![256, 256] inb_S272x1024_S256x256_0_0,
    k0_pay21 (F := Idealize.ShloMosaic.Ideal) (k0_pay7 i) (k0_pay18 (View.ld x0 (Rect.unit ![0, 0] ![256, 256] inb_S256x1024_S256x256_0_0))
      (View.ld x4 (Rect.unit ![0, 0] ![1, 256] inb_S1x1024_S1x256_0_0))
      (View.ld x3 (Rect.unit ![0, 0, 0] ![1, 256, 256] inb_S4x256x256_S1x256x256_0_0_0)))⟩ :: L

include H

/-- A row's cotangent over its row count is the row's share. -/
theorem share_of (g : ℕ) (r c : Fin 256) {x : EReal} (hx : x = I.ddif g (256 * b + r.val) c.val) :
    Ideal.div x (cnt (win g) (256 * (31 - (i 0).val) + r.val)) = I.share g (256 * b + r.val) c.val := by
  have := H.lt; have := r.isLt
  unfold Ins.share
  rw [if_pos (by omega), hx, H.coord, show 31 - (31 - b) = b by omega]

/-- The share at column `j`, by group and place. -/
theorem share_col (g t c j : ℕ) (hc : c < 256) (hj : j = 256 * g + c) : I.share g t c = I.share (j / 256) t (j % 256) :=
  (col_read (fun g c => I.share g t c) g c j hc hj).symm

/-- The strips over earlier pieces: the block's shares, and below them what was there. -/
theorem strips_canon (v : View sig .tc .vmem S272x1024 .f32) (L : List (View.Piece (Elt Idealize.ShloMosaic.Ideal) S272x1024 .f32))
    (e : Fin 272) (j : Fin 1024) :
    View.canon (strips i x0 x3 x4 L) (ix2 e j)
      = if e.val < 256 then I.share (j.val / 256) (256 * b + e.val) (j.val % 256) else View.canon L (ix2 e j) := by
  refine canon_four (Val := Elt Idealize.ShloMosaic.Ideal) (e := .f32) (fun r j => I.share (j / 256) (256 * b + r) (j % 256)) _ _ _ _ _ _ _ _
    (fun r c => ?_) (fun r c => ?_) (fun r c => ?_) (fun r c => ?_) L e j
  · exact ((share0 _ i r c).trans (share_of H 0 r c ((group0 H v).back r c))).trans (share_col H 0 _ c.val c.val c.isLt (by omega))
  · exact ((share1 _ i r c).trans (share_of H 1 r c ((group1 H v).back r c))).trans (share_col H 1 _ c.val (256 + c.val) c.isLt (by omega))
  · exact ((share2 _ _ _ i r c).trans (share_of H 2 r c ((group2 H v).back r c))).trans (share_col H 2 _ c.val (512 + c.val) c.isLt (by omega))
  · exact ((share3 _ _ _ i r c).trans (share_of H 3 r c ((group3 H v).back r c))).trans (share_col H 3 _ c.val (768 + c.val) c.isLt (by omega))

/-- The same for a buffer that held `f`. -/
theorem strips_read (v w : View sig .tc .vmem S272x1024 .f32) (f : w.ty.Contents (Elt Idealize.ShloMosaic.Ideal))
    (e : Fin 272) (j : Fin 1024) :
    w.read (Elt Idealize.ShloMosaic.Ideal) (w.writes (Elt Idealize.ShloMosaic.Ideal) f (strips i x0 x3 x4 [])) (ix2 e j)
      = if e.val < 256 then I.share (j.val / 256) (256 * b + e.val) (j.val % 256) else w.read (Elt Idealize.ShloMosaic.Ideal) f (ix2 e j) := by
  refine read_four (Val := Elt Idealize.ShloMosaic.Ideal) (e := .f32) (fun r j => I.share (j / 256) (256 * b + r) (j % 256)) _ _ _ _ _ _ _ _
    (fun r c => ?_) (fun r c => ?_) (fun r c => ?_) (fun r c => ?_) [] e j w f
  · exact ((share0 _ i r c).trans (share_of H 0 r c ((group0 H v).back r c))).trans (share_col H 0 _ c.val c.val c.isLt (by omega))
  · exact ((share1 _ i r c).trans (share_of H 1 r c ((group1 H v).back r c))).trans (share_col H 1 _ c.val (256 + c.val) c.isLt (by omega))
  · exact ((share2 _ _ _ i r c).trans (share_of H 2 r c ((group2 H v).back r c))).trans (share_col H 2 _ c.val (512 + c.val) c.isLt (by omega))
  · exact ((share3 _ _ _ i r c).trans (share_of H 3 r c ((group3 H v).back r c))).trans (share_col H 3 _ c.val (768 + c.val) c.isLt (by omega))

/-- What a point carries on: the block's shares, and below them its first sixteen rows again. -/
theorem carried (v w : View sig .tc .vmem S272x1024 .f32) (L : List (View.Piece (Elt Idealize.ShloMosaic.Ideal) S272x1024 .f32))
    (e : Fin 272) (j : Fin 1024) :
    View.canon (Val := Elt Idealize.ShloMosaic.Ideal) (⟨Rect.unit ![256, 0] ![16, 1024] inb_S272x1024_S16x1024_256_0,
        k0_pay1 (F := Idealize.ShloMosaic.Ideal) (w.readCov (strips i x0 x3 x4 L) (Rect.unit (s := S272x1024) ![0, 0] ![16, 1024] inb_S272x1024_S16x1024_0_0).toLoadRect)⟩
      :: strips i x0 x3 x4 L) (ix2 e j)
      = I.share (j.val / 256) (256 * b + if e.val < 256 then e.val else e.val - 256) (j.val % 256) := by
  have he := e.isLt
  by_cases h : e.val < 256
  · rw [if_pos h]
    refine Eq.trans (canon_miss _ _ _ _ (0 : Fin 2) (by left; simpa using h)) ?_
    exact (strips_canon H v L e j).trans (if_pos h)
  · rw [if_neg h]
    refine Eq.trans (canon_hit _ _ _ _ (ix2 ⟨e.val - 256, by omega⟩ j) (by intro a; fin_cases a <;> simp; omega)) ?_
    pointwise [k0_pay1]
    rw [View.readCov_eq_canon']
    refine Eq.trans (congrArg (View.canon (strips i x0 x3 x4 L)) (idx_box (R := 272) (C := 1024) (n := 16) (k := 1024) _ ⟨e.val - 256, by omega⟩ j (by simp; omega) (by simp))) ?_
    refine (strips_canon H v L _ _).trans ?_
    rw [if_pos (by simp; omega)]
    simp

end Strips

include H in
set_option maxHeartbeats 1000000 in
/-- At a later point: the block's shares, and below them the first sixteen of them again. -/
theorem shares_B (hc0 : ¬cond0_0 i) (e : Fin 272) (j : Fin 1024) :
    sout0_B_1 c i arg1 harg1 arg2 harg2 arg3 harg3 arg4 harg4 arg5 harg5 arg6 harg6 arg7 harg7 arg8 harg8 arg9 harg9 arg10 harg10 hc0 x0 x1 x2 x3 x4 xo6 xo7 xs1
      (ix2 e j) = I.share (j.val / 256) (256 * b + if e.val < 256 then e.val else e.val - 256) (j.val % 256) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 x0 x1 x2 x3 x4 xo6 xo7 xs1)]
  unfold kernelRun0_B
  dsimp only
  sl_unfold_words
  simp only [View.readAt_eq_ld, harg1.read_unread, harg2.read_unread, harg3.read_unread, harg4.read_unread, harg5.read_unread, harg10.read_unread]
  exact carried H arg9.view arg10.view _ e j

include H in
set_option maxHeartbeats 1000000 in
/-- At the first point: the same. -/
theorem shares_A (hc0 : cond0_0 i) (e : Fin 272) (j : Fin 1024) :
    sout0_A_1 c i arg1 harg1 arg2 harg2 arg3 harg3 arg4 harg4 arg5 harg5 arg6 harg6 arg7 harg7 arg8 harg8 arg9 harg9 arg10 harg10 hc0 x0 x1 x2 x3 x4
      (ix2 e j) = I.share (j.val / 256) (256 * b + if e.val < 256 then e.val else e.val - 256) (j.val % 256) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  exact carried H arg9.view arg10.view _ e j

end Cert.KernelIdeal.Pool
-- ==== Proof.Pool.Back.lean ====
/- What one grid point leaves in the input gradient. -/
module

public import proofs.«01_k».proof.Proof.Pool.Shares

@[expose] public section

set_option maxRecDepth 16384

noncomputable section

namespace Cert.KernelIdeal.Pool

open Cert.KernelIdeal Cert.KernelIdeal.Gen Idealize.ShloMosaic Idealize.ShloMosaic.TcCoe Idealize.SL.Sem Cert.Pool Cert.Pool.Ins Cert.Strips

variable {I : Ins} {b : ℕ} (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S16x1024 .f32) (harg3 : arg3.IsWhole) (arg4 : Memref sig .tc .vmem S4x256x256 .bf16) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S4x256x256 .f32) (harg7 : arg7.IsWhole) (arg8 : Memref sig .tc .vmem S1x1024 .f32) (harg8 : arg8.IsWhole)
  (arg9 : Memref sig .tc .vmem S272x1024 .f32) (harg9 : arg9.IsWhole) (arg10 : Memref sig .tc .vmem S272x1024 .f32) (harg10 : arg10.IsWhole)
  (x0 x1 : Vec Idealize.ShloMosaic.Ideal S256x1024 .f32) (x2 : Vec Idealize.ShloMosaic.Ideal S16x1024 .f32)
  (x3 : Vec Idealize.ShloMosaic.Ideal S4x256x256 .bf16) (x4 : Vec Idealize.ShloMosaic.Ideal S1x1024 .f32)
  (xo6 : Vec Idealize.ShloMosaic.Ideal S4x256x256 .f32) (xo7 : Vec Idealize.ShloMosaic.Ideal S1x1024 .f32)
  (xs1 : Vec Idealize.ShloMosaic.Ideal S272x1024 .f32)
  (H : BlockOf I b i x0 x1 x2 x3 x4)

section Strips

variable {i x0 x1 x2 x3 x4}
include H

/-- The shares of the window from a row on, less the row's cotangent, are the row's input gradient. -/
theorem du_of (g : ℕ) (r c : Fin 256) {x : EReal} (hx : x = I.ddif g (256 * b + r.val) c.val) :
    (∑ k ∈ Finset.range (win g), I.share g (256 * b + (r.val + k)) c.val) - x = I.du g (256 * b + r.val) c.val := by
  unfold Ins.du
  rw [hx]
  simp only [add_assoc]

/-- The input gradient at column `j`, by group and place. -/
theorem du_col (g t c j : ℕ) (hc : c < 256) (hj : j = 256 * g + c) : I.du g t c = I.du (j / 256) t (j % 256) :=
  (col_read (fun g c => I.du g t c) g c j hc hj).symm

/-- The four groups' input gradients side by side, from columns of shares. -/
theorem back_strips (v : View sig .tc .vmem S272x1024 .f32) (V0 V1 V2 V3 : Vec Idealize.ShloMosaic.Ideal S272x256 .f32)
    (hV0 : ∀ (e : Fin 272) (c : Fin 256), V0 (ix2 e c) = I.share 0 (256 * b + e.val) c.val)
    (hV1 : ∀ (e : Fin 272) (c : Fin 256), V1 (ix2 e c) = I.share 1 (256 * b + e.val) c.val)
    (hV2 : ∀ (e : Fin 272) (c : Fin 256), V2 (ix2 e c) = I.share 2 (256 * b + e.val) c.val)
    (hV3 : ∀ (e : Fin 272) (c : Fin 256), V3 (ix2 e c) = I.share 3 (256 * b + e.val) c.val)
    (L : List (View.Piece (Elt Idealize.ShloMosaic.Ideal) S256x1024 .bf16)) (r : Fin 256) (j : Fin 1024) :
    View.canon (Val := Elt Idealize.ShloMosaic.Ideal) (e := .bf16)
      (⟨Rect.unit ![0, 768] ![256, 256] inb_S256x1024_S256x256_0_768,
          k0_pay44 (F := Idealize.ShloMosaic.Ideal) (k0_pay38 (View.ld x0 (Rect.unit ![0, 768] ![256, 256] inb_S256x1024_S256x256_0_768)) (View.ld x4 (Rect.unit ![0, 768] ![1, 256] inb_S1x1024_S1x256_0_768))
            (View.ld x3 (Rect.unit ![3, 0, 0] ![1, 256, 256] inb_S4x256x256_S1x256x256_3_0_0))) V3⟩ ::
        ⟨Rect.unit ![0, 512] ![256, 256] inb_S256x1024_S256x256_0_512,
          k0_pay43 (F := Idealize.ShloMosaic.Ideal) (k0_pay32 (k0_pay30 (View.ld x0 (Rect.unit ![0, 512] ![256, 256] inb_S256x1024_S256x256_0_512)) (View.ld x4 (Rect.unit ![0, 512] ![1, 256] inb_S1x1024_S1x256_0_512)))
            (View.ld x3 (Rect.unit ![2, 0, 0] ![1, 256, 256] inb_S4x256x256_S1x256x256_2_0_0))) V2⟩ ::
        ⟨Rect.unit ![0, 256] ![256, 256] inb_S256x1024_S256x256_0_256,
          k0_pay42 (F := Idealize.ShloMosaic.Ideal) (k0_pay25 (View.ld x0 (Rect.unit ![0, 256] ![256, 256] inb_S256x1024_S256x256_0_256)) (View.ld x4 (Rect.unit ![0, 256] ![1, 256] inb_S1x1024_S1x256_0_256))
            (View.ld x3 (Rect.unit ![1, 0, 0] ![1, 256, 256] inb_S4x256x256_S1x256x256_1_0_0))) V1⟩ ::
        ⟨Rect.unit ![0, 0] ![256, 256] inb_S256x1024_S256x256_0_0,
          k0_pay41 (F := Idealize.ShloMosaic.Ideal) (k0_pay18 (View.ld x0 (Rect.unit ![0, 0] ![256, 256] inb_S256x1024_S256x256_0_0)) (View.ld x4 (Rect.unit ![0, 0] ![1, 256] inb_S1x1024_S1x256_0_0))
            (View.ld x3 (Rect.unit ![0, 0, 0] ![1, 256, 256] inb_S4x256x256_S1x256x256_0_0_0))) V0⟩ :: L) (ix2 r j)
      = I.du (j.val / 256) (256 * b + r.val) (j.val % 256) := by
  refine (canon_four (Val := Elt Idealize.ShloMosaic.Ideal) (e := .bf16) (fun r j => I.du (j / 256) (256 * b + r) (j % 256)) _ _ _ _ _ _ _ _
    (fun r c => ?_) (fun r c => ?_) (fun r c => ?_) (fun r c => ?_) L r j).trans (if_pos r.isLt)
  · exact ((back0 _ _ (fun e c => I.share 0 (256 * b + e) c) hV0 r c).trans (du_of H 0 r c ((group0 H v).back r c))).trans (du_col H 0 _ c.val c.val c.isLt (by omega))
  · exact ((back1 _ _ (fun e c => I.share 1 (256 * b + e) c) hV1 r c).trans (du_of H 1 r c ((group1 H v).back r c))).trans (du_col H 1 _ c.val (256 + c.val) c.isLt (by omega))
  · exact ((back2 _ _ (fun e c => I.share 2 (256 * b + e) c) hV2 r c).trans (du_of H 2 r c ((group2 H v).back r c))).trans (du_col H 2 _ c.val (512 + c.val) c.isLt (by omega))
  · exact ((back3 _ _ (fun e c => I.share 3 (256 * b + e) c) hV3 r c).trans (du_of H 3 r c ((group3 H v).back r c))).trans (du_col H 3 _ c.val (768 + c.val) c.isLt (by omega))

/-- A column of what the shares' buffer holds when every row of it is known. -/
theorem column (o g : ℕ) (ho : o = 256 * g) (R : S272x1024.Idx → EReal)
    (hR : ∀ (e : Fin 272) (j : Fin 1024), R (ix2 e j) = I.share (j.val / 256) (256 * b + e.val) (j.val % 256))
    (e : Fin 272) (c : Fin 256) (hc : o + c.val < 1024) : R (ix2 e ⟨o + c.val, hc⟩) = I.share g (256 * b + e.val) c.val :=
  (hR e _).trans (col_read (fun g c => I.share g (256 * b + e.val) c) g c.val (o + c.val) c.isLt (by omega))

end Strips

include H in
set_option maxHeartbeats 1000000 in
/-- At a later point, where the carried rows hold the next block's first shares: the block's input gradient. -/
theorem back_B (hc0 : ¬cond0_0 i) (hx : ∀ (e : Fin 272) (j : Fin 1024), 256 ≤ e.val → xs1 (ix2 e j) = I.share (j.val / 256) (256 * b + e.val) (j.val % 256))
    (r : Fin 256) (j : Fin 1024) :
    out0_B_5 c i arg1 harg1 arg2 harg2 arg3 harg3 arg4 harg4 arg5 harg5 arg6 harg6 arg7 harg7 arg8 harg8 arg9 harg9 arg10 harg10 hc0 x0 x1 x2 x3 x4 xo6 xo7 xs1
      (ix2 r j) = I.du (j.val / 256) (256 * b + r.val) (j.val % 256) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 x4 xo6 xo7 xs1)]
  unfold kernelRun0_B
  dsimp only
  sl_unfold_words
  simp only [View.readAt_eq_ld, harg1.read_unread, harg2.read_unread, harg3.read_unread, harg4.read_unread, harg5.read_unread]
  have hR : ∀ (e : Fin 272) (j : Fin 1024), arg10.view.read (Elt Idealize.ShloMosaic.Ideal)
      (arg10.view.writes (Elt Idealize.ShloMosaic.Ideal) (harg10.unread xs1) (strips i x0 x3 x4 [])) (ix2 e j)
        = I.share (j.val / 256) (256 * b + e.val) (j.val % 256) := by
    intro e j
    rw [strips_read H arg9.view, harg10.read_unread]
    split
    · rfl
    · exact hx e j (by omega)
  refine back_strips H arg9.view _ _ _ _ (fun e c => ?_) (fun e c => ?_) (fun e c => ?_) (fun e c => ?_) _ r j
  on_goal 1 => refine Eq.trans ?_ (column H 0 0 rfl _ hR e c (by omega))
  on_goal 2 => refine Eq.trans ?_ (column H 256 1 rfl _ hR e c (by omega))
  on_goal 3 => refine Eq.trans ?_ (column H 512 2 rfl _ hR e c (by omega))
  on_goal 4 => refine Eq.trans ?_ (column H 768 3 rfl _ hR e c (by omega))
  all_goals pointwise

include H in
set_option maxHeartbeats 1000000 in
/-- At the first point, of the array's last block: the same, the carried rows being zero. -/
theorem back_A (hc0 : cond0_0 i) (hb : b = 31) (r : Fin 256) (j : Fin 1024) :
    out0_A_5 c i arg1 harg1 arg2 harg2 arg3 harg3 arg4 harg4 arg5 harg5 arg6 harg6 arg7 harg7 arg8 harg8 arg9 harg9 arg10 harg10 hc0 x0 x1 x2 x3 x4
      (ix2 r j) = I.du (j.val / 256) (256 * b + r.val) (j.val % 256) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  have hR : ∀ (e : Fin 272) (j : Fin 1024), View.canon (strips i x0 x3 x4 [⟨Rect.unit ![256, 0] ![16, 1024] inb_S272x1024_S16x1024_256_0, k0_pay2 (F := Idealize.ShloMosaic.Ideal)⟩]) (ix2 e j)
        = I.share (j.val / 256) (256 * b + e.val) (j.val % 256) := by
    intro e j
    rw [strips_canon H arg9.view]
    split
    · rfl
    · rename_i he
      refine Eq.trans (canon_hit _ _ _ _ (ix2 ⟨e.val - 256, by omega⟩ j) (by intro a; fin_cases a <;> simp; omega)) ?_
      unfold Ins.share
      rw [if_neg (by omega)]
      pointwise [k0_pay2]
  refine back_strips H arg9.view _ _ _ _ (fun e c => ?_) (fun e c => ?_) (fun e c => ?_) (fun e c => ?_) _ r j
  on_goal 1 => refine Eq.trans ?_ (column H 0 0 rfl _ hR e c (by omega))
  on_goal 2 => refine Eq.trans ?_ (column H 256 1 rfl _ hR e c (by omega))
  on_goal 3 => refine Eq.trans ?_ (column H 512 2 rfl _ hR e c (by omega))
  on_goal 4 => refine Eq.trans ?_ (column H 768 3 rfl _ hR e c (by omega))
  all_goals
    rw [View.readCov_eq_canon']
    refine (congrArg (View.canon (strips i x0 x3 x4 _)) (idx_box (R := 272) (C := 1024) (n := 272) (k := 256) _ e c (by omega) (by omega))).trans ?_
    simp

end Cert.KernelIdeal.Pool
-- ==== Proof.Pool.Weights.lean ====
/- What one grid point leaves in the weights' gradient. -/
module

public import proofs.«01_k».proof.Proof.Pool.Body

@[expose] public section

set_option maxRecDepth 16384

noncomputable section

namespace Cert.KernelIdeal.Pool

open Cert.KernelIdeal Cert.KernelIdeal.Gen Idealize.ShloMosaic Idealize.ShloMosaic.TcCoe Idealize.SL.Sem Cert.Pool Cert.Pool.Ins Cert.Strips

variable {I : Ins} {b : ℕ} (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S16x1024 .f32) (harg3 : arg3.IsWhole) (arg4 : Memref sig .tc .vmem S4x256x256 .bf16) (harg4 : arg4.IsWhole)
  (arg5 : Memref sig .tc .vmem S1x1024 .f32) (harg5 : arg5.IsWhole) (arg6 : Memref sig .tc .vmem S256x1024 .bf16) (harg6 : arg6.IsWhole)
  (arg7 : Memref sig .tc .vmem S4x256x256 .f32) (harg7 : arg7.IsWhole) (arg8 : Memref sig .tc .vmem S1x1024 .f32) (harg8 : arg8.IsWhole)
  (arg9 : Memref sig .tc .vmem S272x1024 .f32) (harg9 : arg9.IsWhole) (arg10 : Memref sig .tc .vmem S272x1024 .f32) (harg10 : arg10.IsWhole)
  (x0 x1 : Vec Idealize.ShloMosaic.Ideal S256x1024 .f32) (x2 : Vec Idealize.ShloMosaic.Ideal S16x1024 .f32)
  (x3 : Vec Idealize.ShloMosaic.Ideal S4x256x256 .bf16) (x4 : Vec Idealize.ShloMosaic.Ideal S1x1024 .f32)
  (xo6 : Vec Idealize.ShloMosaic.Ideal S4x256x256 .f32) (xo7 : Vec Idealize.ShloMosaic.Ideal S1x1024 .f32)
  (xs1 : Vec Idealize.ShloMosaic.Ideal S272x1024 .f32)
  (H : BlockOf I b i x0 x1 x2 x3 x4)

include H in
set_option maxHeartbeats 1000000 in
/-- At a later point the weights' gradient gains the block's rows. -/
theorem weight_B (hc0 : ¬cond0_0 i) (z : ℕ → ℕ → ℕ → EReal) (hz : ∀ (g : Fin 4) (p q : Fin 256), xo6 (ix3 g p q) = z g.val p.val q.val)
    (g : Fin 4) (p q : Fin 256) :
    out0_B_6 c i arg1 harg1 arg2 harg2 arg3 harg3 arg4 harg4 arg5 harg5 arg6 harg6 arg7 harg7 arg8 harg8 arg9 harg9 arg10 harg10 hc0 x0 x1 x2 x3 x4 xo6 xo7 xs1
      (ix3 g p q) = z g.val p.val q.val + ∑ r ∈ Finset.range 256, I.dwAt g.val p.val q.val (256 * b + r) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 xo6 xo7 xs1)]
  unfold kernelRun0_B
  dsimp only
  sl_unfold_words
  simp only [View.readAt_eq_ld, harg1.read_unread, harg2.read_unread, harg3.read_unread, harg4.read_unread, harg5.read_unread, harg7.read_unread]
  refine canon_slabs (Val := Elt Idealize.ShloMosaic.Ideal) (e := .f32) (fun g p q => z g p q + ∑ r ∈ Finset.range 256, I.dwAt g p q (256 * b + r)) _ _ _ _ _ _ _ _
    (fun p q => ?_) (fun p q => ?_) (fun p q => ?_) (fun p q => ?_) _ g p q
  · refine ((group0 H arg9.view).weight _ p q).trans (congrArg (· + _) ?_); pointwise; exact hz 0 p q
  · refine ((group1 H arg9.view).weight _ p q).trans (congrArg (· + _) ?_); pointwise; exact hz 1 p q
  · refine ((group2 H arg9.view).weight _ p q).trans (congrArg (· + _) ?_); pointwise; exact hz 2 p q
  · refine ((group3 H arg9.view).weight _ p q).trans (congrArg (· + _) ?_); pointwise; exact hz 3 p q

include H in
set_option maxHeartbeats 1000000 in
/-- At the first point the weights' gradient is the block's rows. -/
theorem weight_A (hc0 : cond0_0 i) (g : Fin 4) (p q : Fin 256) :
    out0_A_6 c i arg1 harg1 arg2 harg2 arg3 harg3 arg4 harg4 arg5 harg5 arg6 harg6 arg7 harg7 arg8 harg8 arg9 harg9 arg10 harg10 hc0 x0 x1 x2 x3 x4
      (ix3 g p q) = 0 + ∑ r ∈ Finset.range 256, I.dwAt g.val p.val q.val (256 * b + r) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg1.read_unread, harg2.read_unread, harg3.read_unread, harg4.read_unread, harg5.read_unread]
  refine canon_slabs (Val := Elt Idealize.ShloMosaic.Ideal) (e := .f32) (fun g p q => 0 + ∑ r ∈ Finset.range 256, I.dwAt g p q (256 * b + r)) _ _ _ _ _ _ _ _
    (fun p q => ?_) (fun p q => ?_) (fun p q => ?_) (fun p q => ?_) _ g p q
  on_goal 1 => refine ((group0 H arg9.view).weight _ p q).trans (congrArg (· + _) ?_)
  on_goal 2 => refine ((group1 H arg9.view).weight _ p q).trans (congrArg (· + _) ?_)
  on_goal 3 => refine ((group2 H arg9.view).weight _ p q).trans (congrArg (· + _) ?_)
  on_goal 4 => refine ((group3 H arg9.view).weight _ p q).trans (congrArg (· + _) ?_)
  all_goals
    simp (disch := decide) only [↓ View.readCov_skip, ↓ View.readCov_fill]
    pointwise [k0_pay3]

end Cert.KernelIdeal.Pool
-- ==== Proof.Pool.Arrays.lean ====
/- The gradient's inputs as functions of natural row and column numbers, from arrays of fixed extents. -/
module

public import proofs.«01_k».proof.Proof.Pool.Model
public import Idealize.ShloMosaic.Lib.Pointwise

@[expose] public section

noncomputable section

namespace Cert.Pool

open Idealize.ShloMosaic

/-- A matrix's entry at row `t` and column `j`; zero outside the matrix. -/
def at2 {R C : ℕ} (A : (⟨2, ![R, C]⟩ : Shape).Idx → EReal) (t j : ℕ) : EReal :=
  if h : t < R ∧ j < C then A (ix2 ⟨t, h.1⟩ ⟨j, h.2⟩) else 0

/-- A rank-3 array's entry; zero outside the array. -/
def at3 {A B C : ℕ} (X : (⟨3, ![A, B, C]⟩ : Shape).Idx → EReal) (a b c : ℕ) : EReal :=
  if h : a < A ∧ b < B ∧ c < C then X (ix3 ⟨a, h.1⟩ ⟨b, h.2.1⟩ ⟨c, h.2.2⟩) else 0

/-- Inside the matrix, the entry. -/
theorem at2_ix {R C : ℕ} (A : (⟨2, ![R, C]⟩ : Shape).Idx → EReal) (t : Fin R) (j : Fin C) : at2 A t.val j.val = A (ix2 t j) :=
  dif_pos ⟨t.isLt, j.isLt⟩

/-- Inside the array, the entry. -/
theorem at3_ix {A B C : ℕ} (X : (⟨3, ![A, B, C]⟩ : Shape).Idx → EReal) (a : Fin A) (b : Fin B) (c : Fin C) : at3 X a.val b.val c.val = X (ix3 a b c) :=
  dif_pos ⟨a.isLt, b.isLt, c.isLt⟩

/-- The gradient's inputs from the four argument arrays: the cotangent, the projection (its first 1024 columns), the weights and the scale. -/
def insOf (dy : (⟨2, ![8192, 1024]⟩ : Shape).Idx → EReal) (p : (⟨2, ![8192, 9216]⟩ : Shape).Idx → EReal)
    (w : (⟨3, ![4, 256, 256]⟩ : Shape).Idx → EReal) (s : (⟨2, ![1, 1024]⟩ : Shape).Idx → EReal) : Ins where
  dy := at2 dy
  u := at2 p
  w := at3 w
  s := at2 s 0

/-- A sum over consecutive blocks of 256 rows is the sum over the rows. -/
theorem sum_blocks (f : ℕ → EReal) (n : ℕ) : ∑ k ∈ Finset.range n, ∑ r ∈ Finset.range 256, f (256 * k + r) = ∑ t ∈ Finset.range (256 * n), f t := by
  induction n with
  | zero => simp
  | succ n ih => rw [Finset.sum_range_succ, ih, Nat.mul_succ, Finset.sum_range_add]

/-- The same with the blocks taken from the last to the first. -/
theorem sum_blocks_back (f : ℕ → EReal) : ∑ k ∈ Finset.range 32, ∑ r ∈ Finset.range 256, f (256 * (31 - k) + r) = ∑ t ∈ Finset.range 8192, f t := by
  rw [← sum_blocks f 32, ← Finset.sum_range_reflect]
  refine Finset.sum_congr rfl fun k hk => ?_
  have := Finset.mem_range.mp hk
  rw [show 31 - (32 - 1 - k) = k by omega]

end Cert.Pool
-- ==== Proof.Pool.Points.lean ====
/- What the outputs and the carried rows hold after each grid point. -/
module

public import proofs.«01_k».proof.Proof.Pool.Back
public import proofs.«01_k».proof.Proof.Pool.Weights
public import proofs.«01_k».proof.Proof.Pool.Arrays

@[expose] public section

set_option maxRecDepth 16384

noncomputable section

namespace Cert.KernelIdeal.Pool

open Cert.KernelIdeal Cert.KernelIdeal.Gen Idealize.ShloMosaic Idealize.ShloMosaic.TcCoe Idealize.SL.Sem Cert.Pool Cert.Pool.Ins

variable (m : (ℓ : Loc nD τ sig) → Buf (Elt Idealize.ShloMosaic.Ideal) ℓ) (c : Dev nD)

/-- The gradient's inputs as the arguments hold them. -/
abbrev ins : Ins := insOf (m ((c : Thread nD τ).loc main_arg0)) (m ((c : Thread nD τ).loc main_arg1)) (m ((c : Thread nD τ).loc main_arg2))
  (m ((c : Thread nD τ).loc main_arg3))

/-- The blocks' places: the row blocks run from the last to the first, the rows before a block lie in one 16-row block, the
    weights and the scale are whole. -/
theorem idx_facts : ∀ t : Fin cfg0.N, (grid0.coords t 0).val = t.val
    ∧ win0_0.index t (0 : Fin 2) = 31 - t.val ∧ win0_0.index t (1 : Fin 2) = 0
    ∧ win0_1.index t (0 : Fin 2) = 31 - t.val ∧ win0_1.index t (1 : Fin 2) = 0
    ∧ win0_2.index t (0 : Fin 2) = 16 * (31 - t.val) - 1 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- The block the body is given at point `t` is block `31 - t` of the arrays. -/
theorem block_at (t : Fin cfg0.N) : BlockOf (ins m c) (31 - t.val) (grid0.coords t) (iblk m c 0 t) (iblk m c 1 t) (iblk m c 2 t) (iblk m c 3 t) (iblk m c 4 t) := by
  have hN : cfg0.N = 32 := N_0
  have ht : t.val < 32 := by have := t.isLt; omega
  obtain ⟨e, a0, a1, b0, b1, c0, c1, d0, d1, d2, f0, f1⟩ := idx_facts t
  refine ⟨by omega, by omega, fun r j => ?_, fun r j => ?_, fun hb r j => ?_, fun g p q => ?_, fun j => ?_⟩
  · show V m c main_arg0 (((cfg0.win 0).blk t).view.emb (ix2 r j)) = at2 (m ((c : Thread nD τ).loc main_arg0)) _ _
    unfold at2
    rw [dif_pos ⟨by omega, by omega⟩]
    refine congrArg (m ((c : Thread nD τ).loc main_arg0)) (funext fun a => Fin.ext ?_)
    match a with
    | ⟨0, _⟩ => show win0_0.index t (0 : Fin 2) * 256 + 1 * r.val = 256 * (31 - t.val) + r.val; omega
    | ⟨1, _⟩ => show win0_0.index t (1 : Fin 2) * 1024 + 1 * j.val = j.val; omega
  · show V m c main_arg1 (((cfg0.win 1).blk t).view.emb (ix2 r j)) = at2 (m ((c : Thread nD τ).loc main_arg1)) _ _
    unfold at2
    rw [dif_pos ⟨by omega, by omega⟩]
    refine congrArg (m ((c : Thread nD τ).loc main_arg1)) (funext fun a => Fin.ext ?_)
    match a with
    | ⟨0, _⟩ => show win0_1.index t (0 : Fin 2) * 256 + 1 * r.val = 256 * (31 - t.val) + r.val; omega
    | ⟨1, _⟩ => show win0_1.index t (1 : Fin 2) * 1024 + 1 * j.val = j.val; omega
  · show V m c main_arg1 (((cfg0.win 2).blk t).view.emb (ix2 r j)) = at2 (m ((c : Thread nD τ).loc main_arg1)) _ _
    unfold at2
    rw [dif_pos ⟨by omega, by omega⟩]
    refine congrArg (m ((c : Thread nD τ).loc main_arg1)) (funext fun a => Fin.ext ?_)
    match a with
    | ⟨0, _⟩ => show win0_2.index t (0 : Fin 2) * 16 + 1 * r.val = 256 * (31 - t.val) + r.val - 16; omega
    | ⟨1, _⟩ => show win0_2.index t (1 : Fin 2) * 1024 + 1 * j.val = j.val; omega
  · show V m c main_arg2 (((cfg0.win 3).blk t).view.emb (ix3 g p q)) = at3 (m ((c : Thread nD τ).loc main_arg2)) _ _ _
    rw [at3_ix]
    refine congrArg (m ((c : Thread nD τ).loc main_arg2)) (funext fun a => Fin.ext ?_)
    match a with
    | ⟨0, _⟩ => show win0_3.index t (0 : Fin 3) * 4 + 1 * g.val = g.val; omega
    | ⟨1, _⟩ => show win0_3.index t (1 : Fin 3) * 256 + 1 * p.val = p.val; omega
    | ⟨2, _⟩ => show win0_3.index t (2 : Fin 3) * 256 + 1 * q.val = q.val; omega
  · show V m c main_arg3 (((cfg0.win 4).blk t).view.emb (ix2 0 j)) = at2 (m ((c : Thread nD τ).loc main_arg3)) _ _
    refine Eq.trans ?_ (at2_ix (R := 1) _ 0 j).symm
    refine congrArg (m ((c : Thread nD τ).loc main_arg3)) (funext fun a => Fin.ext ?_)
    match a with
    | ⟨0, _⟩ => show win0_4.index t (0 : Fin 2) * 1 + 1 * 0 = 0; omega
    | ⟨1, _⟩ => show win0_4.index t (1 : Fin 2) * 1024 + 1 * j.val = j.val; omega

section Point

variable (t : Fin cfg0.N)

/-- The rows carried on from a point. -/
theorem carried_point (e : Fin 272) (j : Fin 1024) : (outsAt0 m c t.val t.isLt).2.2.2 (ix2 e j)
    = (ins m c).share (j.val / 256) (256 * (31 - t.val) + if e.val < 256 then e.val else e.val - 256) (j.val % 256) := by
  by_cases h0 : t.val % 32 = 0
  · rw [outsAt0_A m c t h0]; dsimp only
    exact shares_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
      (block_at m c t) ((hcond0_0 t).mpr h0) e j
  · rw [outsAt0_B m c t h0]; dsimp only
    exact shares_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2
      (block_at m c t) (fun h => h0 ((hcond0_0 t).mp h)) e j

/-- The input gradient's block at the first point. -/
theorem back_first (h0 : t.val % 32 = 0) (r : Fin 256) (j : Fin 1024) : (outsAt0 m c t.val t.isLt).1 (ix2 r j)
    = (ins m c).du (j.val / 256) (256 * (31 - t.val) + r.val) (j.val % 256) := by
  have ht : t.val < 32 := lt_of_lt_of_eq t.isLt N_0
  rw [outsAt0_A m c t h0]; dsimp only
  exact back_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
    (block_at m c t) ((hcond0_0 t).mpr h0) (by omega) r j

/-- The input gradient's block at a later point. -/
theorem back_later (h0 : ¬t.val % 32 = 0) (r : Fin 256) (j : Fin 1024) : (outsAt0 m c t.val t.isLt).1 (ix2 r j)
    = (ins m c).du (j.val / 256) (256 * (31 - t.val) + r.val) (j.val % 256) := by
  have ht : t.val < 32 := lt_of_lt_of_eq t.isLt N_0
  rw [outsAt0_B m c t h0]; dsimp only
  refine back_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2
    (block_at m c t) (fun h => h0 ((hcond0_0 t).mp h)) (fun e j he => ?_) r j
  refine (carried_point m c ⟨t.val - 1, Nat.lt_of_le_of_lt (Nat.sub_le _ _) t.isLt⟩ e j).trans ?_
  rw [if_neg (by omega)]
  congr 1
  show 256 * (31 - (t.val - 1)) + (e.val - 256) = 256 * (31 - t.val) + e.val
  omega

/-- The weights' gradient at the first point. -/
theorem weight_first (h0 : t.val % 32 = 0) (g : Fin 4) (p q : Fin 256) : (outsAt0 m c t.val t.isLt).2.1 (ix3 g p q)
    = 0 + ∑ r ∈ Finset.range 256, (ins m c).dwAt g.val p.val q.val (256 * (31 - t.val) + r) := by
  rw [outsAt0_A m c t h0]; dsimp only
  exact weight_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
    (block_at m c t) ((hcond0_0 t).mpr h0) g p q

/-- The weights' gradient at a later point, from that of the point before. -/
theorem weight_later (h0 : ¬t.val % 32 = 0) (z : ℕ → ℕ → ℕ → EReal)
    (hz : ∀ (g : Fin 4) (p q : Fin 256), (outsAt0 m c (t.val - 1) (Nat.lt_of_le_of_lt (Nat.sub_le _ _) t.isLt)).2.1 (ix3 g p q) = z g.val p.val q.val)
    (g : Fin 4) (p q : Fin 256) : (outsAt0 m c t.val t.isLt).2.1 (ix3 g p q)
    = z g.val p.val q.val + ∑ r ∈ Finset.range 256, (ins m c).dwAt g.val p.val q.val (256 * (31 - t.val) + r) := by
  rw [outsAt0_B m c t h0]; dsimp only
  exact weight_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2
    (block_at m c t) (fun h => h0 ((hcond0_0 t).mp h)) z hz g p q

/-- The scale's gradient at the first point. -/
theorem scale_first (h0 : t.val % 32 = 0) (j : Fin 1024) : (outsAt0 m c t.val t.isLt).2.2.1 (ix2 0 j)
    = 0 + ∑ r ∈ Finset.range 256, (ins m c).dsAt (j.val / 256) (j.val % 256) (256 * (31 - t.val) + r) := by
  rw [outsAt0_A m c t h0]; dsimp only
  exact scale_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
    (block_at m c t) ((hcond0_0 t).mpr h0) j

/-- The scale's gradient at a later point, from that of the point before. -/
theorem scale_later (h0 : ¬t.val % 32 = 0) (z : ℕ → EReal)
    (hz : ∀ j : Fin 1024, (outsAt0 m c (t.val - 1) (Nat.lt_of_le_of_lt (Nat.sub_le _ _) t.isLt)).2.2.1 (ix2 0 j) = z j.val) (j : Fin 1024) :
    (outsAt0 m c t.val t.isLt).2.2.1 (ix2 0 j)
    = z j.val + ∑ r ∈ Finset.range 256, (ins m c).dsAt (j.val / 256) (j.val % 256) (256 * (31 - t.val) + r) := by
  rw [outsAt0_B m c t h0]; dsimp only
  exact scale_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2
    (block_at m c t) (fun h => h0 ((hcond0_0 t).mp h)) z hz j

end Point

/-- The weights' gradient after point `n`: the rows of the blocks so far. -/
theorem weight_at (n : ℕ) (hn : n < cfg0.N) (g : Fin 4) (p q : Fin 256) : (outsAt0 m c n hn).2.1 (ix3 g p q)
    = ∑ k ∈ Finset.range (n + 1), ∑ r ∈ Finset.range 256, (ins m c).dwAt g.val p.val q.val (256 * (31 - k) + r) := by
  have hN : cfg0.N = 32 := N_0
  induction n generalizing g p q with
  | zero =>
    rw [Finset.sum_range_one]
    exact (weight_first m c ⟨0, hn⟩ rfl g p q).trans (zero_add _)
  | succ n ih =>
    rw [Finset.sum_range_succ]
    exact weight_later m c ⟨n + 1, hn⟩ (by show ¬(n + 1) % 32 = 0; omega)
      (fun g p q => ∑ k ∈ Finset.range (n + 1), ∑ r ∈ Finset.range 256, (ins m c).dwAt g p q (256 * (31 - k) + r))
      (fun g p q => ih (by omega) g p q) g p q

/-- The scale's gradient after point `n`: the rows of the blocks so far. -/
theorem scale_at (n : ℕ) (hn : n < cfg0.N) (j : Fin 1024) : (outsAt0 m c n hn).2.2.1 (ix2 0 j)
    = ∑ k ∈ Finset.range (n + 1), ∑ r ∈ Finset.range 256, (ins m c).dsAt (j.val / 256) (j.val % 256) (256 * (31 - k) + r) := by
  have hN : cfg0.N = 32 := N_0
  induction n generalizing j with
  | zero =>
    rw [Finset.sum_range_one]
    exact (scale_first m c ⟨0, hn⟩ rfl j).trans (zero_add _)
  | succ n ih =>
    rw [Finset.sum_range_succ]
    exact scale_later m c ⟨n + 1, hn⟩ (by show ¬(n + 1) % 32 = 0; omega)
      (fun j => ∑ k ∈ Finset.range (n + 1), ∑ r ∈ Finset.range 256, (ins m c).dsAt (j / 256) (j % 256) (256 * (31 - k) + r))
      (fun j => ih (by omega) j) j

end Cert.KernelIdeal.Pool
-- ==== Proof.Pool.Final.lean ====
/- The kernel's three result arrays after the run. -/
module

public import proofs.«01_k».proof.Proof.Pool.Points
public import Idealize.ShloMosaic.Lib.Pipeline.ValueKit

@[expose] public section

set_option maxRecDepth 16384

noncomputable section

namespace Cert.KernelIdeal.Pool

open Cert.KernelIdeal Cert.KernelIdeal.Gen Idealize.ShloMosaic Idealize.ShloMosaic.TcCoe Idealize.SL.Sem Cert.Pool Cert.Pool.Ins Cert.Strips

/-- The input gradient as an array. -/
def duArr (I : Ins) : S8192x1024.Idx → EReal := fun y => I.du ((y 1).val / 256) (y 0).val ((y 1).val % 256)

/-- The weights' gradient as an array. -/
def dwArr (I : Ins) : S4x256x256.Idx → EReal := fun y => ∑ t ∈ Finset.range 8192, I.dwAt (y 0).val (y 1).val (y 2).val t

/-- The scale's gradient as an array. -/
def dsArr (I : Ins) : S1x1024.Idx → EReal := fun y => ∑ t ∈ Finset.range 8192, I.dsAt ((y 1).val / 256) ((y 1).val % 256) t

variable (m : (ℓ : Loc nD τ sig) → Buf (Elt Idealize.ShloMosaic.Ideal) ℓ) (ρ : Dev nD → PrngReg) (c : Dev nD)

/-- Where the outputs' blocks lie. -/
theorem out_facts : ∀ t : Fin cfg0.N,
    win0_5.index t (0 : Fin 2) = 31 - t.val ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0 :=
  (by decide +kernel : ∀ t : Fin grid0.N, _)

/-- The first result holds the input gradient. -/
theorem final_du : (dats m 0 c).arrAt 5 cfg0.N = duArr (ins m c) := by
  have hN : cfg0.N = 32 := N_0
  refine (dats m 0 c).arrAt_eq_of_cover 5 (duArr (ins m c)) (fun t _ => ?_) (fun (y : S8192x1024.Idx) => ?_)
  · have ht : t.val < 32 := lt_of_lt_of_eq t.isLt N_0
    obtain ⟨e0, e1, _⟩ := out_facts t
    rw [Value.flushed5]
    funext y
    obtain ⟨r, j, rfl⟩ := idx2 y
    refine Eq.trans (?_ : _ = (outsAt0 m c t.val t.isLt).1 (ix2 r j)) ?_
    · rfl
    have hb : (outsAt0 m c t.val t.isLt).1 (ix2 r j) = (ins m c).du (j.val / 256) (256 * (31 - t.val) + r.val) (j.val % 256) := by
      by_cases h0 : t.val % 32 = 0
      · exact back_first m c t h0 r j
      · exact back_later m c t h0 r j
    rw [hb]
    show _ = duArr (ins m c) (((cfg0.win 5).blk t).view.emb (ix2 r j))
    unfold duArr
    have h0 : (((cfg0.win 5).blk t).view.emb (ix2 r j) 0).val = 256 * (31 - t.val) + r.val := by
      show win0_5.index t (0 : Fin 2) * 256 + 1 * r.val = _; omega
    have h1 : (((cfg0.win 5).blk t).view.emb (ix2 r j) 1).val = j.val := by
      show win0_5.index t (1 : Fin 2) * 1024 + 1 * j.val = _; omega
    rw [h0, h1]
  · exact (by decide +kernel : (cfg0.win 5).Covers).cover _ (Memref.isWhole_whole _) y

/-- The second result holds the weights' gradient. -/
theorem final_dw : (dats m 0 c).arrAt 6 cfg0.N = dwArr (ins m c) := by
  have hN : cfg0.N = 32 := N_0
  refine (dats m 0 c).arrAt_eq_of_cover 6 (dwArr (ins m c)) (fun t hf => ?_) (fun (y : S4x256x256.Idx) => ?_)
  · have ht : t.val < 32 := lt_of_lt_of_eq t.isLt N_0
    have h31 : t.val = 31 := by have := (flush0_6 t).mp hf; omega
    obtain ⟨_, _, e0, e1, e2, _⟩ := out_facts t
    rw [Value.flushed6]
    funext y
    obtain ⟨g, p, q, rfl⟩ := idx3 y
    refine Eq.trans (?_ : _ = (outsAt0 m c t.val t.isLt).2.1 (ix3 g p q)) ?_
    · rfl
    rw [weight_at]
    show _ = dwArr (ins m c) (((cfg0.win 6).blk t).view.emb (ix3 g p q))
    unfold dwArr
    have h0 : (((cfg0.win 6).blk t).view.emb (ix3 g p q) 0).val = g.val := by
      show win0_6.index t (0 : Fin 3) * 4 + 1 * g.val = _; omega
    have h1 : (((cfg0.win 6).blk t).view.emb (ix3 g p q) 1).val = p.val := by
      show win0_6.index t (1 : Fin 3) * 256 + 1 * p.val = _; omega
    have h2 : (((cfg0.win 6).blk t).view.emb (ix3 g p q) 2).val = q.val := by
      show win0_6.index t (2 : Fin 3) * 256 + 1 * q.val = _; omega
    rw [h0, h1, h2, h31]
    exact sum_blocks_back _
  · exact (by decide +kernel : (cfg0.win 6).Covers).cover _ (Memref.isWhole_whole _) y

/-- The third result holds the scale's gradient. -/
theorem final_ds : (dats m 0 c).arrAt 7 cfg0.N = dsArr (ins m c) := by
  have hN : cfg0.N = 32 := N_0
  refine (dats m 0 c).arrAt_eq_of_cover 7 (dsArr (ins m c)) (fun t hf => ?_) (fun (y : S1x1024.Idx) => ?_)
  · have ht : t.val < 32 := lt_of_lt_of_eq t.isLt N_0
    have h31 : t.val = 31 := by have := (flush0_7 t).mp hf; omega
    obtain ⟨_, _, _, _, _, e0, e1⟩ := out_facts t
    rw [Value.flushed7]
    funext y
    obtain ⟨r, j, rfl⟩ := idx2 y
    obtain rfl : r = 0 := Subsingleton.elim _ _
    refine Eq.trans (?_ : _ = (outsAt0 m c t.val t.isLt).2.2.1 (ix2 0 j)) ?_
    · rfl
    rw [scale_at]
    show _ = dsArr (ins m c) (((cfg0.win 7).blk t).view.emb (ix2 0 j))
    unfold dsArr
    have h1 : (((cfg0.win 7).blk t).view.emb (ix2 (0 : Fin 1) j) 1).val = j.val := by
      show win0_7.index t (1 : Fin 2) * 1024 + 1 * j.val = _; omega
    rw [h1, h31]
    exact sum_blocks_back _
  · exact (by decide +kernel : (cfg0.win 7).Covers).cover _ (Memref.isWhole_whole _) y

/-- The run: the three results hold the gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0_0) = duArr (ins m c)
      ∧ r.2.mem ((c : Thread nD τ).loc main_v0_1) = dwArr (ins m c)
      ∧ r.2.mem ((c : Thread nD τ).loc main_v0_2) = dsArr (ins m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_du m c), (h c).2.1.trans (final_dw m c), (h c).2.2.1.trans (final_ds m c), (h c).2.2.2⟩)
    (Value.run_blocks m ρ)

end Cert.KernelIdeal.Pool
-- ==== Proof.Pool.Cumsum.lean ====
/- Running sums of a matrix's columns, read at an index, and the window sums that differences of them give. -/
module

public import proofs.«01_k».proof.Proof.Pool.Arrays

@[expose] public section

noncomputable section

namespace Cert.Pool

open Idealize.ShloMosaic

/-- A left fold that adds one term at a time is the start plus the sum of the terms. -/
theorem foldl_plus {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

/-- A sum over the positions of a window of `n` rows and one column is a sum over its rows. -/
theorem sum_window {n : ℕ} (g : (⟨2, ![n, 1]⟩ : Shape).Idx → EReal) : ∑ q, g q = ∑ k : Fin n, g (ix2 k 0) := by
  refine (Fintype.sum_equiv ⟨fun k => ix2 k 0, fun q => q 0, fun k => rfl, fun q => funext fun a => ?_⟩ _ _ fun k => rfl).symm
  match a with
  | ⟨0, _⟩ => rfl
  | ⟨1, _⟩ => exact (Subsingleton.elim (0 : Fin 1) (q 1))

/-- A window sum of a whole column, as a sum over the window's rows: the entry under each row, or the start value where the row is padding. -/
theorem reduce_column {N C lo hi : ℕ} (x : (⟨2, ![N, C]⟩ : Shape).Idx → EReal)
    (h : (⟨2, ![N, C]⟩ : Shape).ReduceWindows ![N, 1] ![1, 1] ![lo, 0] ![hi, 0] ⟨2, ![N, C]⟩) (t : Fin N) (c : Fin C) :
    Ideal.hostReduceWindowAdd ![N, 1] ![1, 1] ![lo, 0] ![hi, 0] h x 0 (ix2 t c)
      = ∑ k ∈ Finset.range N, if lo ≤ t.val + k then at2 x (t.val + k - lo) c.val else 0 := by
  have hc := c.isLt
  unfold Ideal.hostReduceWindowAdd Host.reduceWindow
  dsimp only
  rw [foldl_plus, zero_add]
  refine Eq.trans (Finset.sum_congr rfl fun k _ => dite_congr rfl (fun _ => rfl) fun _ => rfl) ((Equiv.sum_comp (Shape.rowMajor ⟨2, ![N, 1]⟩).symm (fun q : (⟨2, ![N, 1]⟩ : Shape).Idx =>
    if hin : ∀ a : Fin 2, (![lo, 0] : Fin 2 → ℕ) a ≤ ((ix2 t c : (⟨2, ![N, C]⟩ : Shape).Idx) a).val * (![1, 1] : Fin 2 → ℕ) a + (q a).val
        ∧ ((ix2 t c : (⟨2, ![N, C]⟩ : Shape).Idx) a).val * (![1, 1] : Fin 2 → ℕ) a + (q a).val - (![lo, 0] : Fin 2 → ℕ) a < (![N, C] : Fin 2 → ℕ) a
    then x (fun a => ⟨_, (hin a).2⟩) else 0)).trans ?_)
  rw [sum_window, Finset.sum_range]
  refine Finset.sum_congr rfl fun k _ => ?_
  by_cases hin : lo ≤ t.val + k.val
  · rw [if_pos hin]
    unfold at2
    by_cases hlt : t.val + k.val - lo < N
    · rw [dif_pos (fun a => by
        match a with
        | ⟨0, _⟩ => show lo ≤ t.val * 1 + k.val ∧ t.val * 1 + k.val - lo < N; omega
        | ⟨1, _⟩ => show 0 ≤ c.val * 1 + 0 ∧ c.val * 1 + 0 - 0 < C; omega), dif_pos ⟨hlt, hc⟩]
      refine congrArg x (funext fun a => Fin.ext ?_)
      match a with
      | ⟨0, _⟩ => show t.val * 1 + k.val - lo = t.val + k.val - lo; omega
      | ⟨1, _⟩ => show c.val * 1 + 0 - 0 = c.val; omega
    · have hn : ¬(t.val + k.val - lo < N ∧ c.val < C) := fun q => hlt q.1
      simp only [hn, ↓reduceDIte]
      refine dif_neg fun q => ?_
      have := (q 0).2
      change t.val * 1 + k.val - lo < N at this
      omega
  · rw [if_neg hin, dif_neg (fun q => ?_)]
    have := (q 0).1
    change lo ≤ t.val * 1 + k.val at this
    omega

/-- Padding all but one row in front gives the running sum from the first row. -/
theorem running {N C lo : ℕ} (hN : lo + 1 = N) (x : (⟨2, ![N, C]⟩ : Shape).Idx → EReal)
    (h : (⟨2, ![N, C]⟩ : Shape).ReduceWindows ![N, 1] ![1, 1] ![lo, 0] ![0, 0] ⟨2, ![N, C]⟩) (t : Fin N) (c : Fin C) :
    Ideal.hostReduceWindowAdd ![N, 1] ![1, 1] ![lo, 0] ![0, 0] h x 0 (ix2 t c) = ∑ k ∈ Finset.range (t.val + 1), at2 x k c.val := by
  have ht := t.isLt
  have hs : Finset.range N = Finset.range ((lo - t.val) + (t.val + 1)) := congrArg _ (by omega)
  rw [reduce_column, hs, Finset.sum_range_add, Finset.sum_eq_zero (s := Finset.range (lo - t.val)), zero_add]
  · refine Finset.sum_congr rfl fun k _ => ?_
    rw [if_pos (by omega), show t.val + (lo - t.val + k) - lo = k by omega]
  · intro k hk
    have := Finset.mem_range.mp hk
    exact if_neg (by omega)

/-- Padding all but one row behind gives the running sum up to the last row. -/
theorem running_back {N C hi : ℕ} (x : (⟨2, ![N, C]⟩ : Shape).Idx → EReal)
    (h : (⟨2, ![N, C]⟩ : Shape).ReduceWindows ![N, 1] ![1, 1] ![0, 0] ![hi, 0] ⟨2, ![N, C]⟩) (t : Fin N) (c : Fin C) :
    Ideal.hostReduceWindowAdd ![N, 1] ![1, 1] ![0, 0] ![hi, 0] h x 0 (ix2 t c) = ∑ k ∈ Finset.range N, at2 x (t.val + k) c.val := by
  rw [reduce_column]
  exact Finset.sum_congr rfl fun k _ => by rw [if_pos (Nat.zero_le _), Nat.sub_zero]

/-- The running sum at `t` is the sum of the window of `n` rows ending at `t` plus the running sum `n` rows before. -/
theorem running_split (u : ℕ → EReal) (n t : ℕ) :
    ∑ k ∈ Finset.range (t + 1), u k
      = (∑ k ∈ Finset.range n, if k ≤ t then u (t - k) else 0) + (if t < n then 0 else ∑ k ∈ Finset.range (t - n + 1), u k) := by
  by_cases h : t < n
  · have hs : Finset.range n = Finset.range ((t + 1) + (n - (t + 1))) := congrArg _ (by omega)
    rw [if_pos h, add_zero, hs, Finset.sum_range_add _ (t + 1) (n - (t + 1)), Finset.sum_eq_zero (s := Finset.range (n - (t + 1))), add_zero,
      ← Finset.sum_range_reflect]
    · refine Finset.sum_congr rfl fun k hk => ?_
      have := Finset.mem_range.mp hk
      rw [if_pos (by omega), show t + 1 - 1 - k = t - k by omega]
    · intro k _
      exact if_neg (by omega)
  · rw [if_neg h, show t + 1 = (t - n + 1) + n by omega, Finset.sum_range_add, add_comm, ← Finset.sum_range_reflect]
    refine congrArg (· + _) (Finset.sum_congr rfl fun k hk => ?_)
    have := Finset.mem_range.mp hk
    rw [if_pos (by omega), show t - n + 1 + (n - 1 - k) = t - k by omega]

end Cert.Pool
-- ==== Proof.Pool.Finite.lean ====
/- Finite numbers among the extended reals, and the identities of window sums that hold for them. -/
module

public import proofs.«01_k».proof.Proof.Pool.Arrays

@[expose] public section

noncomputable section

namespace Cert.Pool

open Idealize.ShloMosaic

/-- `x` is a real number. -/
def IsReal (x : EReal) : Prop := ∃ r : ℝ, x = (r : EReal)

namespace IsReal

/-- Zero is a real number. -/
theorem zero : IsReal 0 := ⟨0, rfl⟩

/-- A product of real numbers is one. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- A sum of two real numbers is one. -/
theorem add {x y : EReal} (hx : IsReal x) (hy : IsReal y) : IsReal (x + y) := by
  obtain ⟨a, rfl⟩ := hx
  obtain ⟨b, rfl⟩ := hy
  exact ⟨a + b, (EReal.coe_add a b).symm⟩

/-- A finite sum of real numbers is one. -/
theorem sum {f : ℕ → EReal} (n : ℕ) (h : ∀ k, IsReal (f k)) : IsReal (∑ k ∈ Finset.range n, f k) := by
  induction n with
  | zero => simpa using zero
  | succ n ih => rw [Finset.sum_range_succ]; exact ih.add (h n)

/-- A real number divided by a nonzero one is a real number. -/
theorem div {x : EReal} (hx : IsReal x) {r : ℝ} (hr : r ≠ 0) : IsReal (Ideal.div x (r : EReal)) := by
  obtain ⟨a, rfl⟩ := hx
  unfold Ideal.div
  rw [if_neg (by simpa using hr), ← EReal.coe_inv, ← EReal.coe_mul]
  exact ⟨_, rfl⟩

/-- A real number added and taken away again leaves what was there. -/
theorem add_sub {x y : EReal} (hy : IsReal y) : x + y - y = x := by
  obtain ⟨b, rfl⟩ := hy
  exact EReal.add_sub_cancel_right

end IsReal

/-- From the last row back, the running sum of `q` less `q` taken `w` rows later is the sum of the `w` rows from there on, where `q` is
    finite and vanishes after the last row. -/
theorem window_back (q : ℕ → EReal) (hq : ∀ k, IsReal (q k)) (n : ℕ) (h0 : ∀ k, n ≤ k → q k = 0) (w t : ℕ) :
    ∑ k ∈ Finset.range n, (q (t + k) + -q (t + k + w)) = ∑ k ∈ Finset.range w, q (t + k) := by
  choose r hr using hq
  have h0' : ∀ k, n ≤ k → r k = 0 := fun k hk => by
    have := (hr k).symm.trans (h0 k hk)
    exact_mod_cast this
  have hsum : ∀ (f : ℕ → ℝ) (n : ℕ), ((∑ k ∈ Finset.range n, f k : ℝ) : EReal) = ∑ k ∈ Finset.range n, (f k : EReal) := fun f n => by
    induction n with
    | zero => simp
    | succ n ih => rw [Finset.sum_range_succ, Finset.sum_range_succ, EReal.coe_add, ih]
  have key : ∑ k ∈ Finset.range n, (r (t + k) + -r (t + k + w)) = ∑ k ∈ Finset.range w, r (t + k) := by
    have e1 := Finset.sum_range_add (fun k => r (t + k)) n w
    have e2 := Finset.sum_range_add (fun k => r (t + k)) w n
    have e3 : ∑ k ∈ Finset.range w, r (t + (n + k)) = 0 := Finset.sum_eq_zero fun k _ => h0' _ (by omega)
    have e4 : ∑ k ∈ Finset.range n, r (t + k + w) = ∑ k ∈ Finset.range n, r (t + (w + k)) :=
      Finset.sum_congr rfl fun k _ => congrArg r (by omega)
    rw [Nat.add_comm w n] at e2
    rw [Finset.sum_add_distrib, Finset.sum_neg_distrib, e4]
    linarith
  have := congrArg (fun x : ℝ => (x : EReal)) key
  simp only [hsum] at this
  simpa [hr] using this

variable (I : Ins)

/-- All four inputs are finite: of the projection the pooled columns. -/
structure Ins.Finite : Prop where
  dy : ∀ t j, IsReal (I.dy t j)
  u : ∀ t j, j < 1024 → IsReal (I.u t j)
  w : ∀ g c d, IsReal (I.w g c d)
  s : ∀ j, IsReal (I.s j)

/-- A window always has a row. -/
theorem cnt_ne (g t : ℕ) : (((min (t + 1) (Ins.win g) : ℕ) : ℝ)) ≠ 0 := by
  have : 0 < Ins.win g := Nat.pow_pos (by norm_num)
  exact_mod_cast (by omega : min (t + 1) (Ins.win g) ≠ 0)

variable {I}

/-- The cotangent of `dif` is finite. -/
theorem Ins.Finite.ddif (h : I.Finite) (g t c : ℕ) : IsReal (I.ddif g t c) :=
  IsReal.sum _ fun _ => ((h.dy _ _).mul (h.s _)).mul (h.w _ _ _)

/-- A row's share is finite. -/
theorem Ins.Finite.share (h : I.Finite) (g t c : ℕ) : IsReal (I.share g t c) := by
  unfold Ins.share
  split
  · exact (h.ddif g t c).div (cnt_ne g t)
  · exact IsReal.zero

end Cert.Pool
-- ==== Proof.Pool.RefPool.lean ====
/- The reference's window means: differences of running sums, read at an index, are the formula's windows. -/
module

public import proofs.«01_k».proof.Proof.Pool.Cumsum
public import proofs.«01_k».proof.Proof.Pool.Finite
public import proofs.«01_k».proof.Proof.Gen.ReferenceIdeal.Read

@[expose] public section

set_option maxRecDepth 16384

noncomputable section

namespace Cert.ReferenceIdeal.Pool

open Cert.ReferenceIdeal Cert.ReferenceIdeal.Gen Cert.ReferenceIdeal.Read Idealize.ShloMosaic Cert.Pool Cert.Pool.Ins

variable (x0 : S8192x1024.Idx → EReal) (x1 : S8192x9216.Idx → EReal) (x2 : S4x256x256.Idx → EReal) (x3 : S1x1024.Idx → EReal)

/-- The running sum down a column. -/
theorem sum_at (t : Fin 8192) (j : Fin 1024) :
    val_main_v2 (F := Idealize.ShloMosaic.Ideal) x1 (ix2 t j) = ∑ k ∈ Finset.range (t.val + 1), at2 x1 k j.val := by
  have hi : val_main_call0_call0_v0 (F := Idealize.ShloMosaic.Ideal) (Shape.Idx.first h_S_) = 0 := by
    pointwise [val_main_call0_call0_v0, val_main_call0_call0_cst]
  unfold val_main_v2 Host.reduceWindowAdd
  rw [Ideal.hostReduceWindowAdd_def, hi]
  refine (running rfl _ _ t j).trans (Finset.sum_congr rfl fun k hk => ?_)
  have hk' := Finset.mem_range.mp hk
  have hj := j.isLt
  have ht := t.isLt
  refine (at2_ix _ ⟨k, by omega⟩ j).trans ?_
  refine Eq.trans (?_ : _ = x1 (ix2 ⟨k, by omega⟩ ⟨j.val, by omega⟩)) (at2_ix x1 ⟨k, by omega⟩ ⟨j.val, by omega⟩).symm
  pointwise [val_main_v0]

/-- The running sum less the running sum `n` rows before is the window's sum, for finite rows. -/
theorem window_at (hu : ∀ t j, j < 1024 → IsReal (at2 x1 t j)) (n : ℕ) (t : Fin 8192) (j : Fin 1024) :
    (val_main_v2 (F := Idealize.ShloMosaic.Ideal) x1 (ix2 t j)
        - if h : t.val < n then 0 else val_main_v2 (F := Idealize.ShloMosaic.Ideal) x1 (ix2 ⟨t.val - n, lt_of_le_of_lt (Nat.sub_le _ _) t.isLt⟩ j))
      = (insOf x0 x1 x2 x3).wsum n t.val j.val := by
  rw [sum_at, running_split (fun k => at2 x1 k j.val) n t.val]
  by_cases h : t.val < n
  · rw [dif_pos h, if_pos h]
    exact IsReal.add_sub IsReal.zero
  · rw [dif_neg h, if_neg h, sum_at]
    exact IsReal.add_sub (IsReal.sum _ fun k => hu _ _ j.isLt)

/-- The number of rows of a window, as the smaller of the row's number from one and the window's length. -/
theorem count (n t : ℕ) (b : BitVec 32) (hb : Ideal.ofBits .f32 b = ((n : ℝ) : EReal)) (ht : t < 8192) :
    min ((1 : EReal) + FloatOps.sitofp (F := Idealize.ShloMosaic.Ideal) .f32 (BitVec.ofNat 32 t)) (Ideal.ofBits .f32 b) = cnt n t := by
  have e : FloatOps.sitofp (F := Idealize.ShloMosaic.Ideal) .f32 (BitVec.ofNat 32 t) = ((t : ℝ) : EReal) := by
    show (((BitVec.ofNat 32 t).toInt : ℝ) : EReal) = _
    have : (BitVec.ofNat 32 t).toInt = (t : ℤ) := by
      rw [BitVec.toInt_eq_toNat_of_lt (by rw [BitVec.toNat_ofNat]; omega), BitVec.toNat_ofNat]
      omega
    rw [this]
    norm_num
  have e1 : (1 : EReal) + ((t : ℝ) : EReal) = (((t + 1 : ℕ) : ℝ) : EReal) := by
    push_cast
    rw [add_comm]
  rw [e, hb, e1]
  unfold cnt
  rw [Nat.cast_min]
  exact (EReal.coe_strictMono.monotone.map_min).symm

/-- The number of rows of the windows of 2. -/
theorem count0 (t : Fin 8192) : val_main_v13 (F := Idealize.ShloMosaic.Ideal) (ix2 t 0) = cnt 2 t.val := by
  pointwise [val_main_v13, val_main_v12, val_main_v11, val_main_v5, val_main_v4, val_main_cst, val_main_cst_2, val_main_v3]
  exact count 2 _ _ (by simp [Ideal.ofBits, Ideal.ieee]; rw [← EReal.coe_mul]; norm_num) t.isLt

/-- The number of rows of the windows of 4. -/
theorem count1 (t : Fin 8192) : val_main_v24 (F := Idealize.ShloMosaic.Ideal) (ix2 t 0) = cnt 4 t.val := by
  pointwise [val_main_v24, val_main_v23, val_main_v22, val_main_v5, val_main_v4, val_main_cst, val_main_cst_5, val_main_v3]
  exact count 4 _ _ (by simp [Ideal.ofBits, Ideal.ieee]; rw [← EReal.coe_mul]; norm_num) t.isLt

/-- The number of rows of the windows of 8. -/
theorem count2 (t : Fin 8192) : val_main_v35 (F := Idealize.ShloMosaic.Ideal) (ix2 t 0) = cnt 8 t.val := by
  pointwise [val_main_v35, val_main_v34, val_main_v33, val_main_v5, val_main_v4, val_main_cst, val_main_cst_8, val_main_v3]
  exact count 8 _ _ (by simp [Ideal.ofBits, Ideal.ieee]; rw [← EReal.coe_mul]; norm_num) t.isLt

/-- The number of rows of the windows of 16. -/
theorem count3 (t : Fin 8192) : val_main_v46 (F := Idealize.ShloMosaic.Ideal) (ix2 t 0) = cnt 16 t.val := by
  pointwise [val_main_v46, val_main_v45, val_main_v44, val_main_v5, val_main_v4, val_main_cst, val_main_cst_11, val_main_v3]
  exact count 16 _ _ (by simp [Ideal.ofBits, Ideal.ieee]; rw [← EReal.coe_mul]; norm_num) t.isLt

/-- The window means less the rows: the formula's `dif`, for finite rows. -/
theorem dif_at (hu : ∀ t j, j < 1024 → IsReal (at2 x1 t j)) (t : Fin 8192) (g : Fin 4) (c : Fin 256) :
    val_main_v56 (F := Idealize.ShloMosaic.Ideal) x1 (ix3 t g c) = (insOf x0 x1 x2 x3).dif g.val t.val c.val := by
  have hc := c.isLt
  pointwise [val_main_v56, val_main_v54, val_main_v50, val_main_v51, val_main_v52, val_main_v53, val_main_v55, val_main_v0]
  have hg := g.isLt
  have e : x1 (ix2 t ⟨g.val * 256 + c.val, by omega⟩) = (insOf x0 x1 x2 x3).u t.val (256 * g.val + c.val) :=
    ((at2_ix x1 t ⟨g.val * 256 + c.val, by omega⟩).symm.trans (congrArg (at2 x1 t.val) (by dsimp only; omega)))
  refine congrArg₂ (· - ·) ?_ e
  fin_cases g
  · pointwise [val_main_v16, val_main_v15, val_main_v14, val_main_v9, val_main_v8, val_main_v7, val_main_v6, val_main_cst_0]
    refine congrArg₂ Ideal.div ((window_at x0 x1 x2 x3 hu 2 t ⟨c.val, by omega⟩).trans ?_) (count0 t)
    exact congrArg (Ins.wsum _ _ _) (by dsimp only)
  · pointwise [val_main_v27, val_main_v26, val_main_v25, val_main_v20, val_main_v19, val_main_v18, val_main_v17, val_main_cst_3]
    refine congrArg₂ Ideal.div ((window_at x0 x1 x2 x3 hu 4 t ⟨256 + c.val, by omega⟩).trans ?_) (count1 t)
    exact congrArg (Ins.wsum _ _ _) (by dsimp only)
  · pointwise [val_main_v38, val_main_v37, val_main_v36, val_main_v31, val_main_v30, val_main_v29, val_main_v28, val_main_cst_6]
    refine congrArg₂ Ideal.div ((window_at x0 x1 x2 x3 hu 8 t ⟨512 + c.val, by omega⟩).trans ?_) (count2 t)
    exact congrArg (Ins.wsum _ _ _) (by dsimp only)
  · pointwise [val_main_v49, val_main_v48, val_main_v47, val_main_v42, val_main_v41, val_main_v40, val_main_v39, val_main_cst_9]
    refine congrArg₂ Ideal.div ((window_at x0 x1 x2 x3 hu 16 t ⟨768 + c.val, by omega⟩).trans ?_) (count3 t)
    exact congrArg (Ins.wsum _ _ _) (by dsimp only)

end Cert.ReferenceIdeal.Pool
-- ==== Proof.Pool.RefBack.lean ====
/- The reference's three results as the formulas, for finite inputs. -/
module

public import proofs.«01_k».proof.Proof.Pool.RefPool

@[expose] public section

set_option maxRecDepth 16384

noncomputable section

namespace Cert.ReferenceIdeal.Pool

open Cert.ReferenceIdeal Cert.ReferenceIdeal.Gen Cert.ReferenceIdeal.Read Idealize.ShloMosaic Cert.Pool Cert.Pool.Ins

variable (x0 : S8192x1024.Idx → EReal) (x1 : S8192x9216.Idx → EReal) (x2 : S4x256x256.Idx → EReal) (x3 : S1x1024.Idx → EReal)

/-- The cotangent times the scale. -/
theorem dmix_at (t : Fin 8192) (g : Fin 4) (d : Fin 256) :
    val_main_v67 (F := Idealize.ShloMosaic.Ideal) x0 x3 (ix3 t g d) = (insOf x0 x1 x2 x3).dmix g.val t.val d.val := by
  have hd := d.isLt
  have hg := g.isLt
  pointwise [val_main_v67, val_main_v66, val_main_v65]
  refine congrArg₂ (· * ·) ?_ ?_
  · exact ((at2_ix x0 t ⟨g.val * 256 + d.val, by omega⟩).symm.trans (congrArg (at2 x0 t.val) (by dsimp only; omega)))
  · exact ((at2_ix x3 0 ⟨g.val * 256 + d.val, by omega⟩).symm.trans (congrArg (at2 x3 0) (by dsimp only; omega)))

/-- The weights' gradient. -/
theorem dw_at (hu : ∀ t j, j < 1024 → IsReal (at2 x1 t j)) (g : Fin 4) (a b : Fin 256) :
    val_main_v72 (F := Idealize.ShloMosaic.Ideal) x0 x1 x3 (ix3 g a b) = ∑ t ∈ Finset.range 8192, (insOf x0 x1 x2 x3).dwAt g.val a.val b.val t := by
  pointwise [val_main_v72, val_main_v71, val_main_v68]
  rw [Finset.sum_range]
  refine Finset.sum_congr rfl fun t _ => ?_
  rw [dmix_at x0 x1 x2 x3, dif_at x0 x1 x2 x3 hu]
  exact mul_comm _ _

/-- The scale's gradient. -/
theorem ds_at (hu : ∀ t j, j < 1024 → IsReal (at2 x1 t j)) (j : Fin 1024) :
    val_main_v64 (F := Idealize.ShloMosaic.Ideal) x0 x1 x2 (ix2 0 j)
      = ∑ t ∈ Finset.range 8192, (insOf x0 x1 x2 x3).dsAt (j.val / 256) (j.val % 256) t := by
  have hj := j.isLt
  pointwise [val_main_v64, val_main_v63, val_main_v62, val_main_cst_12, val_main_v59, val_main_v58, val_main_v57, val_main_v1]
  rw [Finset.sum_range]
  refine Finset.sum_congr rfl fun t _ => ?_
  unfold dsAt
  rw [mul_comm]
  refine congrArg₂ (· * ·) ?_ ?_
  · exact ((at2_ix x0 t j).symm.trans (congrArg (at2 x0 t.val) (by omega)))
  · unfold mix
    rw [Finset.sum_range]
    refine Finset.sum_congr rfl fun c _ => ?_
    rw [dif_at x0 x1 x2 x3 hu, mul_comm]
    exact congrArg (_ * ·) (at3_ix x2 _ _ _).symm

/-- The cotangent of `dif`. -/
theorem ddif_at (t : Fin 8192) (g : Fin 4) (c : Fin 256) :
    val_main_v70 (F := Idealize.ShloMosaic.Ideal) x0 x2 x3 (ix3 t g c) = (insOf x0 x1 x2 x3).ddif g.val t.val c.val := by
  pointwise [val_main_v70, val_main_v69, val_main_v68, val_main_v1]
  unfold ddif
  rw [Finset.sum_range]
  refine Finset.sum_congr rfl fun d _ => ?_
  rw [dmix_at x0 x1 x2 x3]
  exact congrArg (_ * ·) (at3_ix x2 _ _ _).symm

/-- A row's quotient less the quotient some rows later, where there is one, in the formula's shares. -/
theorem step (q : Fin 8192 → EReal) (w : ℕ) (g t c : ℕ) (ht : t < 8192) (hq : ∀ s : Fin 8192, q s = (insOf x0 x1 x2 x3).share g s.val c) :
    (q ⟨t, ht⟩ + if h : t < 8192 - w then -q ⟨w + t, by omega⟩ else 0)
      = (insOf x0 x1 x2 x3).share g t c + -(insOf x0 x1 x2 x3).share g (t + w) c := by
  by_cases h : t < 8192 - w
  · rw [dif_pos h, hq, hq]
    exact congrArg (fun s => _ + -(insOf x0 x1 x2 x3).share g s c) (Nat.add_comm w t)
  · rw [dif_neg h, hq]
    have e : (insOf x0 x1 x2 x3).share g (t + w) c = 0 := if_neg (by omega)
    rw [e, neg_zero]

/-- A row's share, from its quotient. -/
theorem share_eq (g : ℕ) (t : Fin 8192) (c : ℕ) (x y : EReal) (hx : x = (insOf x0 x1 x2 x3).ddif g t.val c) (hy : y = cnt (win g) t.val) :
    Ideal.div x y = (insOf x0 x1 x2 x3).share g t.val c := by
  unfold share
  rw [if_pos t.isLt, hx, hy]

/-- Group 0's differences. -/
theorem step0 (t : Fin 8192) (c : Fin 256) : val_main_v115 (F := Idealize.ShloMosaic.Ideal) x0 x2 x3 (ix2 t c)
    = (insOf x0 x1 x2 x3).share 0 t.val c.val + -(insOf x0 x1 x2 x3).share 0 (t.val + 2) c.val := by
  pointwise [val_main_v115, val_main_v114, val_main_v113, val_main_v111, val_main_v110, val_main_v109, val_main_v76, val_main_v75, val_main_cst_19]
  exact step x0 x1 x2 x3 (fun s => Ideal.div (val_main_v70 (F := Idealize.ShloMosaic.Ideal) x0 x2 x3 (ix3 s 0 c)) (val_main_v13 (F := Idealize.ShloMosaic.Ideal) (ix2 s 0)))
    2 0 t.val c.val t.isLt fun s => share_eq x0 x1 x2 x3 0 s c.val _ _ (ddif_at x0 x1 x2 x3 s 0 c) (count0 s)

/-- Group 1's differences. -/
theorem step1 (t : Fin 8192) (c : Fin 256) : val_main_v106 (F := Idealize.ShloMosaic.Ideal) x0 x2 x3 (ix2 t c)
    = (insOf x0 x1 x2 x3).share 1 t.val c.val + -(insOf x0 x1 x2 x3).share 1 (t.val + 4) c.val := by
  pointwise [val_main_v106, val_main_v105, val_main_v104, val_main_v102, val_main_v101, val_main_v100, val_main_v78, val_main_v77, val_main_cst_17]
  exact step x0 x1 x2 x3 (fun s => Ideal.div (val_main_v70 (F := Idealize.ShloMosaic.Ideal) x0 x2 x3 (ix3 s 1 c)) (val_main_v24 (F := Idealize.ShloMosaic.Ideal) (ix2 s 0)))
    4 1 t.val c.val t.isLt fun s => share_eq x0 x1 x2 x3 1 s c.val _ _ (ddif_at x0 x1 x2 x3 s 1 c) (count1 s)

/-- Group 2's differences. -/
theorem step2 (t : Fin 8192) (c : Fin 256) : val_main_v97 (F := Idealize.ShloMosaic.Ideal) x0 x2 x3 (ix2 t c)
    = (insOf x0 x1 x2 x3).share 2 t.val c.val + -(insOf x0 x1 x2 x3).share 2 (t.val + 8) c.val := by
  pointwise [val_main_v97, val_main_v96, val_main_v95, val_main_v93, val_main_v92, val_main_v91, val_main_v80, val_main_v79, val_main_cst_15]
  exact step x0 x1 x2 x3 (fun s => Ideal.div (val_main_v70 (F := Idealize.ShloMosaic.Ideal) x0 x2 x3 (ix3 s 2 c)) (val_main_v35 (F := Idealize.ShloMosaic.Ideal) (ix2 s 0)))
    8 2 t.val c.val t.isLt fun s => share_eq x0 x1 x2 x3 2 s c.val _ _ (ddif_at x0 x1 x2 x3 s 2 c) (count2 s)

/-- Group 3's differences. -/
theorem step3 (t : Fin 8192) (c : Fin 256) : val_main_v89 (F := Idealize.ShloMosaic.Ideal) x0 x2 x3 (ix2 t c)
    = (insOf x0 x1 x2 x3).share 3 t.val c.val + -(insOf x0 x1 x2 x3).share 3 (t.val + 16) c.val := by
  pointwise [val_main_v89, val_main_v88, val_main_v87, val_main_v85, val_main_v84, val_main_v83, val_main_v82, val_main_v81, val_main_cst_13]
  exact step x0 x1 x2 x3 (fun s => Ideal.div (val_main_v70 (F := Idealize.ShloMosaic.Ideal) x0 x2 x3 (ix3 s 3 c)) (val_main_v46 (F := Idealize.ShloMosaic.Ideal) (ix2 s 0)))
    16 3 t.val c.val t.isLt fun s => share_eq x0 x1 x2 x3 3 s c.val _ _ (ddif_at x0 x1 x2 x3 s 3 c) (count3 s)

/-- The four groups' differences side by side. -/
theorem steps (t : Fin 8192) (j : Fin 1024) : val_main_v117 (F := Idealize.ShloMosaic.Ideal) x0 x2 x3 (ix2 t j)
    = (insOf x0 x1 x2 x3).share (j.val / 256) t.val (j.val % 256) + -(insOf x0 x1 x2 x3).share (j.val / 256) (t.val + win (j.val / 256)) (j.val % 256) := by
  have hj := j.isLt
  pointwise [val_main_v117, val_main_v116, val_main_v108, val_main_v107, val_main_v99, val_main_v98, val_main_v90, val_main_cst_20, val_main_cst_18, val_main_cst_16, val_main_cst_14]
  rcases (by omega : j.val / 256 = 0 ∨ j.val / 256 = 1 ∨ j.val / 256 = 2 ∨ j.val / 256 = 3) with h | h | h | h
  · rw [dif_neg (by omega), dif_neg (by omega), dif_neg (by omega), dif_pos (by omega), h, show j.val % 256 = j.val by omega]
    simpa [win] using step0 x0 x1 x2 x3 t ⟨j.val, by omega⟩
  · rw [dif_neg (by omega), dif_neg (by omega), dif_pos (by omega), dif_neg (by omega), h, show j.val % 256 = j.val - 256 by omega]
    simpa [win] using step1 x0 x1 x2 x3 t ⟨j.val - 256, by omega⟩
  · rw [dif_neg (by omega), dif_pos (by omega), dif_neg (by omega), dif_neg (by omega), h, show j.val % 256 = j.val - 512 by omega]
    simpa [win] using step2 x0 x1 x2 x3 t ⟨j.val - 512, by omega⟩
  · rw [dif_pos (by omega), dif_neg (by omega), dif_neg (by omega), dif_neg (by omega), h, show j.val % 256 = j.val - 768 by omega]
    simpa [win] using step3 x0 x1 x2 x3 t ⟨j.val - 768, by omega⟩

/-- The gradient of the pooled input. -/
theorem du_at (hI : (insOf x0 x1 x2 x3).Finite) (t : Fin 8192) (j : Fin 1024) :
    val_main_v120 (F := Idealize.ShloMosaic.Ideal) x0 x2 x3 (ix2 t j) = (insOf x0 x1 x2 x3).du (j.val / 256) t.val (j.val % 256) := by
  have hj := j.isLt
  have hi : val_main_call1_call0_v0 (F := Idealize.ShloMosaic.Ideal) (Shape.Idx.first h_S_) = 0 := by
    pointwise [val_main_call1_call0_v0, val_main_call1_call0_cst]
  have hs : val_main_v118 (F := Idealize.ShloMosaic.Ideal) x0 x2 x3 (ix2 t j)
      = ∑ k ∈ Finset.range (win (j.val / 256)), (insOf x0 x1 x2 x3).share (j.val / 256) (t.val + k) (j.val % 256) := by
    unfold val_main_v118 Host.reduceWindowAdd
    rw [Ideal.hostReduceWindowAdd_def, hi]
    refine (running_back _ _ t j).trans (Eq.trans (Finset.sum_congr rfl fun k _ => ?_)
      (window_back (fun s => (insOf x0 x1 x2 x3).share (j.val / 256) s (j.val % 256)) (fun s => hI.share _ s _) 8192
        (fun s hs => if_neg (by omega)) (win (j.val / 256)) t.val))
    by_cases h : t.val + k < 8192
    · exact (at2_ix _ ⟨t.val + k, h⟩ j).trans (steps x0 x1 x2 x3 ⟨t.val + k, h⟩ j)
    · refine (dif_neg fun q => h q.1).trans ?_
      have e1 : (insOf x0 x1 x2 x3).share (j.val / 256) (t.val + k) (j.val % 256) = 0 := if_neg h
      have e2 : (insOf x0 x1 x2 x3).share (j.val / 256) (t.val + k + win (j.val / 256)) (j.val % 256) = 0 := if_neg (by omega)
      simp only [e1, e2, neg_zero, add_zero]
  have hd : val_main_v74 (F := Idealize.ShloMosaic.Ideal) x0 x2 x3 (ix2 t j) = -(insOf x0 x1 x2 x3).ddif (j.val / 256) t.val (j.val % 256) := by
    pointwise [val_main_v74, val_main_v73]
    rw [ddif_at x0 x1 x2 x3]
  pointwise [val_main_v120, val_main_v119]
  rw [hs, hd, add_comm]
  rfl

end Cert.ReferenceIdeal.Pool
-- ==== Proof.Pool.Pre.lean ====
/- The precondition read: the cotangent, the pooled columns of the projection, the weights and the scale are finite. -/
module

public import proofs.«01_k».proof.Pre_finite
public import proofs.«01_k».proof.Proof.Pool.Finite

@[expose] public section

set_option maxRecDepth 16384

noncomputable section

namespace Cert.Pre_finite.Pool

open Cert.Pre_finite Idealize.ShloMosaic Cert.Pool

/-- The shape relations the predicate's operations take. -/
theorem facts : Cert.Pre_finite.Facts where
  bcast_S_S8192x1024 := by decide
  slices_S8192x9216_S8192x1024_0_0 := by decide
  bitsLt_bf16_f32 := by decide
  bcast_S_S4x256x256 := by decide
  bcast_S_S1x1024 := by decide

/-- A number whose absolute value is below infinity is real. -/
theorem real_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨x.toReal, (EReal.coe_toReal hlt.1.ne ?_).symm⟩
  rintro rfl
  simp at hlt

variable [Facts] (x0 : S8192x1024.Idx → EReal) (x1 : S8192x9216.Idx → EReal) (x2 : S4x256x256.Idx → EReal) (x3 : S1x1024.Idx → EReal)

/-- Under the precondition the gradient's inputs are finite. -/
theorem finite (h0 : (fn (F := Idealize.ShloMosaic.Ideal) x0 x1 x2 x3).1 = fun _ => 1#1) (h1 : (fn (F := Idealize.ShloMosaic.Ideal) x0 x1 x2 x3).2.1 = fun _ => 1#1)
    (h2 : (fn (F := Idealize.ShloMosaic.Ideal) x0 x1 x2 x3).2.2.1 = fun _ => 1#1) (h3 : (fn (F := Idealize.ShloMosaic.Ideal) x0 x1 x2 x3).2.2.2 = fun _ => 1#1) :
    (insOf x0 x1 x2 x3).Finite where
  dy t j := by
    show IsReal (at2 x0 t j)
    unfold at2
    split
    · next h => exact real_of_lt _ (congrFun h0 (ix2 ⟨t, h.1⟩ ⟨j, h.2⟩))
    · exact IsReal.zero
  u t j hj := by
    show IsReal (at2 x1 t j)
    unfold at2
    split
    · next h =>
      have e := congrFun h1 (ix2 ⟨t, h.1⟩ ⟨j, hj⟩)
      refine real_of_lt _ (Eq.trans ?_ e)
      pointwise [fn]
      rfl
    · exact IsReal.zero
  w g c d := by
    show IsReal (at3 x2 g c d)
    unfold at3
    split
    · next h => exact real_of_lt _ (congrFun h2 (ix3 ⟨g, h.1⟩ ⟨c, h.2.1⟩ ⟨d, h.2.2⟩))
    · exact IsReal.zero
  s j := by
    show IsReal (at2 x3 0 j)
    unfold at2
    split
    · next h => exact real_of_lt _ (congrFun h3 (ix2 ⟨0, h.1⟩ ⟨j, h.2⟩))
    · exact IsReal.zero

end Cert.Pre_finite.Pool
-- ==== Proof.Norm.Model.lean ====
/- The gradient of an RMS norm followed by a product, row by row over the extended reals, and the identity between its two spellings. -/
module

public import proofs.«01_k».proof.Proof.Pool.Arrays
public import Idealize.ShloMosaic.Lib.Pointwise

@[expose] public section

noncomputable section

namespace Cert.Norm

open Idealize.ShloMosaic Cert.Pool

/-- The number of columns, 2048, as an extended real. -/
def width : EReal := ((2048 : ℝ) : EReal)

/-- The small number added to the mean square: the value of its 32-bit word. -/
def eps : EReal := Ideal.ofBits .f32 0x358637BD#32

/-- A row's mean square plus the small number. -/
def meanSq (x : ℕ → EReal) : EReal := Ideal.div (∑ d ∈ Finset.range 2048, x d * x d) width + eps

/-- The row's factor: one over the root of the above. -/
def root (x : ℕ → EReal) : EReal := Ideal.rsqrt (meanSq x)

/-- The row's inner product of `x` with the scaled cotangent `h g`. -/
def rowDot (x h g : ℕ → EReal) : EReal := ∑ d ∈ Finset.range 2048, x d * (h d * g d)

/-- The row's input gradient, plus the gradient `e` that reaches the input directly. -/
def dx (x h g e : ℕ → EReal) (d : ℕ) : EReal :=
  e d + (root x * (h d * g d) - x d * (root x * root x * root x * Ideal.div (rowDot x h g) width))

/-- The row's share of the scale's gradient. -/
def dg (x h : ℕ → EReal) (d : ℕ) : EReal := h d * (x d * root x)

/-- The inputs of the whole call: the incoming cotangent `a`, the weights `w` of the product, the normalised matrix `x`, the scale
    `g` and the direct gradient `e`; the product sums over `K` terms. -/
structure Ins where
  a : ℕ → ℕ → EReal
  w : ℕ → ℕ → EReal
  x : ℕ → ℕ → EReal
  g : ℕ → EReal
  e : ℕ → ℕ → EReal
  K : ℕ

/-- The inputs from matrices. -/
def insOf {K : ℕ} (a : (⟨2, ![8192, K]⟩ : Shape).Idx → EReal) (w : (⟨2, ![2048, K]⟩ : Shape).Idx → EReal)
    (x : (⟨2, ![8192, 2048]⟩ : Shape).Idx → EReal) (g : (⟨2, ![1, 2048]⟩ : Shape).Idx → EReal) (e : (⟨2, ![8192, 2048]⟩ : Shape).Idx → EReal) : Ins where
  a := at2 a
  w := at2 w
  x := at2 x
  g := at2 g 0
  e := at2 e
  K := K

/-- The cotangent of the normalised rows: the product with the weights, transposed. -/
def Ins.dh (I : Ins) (t d : ℕ) : EReal := ∑ n ∈ Finset.range I.K, I.a t n * I.w d n

/-- The input gradient. -/
def Ins.dx (I : Ins) (t d : ℕ) : EReal := Cert.Norm.dx (I.x t) (I.dh t) I.g (I.e t) d

/-- The scale's gradient. -/
def Ins.dg (I : Ins) (d : ℕ) : EReal := ∑ t ∈ Finset.range 8192, Cert.Norm.dg (I.x t) (I.dh t) d

/-- The input gradient as an array. -/
def dxArr (I : Ins) : (⟨2, ![8192, 2048]⟩ : Shape).Idx → EReal := fun y => I.dx (y 0).val (y 1).val

/-- The scale's gradient as an array. -/
def dgArr (I : Ins) : (⟨2, ![1, 2048]⟩ : Shape).Idx → EReal := fun y => I.dg (y 1).val

/-- Beyond the last column the product is zero. -/
theorem dh_out {K : ℕ} (a : (⟨2, ![8192, K]⟩ : Shape).Idx → EReal) (w : (⟨2, ![2048, K]⟩ : Shape).Idx → EReal)
    (x : (⟨2, ![8192, 2048]⟩ : Shape).Idx → EReal) (g : (⟨2, ![1, 2048]⟩ : Shape).Idx → EReal) (e : (⟨2, ![8192, 2048]⟩ : Shape).Idx → EReal)
    (t d : ℕ) (hd : ¬d < 2048) : (insOf a w x g e).dh t d = 0 :=
  Finset.sum_eq_zero fun n _ => by
    show _ * at2 w d n = 0
    unfold at2
    rw [dif_neg (fun h => hd h.1), mul_zero]

/-- A block of rows of a matrix, row by row. -/
theorem at2_block {R C : ℕ} (B : (⟨2, ![R, C]⟩ : Shape).Idx → EReal) (f : ℕ → EReal) (r : Fin R)
    (h : ∀ d : Fin C, B (ix2 r d) = f d.val) (h0 : ∀ d, ¬d < C → f d = 0) : at2 B r.val = f := by
  funext d
  by_cases hd : d < C
  · exact (at2_ix B r ⟨d, hd⟩).trans (h ⟨d, hd⟩)
  · rw [h0 d hd]
    exact dif_neg (fun hh => hd hh.2)

/-- Beyond the last column a matrix's entry is zero. -/
theorem at2_out {R C : ℕ} (A : (⟨2, ![R, C]⟩ : Shape).Idx → EReal) (t d : ℕ) (hd : ¬d < C) : at2 A t d = 0 := dif_neg fun h => hd h.2

/-- The word of 2048. -/
theorem width_word : Ideal.ofBits .f32 0x45000000#32 = width := by
  simp [Ideal.ofBits, Ideal.ieee, width]; rw [← EReal.coe_mul]; norm_num

/-- The word of minus one half. -/
theorem half_word : Ideal.ofBits .f32 0xBF000000#32 = ((-(1 / 2) : ℝ) : EReal) := by
  simp [Ideal.ofBits, Ideal.ieee]; rw [← EReal.coe_mul]; norm_num

/-- The small number is a positive real. -/
theorem eps_pos : ∃ q : ℝ, 0 < q ∧ eps = (q : EReal) := by
  refine ⟨8796093 / 8796093022208, by positivity, ?_⟩
  unfold eps
  simp [Ideal.ofBits, Ideal.ieee]; rw [← EReal.coe_mul]; norm_num

/-- A square is not negative. -/
theorem sq_nonneg (y : EReal) : 0 ≤ y * y := by
  rcases le_total 0 y with h | h
  · exact mul_nonneg h h
  · have := mul_nonneg (EReal.neg_nonneg.mpr h) (EReal.neg_nonneg.mpr h)
    rwa [neg_mul, mul_neg, neg_neg] at this

/-- The mean square with the small number is a positive real or `⊤`. -/
theorem meanSq_cases (x : ℕ → EReal) : meanSq x = ⊤ ∨ ∃ p : ℝ, 0 < p ∧ meanSq x = (p : EReal) := by
  obtain ⟨q, hq, he⟩ := eps_pos
  have h0 : 0 ≤ ∑ d ∈ Finset.range 2048, x d * x d := Finset.sum_nonneg fun d _ => sq_nonneg (x d)
  unfold meanSq
  rw [he]
  generalize (∑ d ∈ Finset.range 2048, x d * x d) = S at h0 ⊢
  have hw : width ≠ 0 := by unfold width; exact_mod_cast (by norm_num : (2048 : ℝ) ≠ 0)
  have hi : width⁻¹ = (((2048 : ℝ)⁻¹ : ℝ) : EReal) := by unfold width; exact (EReal.coe_inv _).symm
  unfold Ideal.div
  rw [if_neg hw, hi]
  induction S using EReal.rec with
  | bot => exact absurd h0 (by simp)
  | coe s =>
    right
    have hs : (0 : ℝ) ≤ s := by exact_mod_cast h0
    exact ⟨s * 2048⁻¹ + q, by positivity, by push_cast; rfl⟩
  | top =>
    left
    rw [EReal.top_mul_coe_of_pos (by norm_num)]
    exact EReal.top_add_coe q

/-- Twice half a multiple is the multiple, with the sign of the factor. -/
theorem halves (y : EReal) (k : ℝ) (hk : 0 < k) : y * ((-(k / 2) : ℝ) : EReal) + y * ((-(k / 2) : ℝ) : EReal) = -(y * (k : EReal)) := by
  induction y using EReal.rec with
  | bot =>
    rw [EReal.bot_mul_coe_of_neg (by linarith), EReal.bot_mul_coe_of_pos hk]; rfl
  | coe s => exact_mod_cast (by ring : s * -(k / 2) + s * -(k / 2) = -(s * k))
  | top =>
    rw [EReal.top_mul_coe_of_neg (by linarith), EReal.top_mul_coe_of_pos hk]; rfl

/-- The gradient as the chain rule gives it, term by term, is the gradient's closed form: the two halves that reach the input through the
    square are equal, and the derivative of one over a root is minus half its cube. -/
theorem dx_eq (x h g e : ℕ → EReal) (d : ℕ) :
    e d + h d * g d * root x
        + x d * Ideal.div (rowDot x h g * (((-(1 / 2) : ℝ) : EReal) * Ideal.div (root x) (meanSq x))) width
        + Ideal.div (rowDot x h g * (((-(1 / 2) : ℝ) : EReal) * Ideal.div (root x) (meanSq x))) width * x d
      = dx x h g e d := by
  unfold dx root
  generalize rowDot x h g = S
  have hw : width ≠ 0 := by unfold width; exact_mod_cast (by norm_num : (2048 : ℝ) ≠ 0)
  have hi : width⁻¹ = (((2048 : ℝ)⁻¹ : ℝ) : EReal) := by unfold width; exact (EReal.coe_inv _).symm
  rcases meanSq_cases x with hv | ⟨p, hp, hv⟩
  · rw [hv]
    have hr : Ideal.rsqrt ⊤ = 0 := rfl
    rw [hr]
    simp [Ideal.div, hw]
  · rw [hv, Ideal.rsqrt_coe, if_neg (by linarith), if_neg (by linarith)]
    have hp0 : ((p : ℝ) : EReal) ≠ 0 := by exact_mod_cast hp.ne'
    have hs := Real.sqrt_pos.mpr hp
    have hss := Real.mul_self_sqrt hp.le
    generalize Real.sqrt p = q at hs hss ⊢
    unfold Ideal.div
    rw [if_neg hw, if_neg hw, if_neg hp0, hi, ← EReal.coe_inv p]
    have hk : 0 < q⁻¹ * q⁻¹ * q⁻¹ * 2048⁻¹ := by positivity
    have e1 : S * (((-(1 / 2) : ℝ) : EReal) * (((q⁻¹ : ℝ) : EReal) * ((p⁻¹ : ℝ) : EReal))) * (((2048 : ℝ)⁻¹ : ℝ) : EReal)
        = S * ((-((q⁻¹ * q⁻¹ * q⁻¹ * 2048⁻¹) / 2) : ℝ) : EReal) := by
      rw [mul_assoc]
      congr 1
      rw [← hss]
      norm_cast
      field_simp
    have e2 : x d * (((q⁻¹ : ℝ) : EReal) * ((q⁻¹ : ℝ) : EReal) * ((q⁻¹ : ℝ) : EReal) * (S * (((2048 : ℝ)⁻¹ : ℝ) : EReal)))
        = x d * S * ((q⁻¹ * q⁻¹ * q⁻¹ * 2048⁻¹ : ℝ) : EReal) := by
      rw [mul_assoc (x d), mul_left_comm _ S]
      norm_cast
    rw [e1, e2, mul_comm (S * _) (x d), ← mul_assoc, add_assoc, halves _ _ hk, ← sub_eq_add_neg, mul_comm (h d * g d), sub_eq_add_neg,
      sub_eq_add_neg, add_assoc]

end Cert.Norm
-- ==== Proof.Norm.Rows.lean ====
/- Eight rows of the norm's gradient, as the kernel computes them, and blocks read through boxes of eight rows. -/
module

public import proofs.«01_k».proof.Proof.Gen.Kernel2Ideal.Skeleton
public import proofs.«01_k».proof.Proof.Norm.Model
public import proofs.«01_k».proof.Proof.Pool.Strips
public import Idealize.ShloMosaic.Lib.Pipeline.ReadBack

@[expose] public section

set_option maxRecDepth 16384

noncomputable section

namespace Cert.Kernel2Ideal.Norm

open Cert.Kernel2Ideal Cert.Kernel2Ideal.Gen Idealize.ShloMosaic Idealize.SL.Sem Cert.Pool Cert.Norm Cert.Strips

/-- A row of a block read through a box of eight rows is the block's row. -/
theorem at2_ld {Y : Vec Idealize.ShloMosaic.Ideal S512x2048 .f32} {o : ℕ}
    (inb : ∀ a : Fin 2, (![o, 0] : Fin 2 → ℕ) a + (![8, 2048] : Fin 2 → ℕ) a ≤ (![512, 2048] : Fin 2 → ℕ) a) (r : Fin 8) :
    at2 (R := 8) (C := 2048) (View.ld Y (Rect.unit (s := S512x2048) ![o, 0] ![8, 2048] inb)) r.val = at2 (R := 512) (C := 2048) Y (o + r.val) := by
  have hr : o + r.val < 512 := by have := inb 0; have := r.isLt; simp at *; omega
  funext d
  by_cases hd : d < 2048
  · refine (at2_ix (R := 8) (C := 2048) _ r ⟨d, hd⟩).trans ?_
    refine Eq.trans ?_ (at2_ix (R := 512) (C := 2048) Y ⟨o + r.val, hr⟩ ⟨d, hd⟩).symm
    refine (congrArg Y (idx_box (R := 512) (C := 2048) inb r ⟨d, hd⟩ hr (by show 0 + d < 2048; omega))).trans ?_
    congr 2
    exact Fin.ext (Nat.zero_add d)
  · unfold at2
    rw [dif_neg (by omega), dif_neg (by omega)]

section Eight

variable (x h e : Vec Idealize.ShloMosaic.Ideal S8x2048 .f32) (g : Vec Idealize.ShloMosaic.Ideal S1x2048 .f32) (r : Fin 8) (d : Fin 2048)

/-- The rows' factors. -/
theorem root_apply : k0_pay7 (F := Idealize.ShloMosaic.Ideal) x (ix2 r 0) = root (at2 (R := 8) (C := 2048) x r.val) := by
  pointwise [k0_pay7]
  unfold root meanSq
  rw [width_word, Finset.sum_range]
  simp only [at2_ix]
  rfl

/-- Eight rows of the input gradient. -/
theorem dx_apply : k0_pay8 (F := Idealize.ShloMosaic.Ideal) g x h e (ix2 r d)
    = Cert.Norm.dx (at2 (R := 8) (C := 2048) x r.val) (at2 (R := 8) (C := 2048) h r.val) (at2 (R := 1) (C := 2048) g 0) (at2 (R := 8) (C := 2048) e r.val) d.val := by
  have h7 := root_apply x r
  unfold k0_pay8
  generalize k0_pay7 (F := Idealize.ShloMosaic.Ideal) x = y7 at h7 ⊢
  pointwise []
  unfold Cert.Norm.dx rowDot
  rw [h7, width_word, Finset.sum_range]
  simp only [at2_ix]
  simp only [show ∀ k : Fin 2048, at2 (R := 1) (C := 2048) g 0 k.val = g (ix2 0 k) from fun k => at2_ix (R := 1) g 0 k]

/-- Eight rows' shares of the scale's gradient added to what is there. -/
theorem dg_apply (V : Vec Idealize.ShloMosaic.Ideal S8x2048 .f32) : k0_pay13 (F := Idealize.ShloMosaic.Ideal) V x h (ix2 r d)
    = V (ix2 r d) + Cert.Norm.dg (at2 (R := 8) (C := 2048) x r.val) (at2 (R := 8) (C := 2048) h r.val) d.val := by
  have h7 : k0_pay11 (F := Idealize.ShloMosaic.Ideal) x (ix2 r 0) = root (at2 (R := 8) (C := 2048) x r.val) := root_apply x r
  unfold k0_pay13
  generalize k0_pay11 (F := Idealize.ShloMosaic.Ideal) x = y7 at h7 ⊢
  pointwise []
  unfold Cert.Norm.dg
  rw [h7]
  simp only [at2_ix]

/-- The last eight rows' shares added, and the eight partial sums added to the carried gradient. -/
theorem last_apply (V : Vec Idealize.ShloMosaic.Ideal S8x2048 .f32) (z : Vec Idealize.ShloMosaic.Ideal S1x2048 .f32) :
    k0_pay6 (F := Idealize.ShloMosaic.Ideal) V x h (k0_pay7 x) z (ix2 0 d)
      = z (ix2 0 d) + ∑ r ∈ Finset.range 8, (at2 (R := 8) (C := 2048) (k0_pay13 (F := Idealize.ShloMosaic.Ideal) V x h) r d.val) := by
  have e : k0_pay6 (F := Idealize.ShloMosaic.Ideal) V x h (k0_pay7 x) z (ix2 0 d)
      = z (ix2 0 d) + ∑ r : Fin 8, k0_pay13 (F := Idealize.ShloMosaic.Ideal) V x h (ix2 r d) := by
    unfold k0_pay13 k0_pay11 k0_pay7
    pointwise [k0_pay6]
  rw [e, Finset.sum_range]
  simp only [at2_ix]

end Eight

/-- The input gradient of a block of 512 rows. -/
def dxBlock (X H E : Vec Idealize.ShloMosaic.Ideal S512x2048 .f32) (g : Vec Idealize.ShloMosaic.Ideal S1x2048 .f32) : S512x2048.Idx → EReal := fun y =>
  Cert.Norm.dx (at2 (R := 512) (C := 2048) X (y 0).val) (at2 (R := 512) (C := 2048) H (y 0).val) (at2 (R := 1) (C := 2048) g 0)
    (at2 (R := 512) (C := 2048) E (y 0).val) (y 1).val

section Boxes

variable {X H E : Vec Idealize.ShloMosaic.Ideal S512x2048 .f32} {g : Vec Idealize.ShloMosaic.Ideal S1x2048 .f32} {sig : RefSig} {κ : Kind} {sp : Space}
  {v : View sig κ sp S512x2048 .f32}
  {w0 : ∀ a, (![0, 0] : Fin 2 → ℕ) a + S512x2048.size a ≤ S512x2048.size a}

/-- The product's rows, read back from the buffer they were written to. -/
theorem read_rows {o : ℕ} (inb : ∀ a : Fin 2, (![o, 0] : Fin 2 → ℕ) a + (![8, 2048] : Fin 2 → ℕ) a ≤ (![512, 2048] : Fin 2 → ℕ) a) :
    v.readCov (Val := Elt Idealize.ShloMosaic.Ideal) [⟨Rect.unit ![0, 0] S512x2048.size w0, H⟩] (Rect.unit (s := S512x2048) ![o, 0] ![8, 2048] inb).toLoadRect
      = View.ld H (Rect.unit (s := S512x2048) ![o, 0] ![8, 2048] inb) :=
  View.readCov_fill v w0 H [] _ (by intro a; fin_cases a <;> rfl)

/-- The piece of the input gradient that eight rows give is those rows of the block's. -/
theorem dx_piece (o : ℕ) (inb : ∀ a : Fin 2, (![o, 0] : Fin 2 → ℕ) a + (![8, 2048] : Fin 2 → ℕ) a ≤ (![512, 2048] : Fin 2 → ℕ) a)
    (x : (Rect.unit (s := S512x2048) ![o, 0] ![8, 2048] inb).shape.Idx) :
    k0_pay8 (F := Idealize.ShloMosaic.Ideal) g (View.ld X (Rect.unit (s := S512x2048) ![o, 0] ![8, 2048] inb))
        (v.readCov (Val := Elt Idealize.ShloMosaic.Ideal) [⟨Rect.unit ![0, 0] S512x2048.size w0, H⟩] (Rect.unit (s := S512x2048) ![o, 0] ![8, 2048] inb).toLoadRect)
        (View.ld E (Rect.unit (s := S512x2048) ![o, 0] ![8, 2048] inb)) x
      = dxBlock X H E g ((Rect.unit (s := S512x2048) ![o, 0] ![8, 2048] inb).emb x) := by
  obtain ⟨r, d, rfl⟩ := idx2 (R := 8) (C := 2048) x
  have hr : o + r.val < 512 := by have := inb 0; have := r.isLt; simp at *; omega
  rw [read_rows]
  refine (dx_apply _ _ _ _ r d).trans ?_
  rw [at2_ld, at2_ld, at2_ld]
  unfold dxBlock
  have e : (Rect.unit (s := S512x2048) ![o, 0] ![8, 2048] inb).emb (ix2 r d) = ix2 ⟨o + r.val, hr⟩ d :=
    (idx_box (R := 512) (C := 2048) inb r d hr (by have := d.isLt; omega)).trans (by congr 1; exact Fin.ext (Nat.zero_add _))
  rw [e]
  rfl

/-- The same for the copy in the short format, whose values are the same. -/
theorem dxb_piece (o : ℕ) (inb : ∀ a : Fin 2, (![o, 0] : Fin 2 → ℕ) a + (![8, 2048] : Fin 2 → ℕ) a ≤ (![512, 2048] : Fin 2 → ℕ) a)
    (x : (Rect.unit (s := S512x2048) ![o, 0] ![8, 2048] inb).shape.Idx) :
    k0_pay10 (F := Idealize.ShloMosaic.Ideal) g (View.ld X (Rect.unit (s := S512x2048) ![o, 0] ![8, 2048] inb))
        (v.readCov (Val := Elt Idealize.ShloMosaic.Ideal) [⟨Rect.unit ![0, 0] S512x2048.size w0, H⟩] (Rect.unit (s := S512x2048) ![o, 0] ![8, 2048] inb).toLoadRect)
        (View.ld E (Rect.unit (s := S512x2048) ![o, 0] ![8, 2048] inb)) x
      = dxBlock X H E g ((Rect.unit (s := S512x2048) ![o, 0] ![8, 2048] inb).emb x) :=
  dx_piece o inb x

variable (X H)

/-- `V` holds, row by row of eight, the shares of the first `8 n` rows of the block in the scale's gradient. -/
def Partial (n : ℕ) (V : Vec Idealize.ShloMosaic.Ideal S8x2048 .f32) : Prop := ∀ (r : Fin 8) (d : Fin 2048),
  V (ix2 r d) = ∑ k ∈ Finset.range n, Cert.Norm.dg (at2 (R := 512) (C := 2048) X (8 * k + r.val)) (at2 (R := 512) (C := 2048) H (8 * k + r.val)) d.val

variable {X H}

/-- Nothing yet. -/
theorem partial_zero : Partial X H 0 (broadcast S8x2048 (Scalar.ofBits (F := Idealize.ShloMosaic.Ideal) .f32 0x00000000#32)) := fun r d => by
  rw [Finset.sum_range_zero]
  exact Idealize.ShloMosaic.Ideal.ofBits_zero .f32

/-- Eight rows more. -/
theorem partial_succ (n : ℕ) (V : Vec Idealize.ShloMosaic.Ideal S8x2048 .f32) (hV : Partial X H n V)
    (inb : ∀ a : Fin 2, (![8 * n, 0] : Fin 2 → ℕ) a + (![8, 2048] : Fin 2 → ℕ) a ≤ (![512, 2048] : Fin 2 → ℕ) a) :
    Partial X H (n + 1) (k0_pay13 (F := Idealize.ShloMosaic.Ideal) V (View.ld X (Rect.unit (s := S512x2048) ![8 * n, 0] ![8, 2048] inb))
      (v.readCov (Val := Elt Idealize.ShloMosaic.Ideal) [⟨Rect.unit ![0, 0] S512x2048.size w0, H⟩] (Rect.unit (s := S512x2048) ![8 * n, 0] ![8, 2048] inb).toLoadRect)) := fun r d => by
  rw [read_rows, dg_apply, hV, at2_ld, at2_ld, Finset.sum_range_succ]

/-- A sum over consecutive groups of eight rows is the sum over the rows. -/
theorem sum_eights (f : ℕ → EReal) (n : ℕ) : ∑ k ∈ Finset.range n, ∑ r ∈ Finset.range 8, f (8 * k + r) = ∑ t ∈ Finset.range (8 * n), f t := by
  induction n with
  | zero => simp
  | succ n ih => rw [Finset.sum_range_succ, ih, Nat.mul_succ, Finset.sum_range_add]

/-- After the last eight rows the block's 512 rows' shares are added to the carried gradient. -/
theorem last_block (V : Vec Idealize.ShloMosaic.Ideal S8x2048 .f32) (hV : Partial X H 63 V) (z : Vec Idealize.ShloMosaic.Ideal S1x2048 .f32) (d : Fin 2048)
    (inb : ∀ a : Fin 2, (![504, 0] : Fin 2 → ℕ) a + (![8, 2048] : Fin 2 → ℕ) a ≤ (![512, 2048] : Fin 2 → ℕ) a) :
    k0_pay6 (F := Idealize.ShloMosaic.Ideal) V (View.ld X (Rect.unit (s := S512x2048) ![504, 0] ![8, 2048] inb))
        (v.readCov (Val := Elt Idealize.ShloMosaic.Ideal) [⟨Rect.unit ![0, 0] S512x2048.size w0, H⟩] (Rect.unit (s := S512x2048) ![504, 0] ![8, 2048] inb).toLoadRect)
        (k0_pay7 (View.ld X (Rect.unit (s := S512x2048) ![504, 0] ![8, 2048] inb))) z (ix2 0 d)
      = z (ix2 0 d) + ∑ t ∈ Finset.range 512, Cert.Norm.dg (at2 (R := 512) (C := 2048) X t) (at2 (R := 512) (C := 2048) H t) d.val := by
  rw [last_apply]
  congr 1
  rw [← sum_eights _ 64, Finset.sum_comm]
  refine Finset.sum_congr rfl fun r hr => ?_
  have h := partial_succ (v := v) (w0 := w0) 63 V hV inb ⟨r, Finset.mem_range.mp hr⟩ d
  exact (at2_ix (R := 8) (C := 2048) _ ⟨r, Finset.mem_range.mp hr⟩ d).trans h

end Boxes

end Cert.Kernel2Ideal.Norm
-- ==== Proof.Norm.Block.lean ====
/- What one grid point leaves: the partial product, and at a row block's last point the input gradient's and the scale gradient's blocks. -/
module

public import proofs.«01_k».proof.Proof.Norm.Rows
public import proofs.«01_k».proof.Proof.Gen.Kernel2Ideal.Frame

@[expose] public section

set_option maxRecDepth 65536
set_option maxHeartbeats 4000000

noncomputable section

namespace Cert.Kernel2Ideal.Norm

open Cert.Kernel2Ideal Cert.Kernel2Ideal.Gen Idealize.ShloMosaic Idealize.ShloMosaic.TcCoe Idealize.SL.Sem Cert.Pool Cert.Norm Cert.Strips

variable (c : Dev nD) (i : grid0.Coords) (arg2 : Memref sig .tc .vmem S512x2304 .bf16) (harg2 : arg2.IsWhole)
  (arg3 : Memref sig .tc .vmem S2048x2304 .bf16) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S512x2048 .f32) (harg6 : arg6.IsWhole)
  (arg7 : Memref sig .tc .vmem S512x2048 .f32) (harg7 : arg7.IsWhole) (arg8 : Memref sig .tc .vmem S512x2048 .bf16) (harg8 : arg8.IsWhole)
  (arg9 : Memref sig .tc .vmem S1x2048 .f32) (harg9 : arg9.IsWhole) (arg10 : Memref sig .tc .vmem S512x2048 .f32) (harg10 : arg10.IsWhole)
  (x0 : Vec Idealize.ShloMosaic.Ideal S512x2304 .bf16) (x1 : Vec Idealize.ShloMosaic.Ideal S2048x2304 .bf16)
  (x2 : Vec Idealize.ShloMosaic.Ideal S512x2048 .f32) (x3 : Vec Idealize.ShloMosaic.Ideal S1x2048 .f32)
  (x4 : Vec Idealize.ShloMosaic.Ideal S512x2048 .f32) (xo7 : Vec Idealize.ShloMosaic.Ideal S1x2048 .f32)
  (xs0 : Vec Idealize.ShloMosaic.Ideal S512x2048 .f32)

/-- The partial product after a row block's first point. -/
theorem first_A (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 hc0 hc1 hc2 hc3 x0 x1 x2 x3 x4 = k0_pay2 (F := Idealize.ShloMosaic.Ideal) x0 x1 := by
  unfold sout0_A_0
  rw [View.read_writes_junk_eq_canon]
  unfold kernelRun0_A; dsimp only
  sl_unfold_words
  simp only [View.readAt_eq_ld, harg2.read_unread, harg3.read_unread, harg4.read_unread, harg5.read_unread, harg6.read_unread, harg9.read_unread, harg10.read_unread]
  rw [View.canon_unit_zero (by funext a; fin_cases a <;> rfl)]
  simp only [ld_whole]

/-- The same where the point is not the very first. -/
theorem first_D (hc0 : ¬cond0_0 i) (hc1 : cond0_1 i) (hc2 : ¬cond0_2 i) (hc3 : ¬cond0_3 i) :
    sout0_D_0 c i arg2 harg2 arg3 harg3 arg4 harg4 arg5 harg5 arg6 harg6 arg7 harg7 arg8 harg8 arg9 harg9 arg10 harg10 hc0 hc1 hc2 hc3 x0 x1 x2 x3 x4 = k0_pay2 (F := Idealize.ShloMosaic.Ideal) x0 x1 := by
  unfold sout0_D_0
  rw [View.read_writes_junk_eq_canon]
  unfold kernelRun0_D; dsimp only
  sl_unfold_words
  simp only [View.readAt_eq_ld, harg2.read_unread, harg3.read_unread, harg4.read_unread, harg5.read_unread, harg6.read_unread, harg9.read_unread, harg10.read_unread]
  rw [View.canon_unit_zero (by funext a; fin_cases a <;> rfl)]
  simp only [ld_whole]

/-- The partial product after a later point: the point's product added. -/
theorem later_B (hc0 : ¬cond0_0 i) (hc1 : ¬cond0_1 i) (hc2 : cond0_2 i) (hc3 : ¬cond0_3 i) :
    sout0_B_0 c i arg2 harg2 arg3 harg3 arg4 harg4 arg5 harg5 arg6 harg6 arg7 harg7 arg8 harg8 arg9 harg9 arg10 harg10 hc0 hc1 hc2 hc3 x0 x1 x2 x3 x4 xs0 = k0_pay3 (F := Idealize.ShloMosaic.Ideal) xs0 x0 x1 := by
  unfold sout0_B_0
  rw [View.read_writes_junk_eq_canon]
  unfold kernelRun0_B; dsimp only
  sl_unfold_words
  simp only [View.readAt_eq_ld, harg2.read_unread, harg3.read_unread, harg4.read_unread, harg5.read_unread, harg6.read_unread, harg9.read_unread, harg10.read_unread]
  rw [View.canon_unit_zero (by funext a; fin_cases a <;> rfl)]
  simp only [ld_whole]

/-- The scale's gradient is cleared at the very first point. -/
theorem clear_A (hc0 : cond0_0 i) (hc1 : cond0_1 i) (hc2 : ¬cond0_2 i) (hc3 : ¬cond0_3 i) (d : Fin 2048) :
    out0_A_7 c i arg2 harg2 arg3 harg3 arg4 harg4 arg5 harg5 arg6 harg6 arg7 harg7 arg8 harg8 arg9 harg9 arg10 harg10 hc0 hc1 hc2 hc3 x0 x1 x2 x3 x4 (ix2 0 d) = 0 := by
  unfold out0_A_7
  rw [View.read_writes_junk_eq_canon]
  unfold kernelRun0_A; dsimp only
  sl_unfold_words
  rw [View.canon_unit_zero (by funext a; fin_cases a <;> rfl)]
  pointwise [k0_pay1]

variable (hc0 : ¬cond0_0 i) (hc1 : ¬cond0_1 i) (hc2 : cond0_2 i) (hc3 : cond0_3 i)

/-- The row block's input gradient. -/
theorem dx_C : out0_C_5 c i arg2 harg2 arg3 harg3 arg4 harg4 arg5 harg5 arg6 harg6 arg7 harg7 arg8 harg8 arg9 harg9 arg10 harg10 hc0 hc1 hc2 hc3 x0 x1 x2 x3 x4 xo7 xs0 = dxBlock x2 (k0_pay3 (F := Idealize.ShloMosaic.Ideal) xs0 x0 x1) x4 x3 := by
  funext y
  have hy := cover0_C_5 c i arg2 harg2 arg3 harg3 arg4 harg4 arg5 harg5 arg6 harg6 arg7 harg7 arg8 harg8 arg9 harg9 arg10 harg10 hc0 hc1 hc2 hc3 x0 x1 x2 x3 x4 xo7 xs0 y
  unfold out0_C_5
  rw [View.read_writes_junk_eq_canon]
  refine View.canon_apply_of_pieces _ _ (View.PiecesOf.mem ?_) y hy
  unfold kernelRun0_C; dsimp only
  sl_unfold_words
  simp only [View.readAt_eq_ld, harg2.read_unread, harg3.read_unread, harg4.read_unread, harg5.read_unread, harg6.read_unread, harg9.read_unread, harg10.read_unread, ld_whole]
  repeat refine ⟨fun x => dx_piece _ _ x, ?_⟩
  exact trivial

/-- Its copy in the short format. -/
theorem dxb_C : out0_C_6 c i arg2 harg2 arg3 harg3 arg4 harg4 arg5 harg5 arg6 harg6 arg7 harg7 arg8 harg8 arg9 harg9 arg10 harg10 hc0 hc1 hc2 hc3 x0 x1 x2 x3 x4 xo7 xs0 = dxBlock x2 (k0_pay3 (F := Idealize.ShloMosaic.Ideal) xs0 x0 x1) x4 x3 := by
  funext y
  have hy := cover0_C_6 c i arg2 harg2 arg3 harg3 arg4 harg4 arg5 harg5 arg6 harg6 arg7 harg7 arg8 harg8 arg9 harg9 arg10 harg10 hc0 hc1 hc2 hc3 x0 x1 x2 x3 x4 xo7 xs0 y
  unfold out0_C_6
  rw [View.read_writes_junk_eq_canon]
  refine View.canon_apply_of_pieces _ _ (View.PiecesOf.mem ?_) y hy
  unfold kernelRun0_C; dsimp only
  sl_unfold_words
  simp only [View.readAt_eq_ld, harg2.read_unread, harg3.read_unread, harg4.read_unread, harg5.read_unread, harg6.read_unread, harg9.read_unread, harg10.read_unread, ld_whole]
  repeat refine ⟨fun x => dxb_piece _ _ x, ?_⟩
  exact trivial

/-- The scale's gradient: the block's rows added to what was carried. -/
theorem dg_C (d : Fin 2048) : out0_C_7 c i arg2 harg2 arg3 harg3 arg4 harg4 arg5 harg5 arg6 harg6 arg7 harg7 arg8 harg8 arg9 harg9 arg10 harg10 hc0 hc1 hc2 hc3 x0 x1 x2 x3 x4 xo7 xs0 (ix2 0 d) = xo7 (ix2 0 d)
      + ∑ t ∈ Finset.range 512, Cert.Norm.dg (at2 (R := 512) (C := 2048) x2 t) (at2 (R := 512) (C := 2048) (k0_pay3 (F := Idealize.ShloMosaic.Ideal) xs0 x0 x1) t) d.val := by
  unfold out0_C_7
  rw [View.read_writes_junk_eq_canon]
  unfold kernelRun0_C; dsimp only
  sl_unfold_words
  rw [View.canon_unit_zero (by funext a; fin_cases a <;> rfl)]
  simp only [View.readAt_eq_ld, harg2.read_unread, harg3.read_unread, harg4.read_unread, harg5.read_unread, harg6.read_unread, harg9.read_unread, harg10.read_unread, ld_whole]
  refine last_block _ ?_ _ d _
  repeat refine partial_succ _ _ ?_ _
  exact partial_zero

end Cert.Kernel2Ideal.Norm
-- ==== Proof.Norm.Points.lean ====
/- What the product's buffer and the outputs hold after each grid point. -/
module

public import proofs.«01_k».proof.Proof.Norm.Block

@[expose] public section

set_option maxRecDepth 16384

noncomputable section

namespace Cert.Kernel2Ideal.Norm

open Cert.Kernel2Ideal Cert.Kernel2Ideal.Gen Idealize.ShloMosaic Idealize.ShloMosaic.TcCoe Idealize.SL.Sem Cert.Pool Cert.Norm Cert.Strips

variable (m : (ℓ : Loc nD τ sig) → Buf (Elt Idealize.ShloMosaic.Ideal) ℓ) (c : Dev nD)

/-- The gradient's inputs as the arguments hold them. -/
abbrev ins : Cert.Norm.Ins := insOf (m ((c : Thread nD τ).loc main_arg0)) (m ((c : Thread nD τ).loc main_arg1)) (m ((c : Thread nD τ).loc main_arg2))
  (m ((c : Thread nD τ).loc main_arg3)) (m ((c : Thread nD τ).loc main_arg4))

/-- The blocks' places: point `4 i + k` has row block `i` and the product's `k`-th part. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

section Point

variable (t : Fin cfg0.N)

/-- The cotangent's block. -/
theorem a_at (r : Fin 512) (n : Fin 2304) : iblk m c 0 t (ix2 r n) = (ins m c).a (512 * (t.val / 4) + r.val) (2304 * (t.val % 4) + n.val) := by
  have ht : t.val < 64 := lt_of_lt_of_eq t.isLt N_0
  obtain ⟨a0, a1, b0, b1, c0, c1, d0, d1, e0, e1⟩ := idx_facts t
  show V m c main_arg0 (((cfg0.win 0).blk t).view.emb (ix2 r n)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 512 + 1 * r.val = 512 * (t.val / 4) + r.val; omega
  | ⟨1, _⟩ => show win0_0.index t (1 : Fin 2) * 2304 + 1 * n.val = 2304 * (t.val % 4) + n.val; omega

/-- The weights' block. -/
theorem w_at (d : Fin 2048) (n : Fin 2304) : iblk m c 1 t (ix2 d n) = (ins m c).w d.val (2304 * (t.val % 4) + n.val) := by
  have ht : t.val < 64 := lt_of_lt_of_eq t.isLt N_0
  obtain ⟨a0, a1, b0, b1, c0, c1, d0, d1, e0, e1⟩ := idx_facts t
  show V m c main_arg1 (((cfg0.win 1).blk t).view.emb (ix2 d n)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 2048 + 1 * d.val = d.val; omega
  | ⟨1, _⟩ => show win0_1.index t (1 : Fin 2) * 2304 + 1 * n.val = 2304 * (t.val % 4) + n.val; omega

/-- The rows of the normalised matrix. -/
theorem x_at (r : Fin 512) : at2 (R := 512) (C := 2048) (iblk m c 2 t) r.val = (ins m c).x (512 * (t.val / 4) + r.val) := by
  have ht : t.val < 64 := lt_of_lt_of_eq t.isLt N_0
  obtain ⟨a0, a1, b0, b1, c0, c1, d0, d1, e0, e1⟩ := idx_facts t
  refine at2_block _ _ r (fun d => ?_) (fun d => at2_out _ _ d)
  show V m c main_arg2 (((cfg0.win 2).blk t).view.emb (ix2 r d)) = at2 (m ((c : Thread nD τ).loc main_arg2)) _ _
  unfold at2
  rw [dif_pos ⟨by omega, by omega⟩]
  refine congrArg (m ((c : Thread nD τ).loc main_arg2)) (funext fun a => Fin.ext ?_)
  match a with
  | ⟨0, _⟩ => show win0_2.index t (0 : Fin 2) * 512 + 1 * r.val = 512 * (t.val / 4) + r.val; omega
  | ⟨1, _⟩ => show win0_2.index t (1 : Fin 2) * 2048 + 1 * d.val = d.val; omega

/-- The scale. -/
theorem g_at : at2 (R := 1) (C := 2048) (iblk m c 3 t) 0 = (ins m c).g := by
  obtain ⟨a0, a1, b0, b1, c0, c1, d0, d1, e0, e1⟩ := idx_facts t
  refine at2_block (R := 1) _ _ 0 (fun d => ?_) (fun d => at2_out _ _ d)
  show V m c main_arg3 (((cfg0.win 3).blk t).view.emb (ix2 0 d)) = at2 (m ((c : Thread nD τ).loc main_arg3)) _ _
  refine Eq.trans ?_ (at2_ix (R := 1) _ 0 d).symm
  refine congrArg (m ((c : Thread nD τ).loc main_arg3)) (funext fun a => Fin.ext ?_)
  match a with
  | ⟨0, _⟩ => show win0_3.index t (0 : Fin 2) * 1 + 1 * 0 = 0; omega
  | ⟨1, _⟩ => show win0_3.index t (1 : Fin 2) * 2048 + 1 * d.val = d.val; omega

/-- The rows of the direct gradient. -/
theorem e_at (r : Fin 512) : at2 (R := 512) (C := 2048) (iblk m c 4 t) r.val = (ins m c).e (512 * (t.val / 4) + r.val) := by
  have ht : t.val < 64 := lt_of_lt_of_eq t.isLt N_0
  obtain ⟨a0, a1, b0, b1, c0, c1, d0, d1, e0, e1⟩ := idx_facts t
  refine at2_block _ _ r (fun d => ?_) (fun d => at2_out _ _ d)
  show V m c main_arg4 (((cfg0.win 4).blk t).view.emb (ix2 r d)) = at2 (m ((c : Thread nD τ).loc main_arg4)) _ _
  unfold at2
  rw [dif_pos ⟨by omega, by omega⟩]
  refine congrArg (m ((c : Thread nD τ).loc main_arg4)) (funext fun a => Fin.ext ?_)
  match a with
  | ⟨0, _⟩ => show win0_4.index t (0 : Fin 2) * 512 + 1 * r.val = 512 * (t.val / 4) + r.val; omega
  | ⟨1, _⟩ => show win0_4.index t (1 : Fin 2) * 2048 + 1 * d.val = d.val; omega

/-- The point's part of the product. -/
theorem part_at (r : Fin 512) (d : Fin 2048) : k0_pay2 (F := Idealize.ShloMosaic.Ideal) (iblk m c 0 t) (iblk m c 1 t) (ix2 r d)
    = ∑ n ∈ Finset.range 2304, (ins m c).a (512 * (t.val / 4) + r.val) (2304 * (t.val % 4) + n) * (ins m c).w d.val (2304 * (t.val % 4) + n) := by
  have e : ∀ (A : Vec Idealize.ShloMosaic.Ideal S512x2304 .bf16) (W : Vec Idealize.ShloMosaic.Ideal S2048x2304 .bf16),
      k0_pay2 (F := Idealize.ShloMosaic.Ideal) A W (ix2 r d) = ∑ n : Fin 2304, A (ix2 r n) * W (ix2 d n) := fun A W => by
    pointwise [k0_pay2]
  rw [e, Finset.sum_range]
  exact Finset.sum_congr rfl fun n _ => congrArg₂ (· * ·) (a_at m c t r n) (w_at m c t d n)

/-- A later point's product is added to what the buffer held. -/
theorem add_part (A : Vec Idealize.ShloMosaic.Ideal S512x2048 .f32) (a : Vec Idealize.ShloMosaic.Ideal S512x2304 .bf16)
    (w : Vec Idealize.ShloMosaic.Ideal S2048x2304 .bf16) (r : Fin 512) (d : Fin 2048) :
    k0_pay3 (F := Idealize.ShloMosaic.Ideal) A a w (ix2 r d) = A (ix2 r d) + k0_pay2 (F := Idealize.ShloMosaic.Ideal) a w (ix2 r d) := by
  pointwise [k0_pay3, k0_pay2]

/-- The buffer after a row block's first point. -/
theorem acc_first (h1 : t.val % 4 = 0) : (outsAt0 m c t.val t.isLt).2.2.2 = k0_pay2 (F := Idealize.ShloMosaic.Ideal) (iblk m c 0 t) (iblk m c 1 t) := by
  by_cases h0 : t.val % 64 = 0
  · rw [outsAt0_A m c t h0 h1 (by omega) (by omega)]; dsimp only
    exact first_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (iblk m c 0 t) (iblk m c 1 t) (iblk m c 2 t) (iblk m c 3 t) (iblk m c 4 t) _ _ _ _
  · rw [outsAt0_D m c t h0 h1 (by omega) (by omega)]; dsimp only
    exact first_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (iblk m c 0 t) (iblk m c 1 t) (iblk m c 2 t) (iblk m c 3 t) (iblk m c 4 t) _ _ _ _

/-- The buffer after a later point, the last excepted. -/
theorem acc_later (h1 : ¬t.val % 4 = 0) (h3 : ¬t.val % 4 = 3) : (outsAt0 m c t.val t.isLt).2.2.2
    = k0_pay3 (F := Idealize.ShloMosaic.Ideal) (outsAt0 m c (t.val - 1) (Nat.lt_of_le_of_lt (Nat.sub_le _ _) t.isLt)).2.2.2 (iblk m c 0 t) (iblk m c 1 t) := by
  rw [outsAt0_B m c t (by omega) h1 (by omega) h3]; dsimp only
  exact later_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (iblk m c 0 t) (iblk m c 1 t) (iblk m c 2 t) (iblk m c 3 t) (iblk m c 4 t) _ _ _ _ _

/-- The row block's last point: the two copies of the input gradient and the scale's gradient. -/
theorem outs_last (h3 : t.val % 4 = 3) :
    (outsAt0 m c t.val t.isLt).1 = dxBlock (iblk m c 2 t) (k0_pay3 (F := Idealize.ShloMosaic.Ideal) (outsAt0 m c (t.val - 1) (Nat.lt_of_le_of_lt (Nat.sub_le _ _) t.isLt)).2.2.2 (iblk m c 0 t) (iblk m c 1 t)) (iblk m c 4 t) (iblk m c 3 t)
    ∧ (outsAt0 m c t.val t.isLt).2.1 = dxBlock (iblk m c 2 t) (k0_pay3 (F := Idealize.ShloMosaic.Ideal) (outsAt0 m c (t.val - 1) (Nat.lt_of_le_of_lt (Nat.sub_le _ _) t.isLt)).2.2.2 (iblk m c 0 t) (iblk m c 1 t)) (iblk m c 4 t) (iblk m c 3 t)
    ∧ ∀ d : Fin 2048, (outsAt0 m c t.val t.isLt).2.2.1 (ix2 0 d) = (outsAt0 m c (t.val - 1) (Nat.lt_of_le_of_lt (Nat.sub_le _ _) t.isLt)).2.2.1 (ix2 0 d)
      + ∑ k ∈ Finset.range 512, Cert.Norm.dg (at2 (R := 512) (C := 2048) (iblk m c 2 t) k)
        (at2 (R := 512) (C := 2048) (k0_pay3 (F := Idealize.ShloMosaic.Ideal) (outsAt0 m c (t.val - 1) (Nat.lt_of_le_of_lt (Nat.sub_le _ _) t.isLt)).2.2.2 (iblk m c 0 t) (iblk m c 1 t)) k) d.val := by
  rw [outsAt0_C m c t (by omega) (by omega) (by omega) h3]; dsimp only
  exact ⟨dx_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (iblk m c 0 t) (iblk m c 1 t) (iblk m c 2 t) (iblk m c 3 t) (iblk m c 4 t) _ _ _ _ _ _,
    dxb_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (iblk m c 0 t) (iblk m c 1 t) (iblk m c 2 t) (iblk m c 3 t) (iblk m c 4 t) _ _ _ _ _ _,
    fun d => dg_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (iblk m c 0 t) (iblk m c 1 t) (iblk m c 2 t) (iblk m c 3 t) (iblk m c 4 t) _ _ _ _ _ _ d⟩

/-- Between a row block's last points the scale's gradient stays as it was. -/
theorem dg_kept (h0 : ¬t.val % 64 = 0) (h3 : ¬t.val % 4 = 3) : (outsAt0 m c t.val t.isLt).2.2.1 = (outsAt0 m c (t.val - 1) (Nat.lt_of_le_of_lt (Nat.sub_le _ _) t.isLt)).2.2.1 := by
  by_cases h1 : t.val % 4 = 0
  · rw [outsAt0_D m c t h0 h1 (by omega) h3]; try rfl
  · rw [outsAt0_B m c t h0 h1 (by omega) h3]; rfl

/-- At the very first point it is cleared. -/
theorem dg_clear (h0 : t.val % 64 = 0) (d : Fin 2048) : (outsAt0 m c t.val t.isLt).2.2.1 (ix2 0 d) = 0 := by
  rw [outsAt0_A m c t h0 (by omega) (by omega) (by omega)]; dsimp only
  exact clear_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
        (iblk m c 0 t) (iblk m c 1 t) (iblk m c 2 t) (iblk m c 3 t) (iblk m c 4 t) _ _ _ _ d

end Point

/-- The buffer after point `n`, the row block's last excepted: the product's parts so far. -/
theorem acc_at (n : ℕ) (hn : n < cfg0.N) (h3 : ¬n % 4 = 3) (r : Fin 512) (d : Fin 2048) : (outsAt0 m c n hn).2.2.2 (ix2 r d)
    = ∑ k ∈ Finset.range (2304 * (n % 4 + 1)), (ins m c).a (512 * (n / 4) + r.val) k * (ins m c).w d.val k := by
  induction n with
  | zero =>
    rw [show (outsAt0 m c 0 hn).2.2.2 = _ from acc_first m c ⟨0, hn⟩ rfl, part_at]
    simp
  | succ n ih =>
    by_cases h1 : (n + 1) % 4 = 0
    · rw [show (outsAt0 m c (n + 1) hn).2.2.2 = _ from acc_first m c ⟨n + 1, hn⟩ h1, part_at]
      simp [h1]
    · rw [show (outsAt0 m c (n + 1) hn).2.2.2 = _ from acc_later m c ⟨n + 1, hn⟩ h1 h3, add_part, part_at]
      refine (congrArg (· + _) (ih (by omega) (by omega))).trans ?_
      dsimp only
      rw [show (n + 1) / 4 = n / 4 by omega, show (n + 1) % 4 = n % 4 + 1 by omega, Nat.mul_succ 2304 (n % 4 + 1), Finset.sum_range_add]

/-- At a row block's last point the whole product is there. -/
theorem dh_at (t : Fin cfg0.N) (h3 : t.val % 4 = 3) (r : Fin 512) :
    at2 (R := 512) (C := 2048) (k0_pay3 (F := Idealize.ShloMosaic.Ideal) (outsAt0 m c (t.val - 1) (Nat.lt_of_le_of_lt (Nat.sub_le _ _) t.isLt)).2.2.2 (iblk m c 0 t) (iblk m c 1 t)) r.val
      = (ins m c).dh (512 * (t.val / 4) + r.val) := by
  refine at2_block _ _ r (fun d => ?_) (fun d => dh_out _ _ _ _ _ _ d)
  rw [add_part, part_at, acc_at m c _ _ (by omega)]
  show _ = ∑ n ∈ Finset.range 9216, _
  rw [show (t.val - 1) / 4 = t.val / 4 by omega, show (t.val - 1) % 4 = 2 by omega, h3]
  exact (Finset.sum_range_add _ 6912 2304).symm

/-- A block of the input gradient at an entry. -/
theorem dxBlock_at (X H E : S512x2048.Idx → EReal) (g : S1x2048.Idx → EReal) (r : Fin 512) (d : Fin 2048) :
    dxBlock X H E g (ix2 r d) = Cert.Norm.dx (at2 X r.val) (at2 H r.val) (at2 g 0) (at2 E r.val) d.val := rfl

/-- The input gradient's rows at a row block's last point. -/
theorem dx_at (t : Fin cfg0.N) (h3 : t.val % 4 = 3) (r : Fin 512) (d : Fin 2048) :
    (outsAt0 m c t.val t.isLt).1 (ix2 r d) = (ins m c).dx (512 * (t.val / 4) + r.val) d.val := by
  rw [(outs_last m c t h3).1]
  rw [dxBlock_at, x_at, dh_at m c t h3, g_at, e_at]
  rfl

/-- The same for its copy. -/
theorem dxb_at (t : Fin cfg0.N) (h3 : t.val % 4 = 3) (r : Fin 512) (d : Fin 2048) :
    (outsAt0 m c t.val t.isLt).2.1 (ix2 r d) = (ins m c).dx (512 * (t.val / 4) + r.val) d.val := by
  rw [(outs_last m c t h3).2.1]
  rw [dxBlock_at, x_at, dh_at m c t h3, g_at, e_at]
  rfl

/-- The scale's gradient after point `n`: the rows of the row blocks done. -/
theorem dg_at (n : ℕ) (hn : n < cfg0.N) (d : Fin 2048) : (outsAt0 m c n hn).2.2.1 (ix2 0 d)
    = ∑ k ∈ Finset.range (512 * ((n + 1) / 4)), Cert.Norm.dg ((ins m c).x k) ((ins m c).dh k) d.val := by
  have hN : cfg0.N = 64 := N_0
  induction n with
  | zero => exact (dg_clear m c ⟨0, hn⟩ rfl d).trans (by simp)
  | succ n ih =>
    by_cases h3 : (n + 1) % 4 = 3
    · refine ((outs_last m c ⟨n + 1, hn⟩ h3).2.2 d).trans ?_
      refine (congrArg (· + _) (ih (by omega))).trans ?_
      rw [show (n + 1 + 1) / 4 = (n + 1) / 4 + 1 by omega, Nat.mul_succ, Finset.sum_range_add]
      congr 1
      refine Finset.sum_congr rfl fun k hk => ?_
      have hk' := Finset.mem_range.mp hk
      rw [show k = (⟨k, hk'⟩ : Fin 512).val from rfl, x_at, dh_at m c ⟨n + 1, hn⟩ h3]
    · rw [show (outsAt0 m c (n + 1) hn).2.2.1 = _ from dg_kept m c ⟨n + 1, hn⟩ (by show ¬(n + 1) % 64 = 0; omega) h3]
      refine (ih (by omega)).trans ?_
      rw [show (n + 1 + 1) / 4 = (n + 1) / 4 by omega]

end Cert.Kernel2Ideal.Norm
-- ==== Proof.Norm.Final.lean ====
/- The three result arrays after the run. -/
module

public import proofs.«01_k».proof.Proof.Norm.Points
public import proofs.«01_k».proof.Proof.Gen.Kernel2Ideal.Value
public import Idealize.ShloMosaic.Lib.Pipeline.ValueKit

@[expose] public section

set_option maxRecDepth 16384

noncomputable section

namespace Cert.Kernel2Ideal.Norm

open Cert.Kernel2Ideal Cert.Kernel2Ideal.Gen Idealize.ShloMosaic Idealize.ShloMosaic.TcCoe Idealize.SL.Sem Cert.Pool Cert.Norm Cert.Strips

variable (m : (ℓ : Loc nD τ sig) → Buf (Elt Idealize.ShloMosaic.Ideal) ℓ) (ρ : Dev nD → PrngReg) (c : Dev nD)

/-- Where the outputs' blocks lie. -/
theorem out_facts : ∀ t : Fin cfg0.N,
    win0_5.index t (0 : Fin 2) = t.val / 4 ∧ win0_5.index t (1 : Fin 2) = 0
    ∧ win0_6.index t (0 : Fin 2) = t.val / 4 ∧ win0_6.index t (1 : Fin 2) = 0
    ∧ win0_7.index t (0 : Fin 2) = 0 ∧ win0_7.index t (1 : Fin 2) = 0 :=
  (by decide +kernel : ∀ t : Fin grid0.N, _)

/-- The first result holds the input gradient. -/
theorem final_dx : (dats m 0 c).arrAt 5 cfg0.N = dxArr (ins m c) := by
  have hN : cfg0.N = 64 := N_0
  refine (dats m 0 c).arrAt_eq_of_cover 5 (dxArr (ins m c)) (fun t hf => ?_) (fun (y : S8192x2048.Idx) => ?_)
  · have h3 : t.val % 4 = 3 := (flush0_5 t).mp hf
    have ef := out_facts t
    rw [Value.flushed5]
    funext y
    obtain ⟨r, j, rfl⟩ := idx2 y
    refine Eq.trans (?_ : _ = (outsAt0 m c t.val t.isLt).1 (ix2 r j)) ?_
    · rfl
    rw [dx_at m c t h3]
    show _ = dxArr (ins m c) (((cfg0.win 5).blk t).view.emb (ix2 r j))
    unfold dxArr
    have h0 : (((cfg0.win 5).blk t).view.emb (ix2 r j) 0).val = 512 * (t.val / 4) + r.val := by
      show win0_5.index t (0 : Fin 2) * 512 + 1 * r.val = _; omega
    have h1 : (((cfg0.win 5).blk t).view.emb (ix2 r j) 1).val = j.val := by
      show win0_5.index t (1 : Fin 2) * 2048 + 1 * j.val = _; omega
    rw [h0, h1]
  · exact (by decide +kernel : (cfg0.win 5).Covers).cover _ (Memref.isWhole_whole _) y

/-- The second result holds the input gradient. -/
theorem final_dxb : (dats m 0 c).arrAt 6 cfg0.N = dxArr (ins m c) := by
  have hN : cfg0.N = 64 := N_0
  refine (dats m 0 c).arrAt_eq_of_cover 6 (dxArr (ins m c)) (fun t hf => ?_) (fun (y : S8192x2048.Idx) => ?_)
  · have h3 : t.val % 4 = 3 := (flush0_6 t).mp hf
    have ef := out_facts t
    rw [Value.flushed6]
    funext y
    obtain ⟨r, j, rfl⟩ := idx2 y
    refine Eq.trans (?_ : _ = (outsAt0 m c t.val t.isLt).2.1 (ix2 r j)) ?_
    · rfl
    rw [dxb_at m c t h3]
    show _ = dxArr (ins m c) (((cfg0.win 6).blk t).view.emb (ix2 r j))
    unfold dxArr
    have h0 : (((cfg0.win 6).blk t).view.emb (ix2 r j) 0).val = 512 * (t.val / 4) + r.val := by
      show win0_6.index t (0 : Fin 2) * 512 + 1 * r.val = _; omega
    have h1 : (((cfg0.win 6).blk t).view.emb (ix2 r j) 1).val = j.val := by
      show win0_6.index t (1 : Fin 2) * 2048 + 1 * j.val = _; omega
    rw [h0, h1]
  · exact (by decide +kernel : (cfg0.win 6).Covers).cover _ (Memref.isWhole_whole _) y

/-- The third result holds the scale's gradient. -/
theorem final_dg : (dats m 0 c).arrAt 7 cfg0.N = dgArr (ins m c) := by
  have hN : cfg0.N = 64 := N_0
  refine (dats m 0 c).arrAt_eq_of_cover 7 (dgArr (ins m c)) (fun t hf => ?_) (fun (y : S1x2048.Idx) => ?_)
  · have ht : t.val < 64 := lt_of_lt_of_eq t.isLt N_0
    have h63 : t.val = 63 := by have := (flush0_7 t).mp hf; omega
    have ef := out_facts t
    rw [Value.flushed7]
    funext y
    obtain ⟨r, j, rfl⟩ := idx2 y
    obtain rfl : r = 0 := Subsingleton.elim _ _
    refine Eq.trans (?_ : _ = (outsAt0 m c t.val t.isLt).2.2.1 (ix2 0 j)) ?_
    · rfl
    rw [dg_at]
    show _ = dgArr (ins m c) (((cfg0.win 7).blk t).view.emb (ix2 0 j))
    unfold dgArr
    have h1 : (((cfg0.win 7).blk t).view.emb (ix2 (0 : Fin 1) j) 1).val = j.val := by
      show win0_7.index t (1 : Fin 2) * 2048 + 1 * j.val = _; omega
    rw [h1, h63]
    rfl
  · exact (by decide +kernel : (cfg0.win 7).Covers).cover _ (Memref.isWhole_whole _) y

/-- The run: the three results hold the gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0_0) = dxArr (ins m c)
      ∧ r.2.mem ((c : Thread nD τ).loc main_v0_1) = dxArr (ins m c)
      ∧ r.2.mem ((c : Thread nD τ).loc main_v0_2) = dgArr (ins m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_dx m c), (h c).2.1.trans (final_dxb m c), (h c).2.2.1.trans (final_dg m c), (h c).2.2.2⟩)
    (Value.run_blocks m ρ)

end Cert.Kernel2Ideal.Norm
-- ==== Proof.Norm.Ref2.lean ====
/- The reference of the projected input's gradient, read at an index: it is the gradient's formulas. -/
module

public import proofs.«01_k».proof.Proof.Norm.Model
public import proofs.«01_k».proof.Proof.Gen.Reference2Ideal.Read

@[expose] public section

set_option maxRecDepth 16384

noncomputable section

namespace Cert.Reference2Ideal.Norm

open Cert.Reference2Ideal Cert.Reference2Ideal.Gen Cert.Reference2Ideal.Read Idealize.ShloMosaic Cert.Pool Cert.Norm

variable (x0 : S8192x9216.Idx → EReal) (x1 : S2048x9216.Idx → EReal) (x2 : S8192x2048.Idx → EReal) (x3 : S1x2048.Idx → EReal)
  (x4 : S8192x2048.Idx → EReal) (t : Fin 8192) (d : Fin 2048)

/-- The mean square of a row plus the small number. -/
theorem v7_at : val_main_v7 (F := Idealize.ShloMosaic.Ideal) x2 (ix2 t 0) = meanSq (at2 x2 t.val) := by
  pointwise [val_main_v7, val_main_v6, val_main_cst_1, val_main_v5, val_main_v4, val_main_cst_0, val_main_v3, val_main_v2, val_main_cst, val_main_v1]
  unfold meanSq
  rw [width_word, Finset.sum_range]
  simp only [at2_ix]
  rfl

/-- One over its root. -/
theorem v8_at : val_main_v8 (F := Idealize.ShloMosaic.Ideal) x2 (ix2 t 0) = root (at2 x2 t.val) := by
  unfold val_main_v8 root
  rw [← v7_at]
  rfl

/-- Minus half of that over the mean square. -/
theorem v11_at : val_main_v11 (F := Idealize.ShloMosaic.Ideal) x2 (ix2 t 0)
    = ((-(1 / 2) : ℝ) : EReal) * Ideal.div (root (at2 x2 t.val)) (meanSq (at2 x2 t.val)) := by
  have h7 := v7_at x2 t
  have h8 := v8_at x2 t
  unfold val_main_v11 val_main_v9
  generalize val_main_v7 (F := Idealize.ShloMosaic.Ideal) x2 = y7 at h7 ⊢
  generalize val_main_v8 (F := Idealize.ShloMosaic.Ideal) x2 = y8 at h8 ⊢
  pointwise [val_main_v10, val_main_cst_2]
  rw [h7, h8]
  rw [half_word]

/-- The cotangent of the normalised rows. -/
theorem v18_at : val_main_v18 (F := Idealize.ShloMosaic.Ideal) x0 x1 (ix2 t d) = (insOf x0 x1 x2 x3 x4).dh t.val d.val := by
  pointwise [val_main_v18, val_main_v17, val_main_v0]
  unfold Ins.dh
  rw [Finset.sum_range]
  exact Finset.sum_congr rfl fun k _ => (congrArg₂ (· * ·) (at2_ix x0 t k) (at2_ix x1 d k)).symm

/-- The scale's gradient. -/
theorem dg_at : val_main_v21 (F := Idealize.ShloMosaic.Ideal) x0 x1 x2 (ix2 0 d) = (insOf x0 x1 x2 x3 x4).dg d.val := by
  have h8 := v8_at x2
  have h18 := fun t => v18_at x0 x1 x2 x3 x4 t d
  unfold val_main_v21 val_main_v20 val_main_v19 val_main_v13 val_main_v12
  generalize val_main_v8 (F := Idealize.ShloMosaic.Ideal) x2 = y8 at h8 ⊢
  generalize val_main_v18 (F := Idealize.ShloMosaic.Ideal) x0 x1 = y18 at h18 ⊢
  pointwise [val_main_cst_3]
  unfold Ins.dg
  rw [Finset.sum_range]
  refine Finset.sum_congr rfl fun t _ => ?_
  rw [h8, h18]
  unfold Cert.Norm.dg
  rw [mul_comm, show (insOf x0 x1 x2 x3 x4).x t.val d.val = x2 (ix2 t d) from at2_ix x2 t d]
  rfl

/-- The inner product of a row of `x` with its scaled cotangent. -/
theorem v26_at : val_main_v26 (F := Idealize.ShloMosaic.Ideal) x0 x1 x2 x3 (ix2 t 0)
    = rowDot (at2 x2 t.val) ((insOf x0 x1 x2 x3 x4).dh t.val) (at2 x3 0) := by
  have h18 := v18_at x0 x1 x2 x3 x4 t
  unfold val_main_v26 val_main_v25 val_main_v24 val_main_v23 val_main_v22
  generalize val_main_v18 (F := Idealize.ShloMosaic.Ideal) x0 x1 = y18 at h18 ⊢
  pointwise [val_main_cst_4]
  unfold rowDot
  rw [Finset.sum_range]
  refine Finset.sum_congr rfl fun k _ => ?_
  rw [h18, at2_ix, show at2 x3 0 k.val = x3 (ix2 0 k) from at2_ix x3 0 k]

/-- The input gradient. -/
theorem dx_at : val_main_v38 (F := Idealize.ShloMosaic.Ideal) x0 x1 x2 x3 x4 (ix2 t d) = (insOf x0 x1 x2 x3 x4).dx t.val d.val := by
  have h8 := v8_at x2 t
  have h11 := v11_at x2 t
  have h18 := v18_at x0 x1 x2 x3 x4 t
  have h26 := v26_at x0 x1 x2 x3 x4 t
  unfold val_main_v38 val_main_v37 val_main_v36 val_main_v35 val_main_v34 val_main_v33 val_main_v32 val_main_v30 val_main_v29 val_main_v28
    val_main_v27 val_main_v23 val_main_v22
  generalize val_main_v8 (F := Idealize.ShloMosaic.Ideal) x2 = y8 at h8 ⊢
  generalize val_main_v11 (F := Idealize.ShloMosaic.Ideal) x2 = y11 at h11 ⊢
  generalize val_main_v18 (F := Idealize.ShloMosaic.Ideal) x0 x1 = y18 at h18 ⊢
  generalize val_main_v26 (F := Idealize.ShloMosaic.Ideal) x0 x1 x2 x3 = y26 at h26 ⊢
  pointwise [val_main_v31, val_main_cst_5, val_main_cst_6]
  simp only [Finset.univ_unique, Finset.sum_singleton, Fin.default_eq_zero]
  unfold Ins.dx
  rw [← dx_eq, h8, h11, h18, h26, width_word, show (insOf x0 x1 x2 x3 x4).x t.val d.val = x2 (ix2 t d) from at2_ix x2 t d,
    show (insOf x0 x1 x2 x3 x4).e t.val d.val = x4 (ix2 t d) from at2_ix x4 t d,
    show (insOf x0 x1 x2 x3 x4).g d.val = x3 (ix2 0 d) from at2_ix x3 0 d]
  rfl

/-- The input gradient's copy in the short format has the same values. -/
theorem dxb_at : val_main_v39 (F := Idealize.ShloMosaic.Ideal) x0 x1 x2 x3 x4 (ix2 t d) = (insOf x0 x1 x2 x3 x4).dx t.val d.val :=
  dx_at x0 x1 x2 x3 x4 t d

end Cert.Reference2Ideal.Norm
-- ==== Proof.Prod.Model.lean ====
/- Sums taken part by part: what a buffer holds that collects the parts of a product's terms. -/
module

public import proofs.«01_k».proof.Proof.Norm.Model
public import proofs.«01_k».proof.Proof.Pool.Strips

@[expose] public section

noncomputable section

namespace Cert.Prod

/-- Inside a run of `K` points the next point has the same block and the next part. -/
theorem next_part {K n : ℕ} (h : ¬(n + 1) % K = 0) : (n + 1) / K = n / K ∧ (n + 1) % K = n % K + 1 := by
  have hd : (n + 1) / K = n / K := by
    rw [Nat.succ_div, if_neg (fun hh => h (Nat.mod_eq_zero_of_dvd hh)), Nat.add_zero]
  refine ⟨hd, ?_⟩
  have a := Nat.div_add_mod n K
  have b := Nat.div_add_mod (n + 1) K
  rw [hd] at b
  omega

/-- A buffer that takes the first of `K` parts of `c` terms and adds every further part holds the sum of the terms so far.
    `f b x` is the `x`-th term of block `b`; point `n` has block `n / K` and part `n % K`. -/
theorem collect {N K c : ℕ} (acc : ∀ n, n < N → EReal) (f : ℕ → ℕ → EReal)
    (first : ∀ n hn, n % K = 0 → acc n hn = ∑ x ∈ Finset.range c, f (n / K) (c * (n % K) + x))
    (later : ∀ n (hn : n < N), ¬n % K = 0 → n % K + 1 < K →
      acc n hn = acc (n - 1) (Nat.lt_of_le_of_lt (Nat.sub_le _ _) hn) + ∑ x ∈ Finset.range c, f (n / K) (c * (n % K) + x))
    (n : ℕ) (hn : n < N) (hk : n % K + 1 < K) : acc n hn = ∑ x ∈ Finset.range (c * (n % K + 1)), f (n / K) x := by
  induction n with
  | zero => rw [first 0 hn (Nat.zero_mod K)]; simp
  | succ n ih =>
    by_cases h : (n + 1) % K = 0
    · rw [first _ hn h, h]; simp
    · obtain ⟨hd, hm⟩ := next_part h
      rw [later _ hn h hk]
      refine (congrArg (· + _) (ih (by omega) (by omega))).trans ?_
      rw [hd, hm, Nat.mul_succ c (n % K + 1), Finset.sum_range_add]

/-- The buffer of the point before the last, and the last part: all terms. -/
theorem collect_last {N K c : ℕ} (acc : ∀ n, n < N → EReal) (f : ℕ → ℕ → EReal) (hK : 1 < K)
    (first : ∀ n hn, n % K = 0 → acc n hn = ∑ x ∈ Finset.range c, f (n / K) (c * (n % K) + x))
    (later : ∀ n (hn : n < N), ¬n % K = 0 → n % K + 1 < K →
      acc n hn = acc (n - 1) (Nat.lt_of_le_of_lt (Nat.sub_le _ _) hn) + ∑ x ∈ Finset.range c, f (n / K) (c * (n % K) + x))
    (n : ℕ) (hn : n < N) (hk : n % K + 1 = K) :
    acc (n - 1) (Nat.lt_of_le_of_lt (Nat.sub_le _ _) hn) + ∑ x ∈ Finset.range c, f (n / K) (c * (n % K) + x)
      = ∑ x ∈ Finset.range (c * K), f (n / K) x := by
  obtain ⟨n, rfl⟩ : ∃ k, n = k + 1 := ⟨n - 1, by
    rcases n with _ | n
    · rw [Nat.zero_mod] at hk; omega
    · omega⟩
  obtain ⟨hd, hm⟩ := next_part (K := K) (n := n) (by omega)
  refine (congrArg (· + _) (collect acc f first later n (by omega) (by omega))).trans ?_
  rw [hd, hm, ← Finset.sum_range_add, ← Nat.mul_succ, show (n % K + 1).succ = K by omega]

open Idealize.ShloMosaic Cert.Norm Cert.Pool

/-- The gradient of the product `h w` with respect to `w`, from `h` and the arriving gradient: `hᵀ y`. -/
def tn (T : ℕ) (h y : ℕ → ℕ → EReal) (p q : ℕ) : EReal := ∑ t ∈ Finset.range T, h t p * y t q

/-- It as an array. -/
def tnArr (M N T : ℕ) (h y : ℕ → ℕ → EReal) : (⟨2, ![M, N]⟩ : Shape).Idx → EReal := fun i => tn T h y (i 0).val (i 1).val

/-- The product of two matrices. -/
def nn (K : ℕ) (h w : ℕ → ℕ → EReal) (p q : ℕ) : EReal := ∑ k ∈ Finset.range K, h p k * w k q

/-- It as an array. -/
def nnArr (M N K : ℕ) (h w : ℕ → ℕ → EReal) : (⟨2, ![M, N]⟩ : Shape).Idx → EReal := fun i => nn K h w (i 0).val (i 1).val

/-- The product of a matrix with a transposed one. -/
def nt (K : ℕ) (y w : ℕ → ℕ → EReal) (p q : ℕ) : EReal := ∑ k ∈ Finset.range K, y p k * w q k

/-- It as an array. -/
def ntArr (M N K : ℕ) (y w : ℕ → ℕ → EReal) : (⟨2, ![M, N]⟩ : Shape).Idx → EReal := fun i => nt K y w (i 0).val (i 1).val

/-- Reading a whole block of three dimensions is the block. -/
theorem ld_whole3 {Val : EltTy → Type} {e : EltTy} {A R C : ℕ}
    (inb : ∀ a : Fin 3, (![0, 0, 0] : Fin 3 → ℕ) a + (![A, R, C] : Fin 3 → ℕ) a ≤ (![A, R, C] : Fin 3 → ℕ) a)
    (x : (⟨3, ![A, R, C]⟩ : Shape).Idx → Val e) : View.ld x (Rect.unit (s := ⟨3, ![A, R, C]⟩) ![0, 0, 0] ![A, R, C] inb) = x :=
  View.ld_unit_zero (by funext a; fin_cases a <;> rfl) inb x

/-- Two matrices side by side, given as one array of three dimensions. -/
def beside {T F : ℕ} (A : (⟨3, ![2, T, F]⟩ : Shape).Idx → EReal) (t n : ℕ) : EReal :=
  if h : t < T ∧ n < 2 * F then A (Idealize.ShloMosaic.ix3 ⟨n / F, by
    have : 0 < F := by omega
    exact (Nat.div_lt_iff_lt_mul this).mpr h.2⟩ ⟨t, h.1⟩ ⟨n % F, Nat.mod_lt _ (by omega)⟩) else 0

end Cert.Prod
-- ==== Proof.Norm.Second.lean ====
/- The gradient of the feed-forward norm's input: what each grid point leaves. The rows' formulas are those of the other norm. -/
module

public import proofs.«01_k».proof.Proof.Norm.Rows
public import proofs.«01_k».proof.Proof.Prod.Model
public import proofs.«01_k».proof.Proof.Gen.Kernel3Ideal.Frame

@[expose] public section

set_option maxRecDepth 65536
set_option maxHeartbeats 4000000

noncomputable section

namespace Cert.Prod

open Idealize.ShloMosaic Cert.Norm Cert.Pool

/-- The inputs where the arriving cotangent is two halves that stand side by side. -/
def insTwo (a : (⟨3, ![2, 8192, 6144]⟩ : Shape).Idx → EReal) (w : (⟨2, ![2048, 12288]⟩ : Shape).Idx → EReal)
    (x : (⟨2, ![8192, 2048]⟩ : Shape).Idx → EReal) (g : (⟨2, ![1, 2048]⟩ : Shape).Idx → EReal) (e : (⟨2, ![8192, 2048]⟩ : Shape).Idx → EReal) : Cert.Norm.Ins where
  a := beside a
  w := at2 w
  x := at2 x
  g := at2 g 0
  e := at2 e
  K := 12288

end Cert.Prod

namespace Cert.Kernel3Ideal.Norm

open Cert.Kernel3Ideal Cert.Kernel3Ideal.Gen Idealize.ShloMosaic Idealize.ShloMosaic.TcCoe Idealize.SL.Sem Cert.Pool Cert.Norm Cert.Strips Cert.Prod
open Cert.Kernel2Ideal.Norm (dxBlock dx_piece dxb_piece partial_zero partial_succ last_block)

variable (m : (ℓ : Loc nD τ sig) → Buf (Elt Idealize.ShloMosaic.Ideal) ℓ) (c : Dev nD)

/-- The gradient's inputs as the arguments hold them. -/
abbrev ins : Cert.Norm.Ins := insTwo (m ((c : Thread nD τ).loc main_arg0)) (m ((c : Thread nD τ).loc main_arg1)) (m ((c : Thread nD τ).loc main_arg2))
  (m ((c : Thread nD τ).loc main_arg3)) (m ((c : Thread nD τ).loc main_arg4))

/-- The blocks' places: point `6 i + k` has row block `i` and the product's `k`-th part, three parts to each half. -/
theorem idx_facts : ∀ t : Fin cfg0.N,
    win0_0.index t (0 : Fin 3) = t.val % 6 / 3 ∧ win0_0.index t (1 : Fin 3) = t.val / 6 ∧ win0_0.index t (2 : Fin 3) = t.val % 6 % 3
    ∧ win0_1.index t (0 : Fin 2) = 0 ∧ win0_1.index t (1 : Fin 2) = t.val % 6
    ∧ win0_2.index t (0 : Fin 2) = t.val / 6 ∧ win0_2.index t (1 : Fin 2) = 0
    ∧ win0_3.index t (0 : Fin 2) = 0 ∧ win0_3.index t (1 : Fin 2) = 0
    ∧ win0_4.index t (0 : Fin 2) = t.val / 6 ∧ win0_4.index t (1 : Fin 2) = 0 :=
  (by decide +kernel : ∀ t : Fin grid0.N, _)

section Point

variable (t : Fin cfg0.N)

/-- The cotangent's block. -/
theorem a_at (r : Fin 512) (n : Fin 2048) : iblk m c 0 t (ix3 0 r n) = (ins m c).a (512 * (t.val / 6) + r.val) (2048 * (t.val % 6) + n.val) := by
  have ht : t.val < 96 := lt_of_lt_of_eq t.isLt N_0
  obtain ⟨a0, a1, a2, _⟩ := idx_facts t
  show V m c main_arg0 (((cfg0.win 0).blk t).view.emb (ix3 0 r n)) = beside (m ((c : Thread nD τ).loc main_arg0)) _ _
  unfold beside
  rw [dif_pos ⟨by omega, by omega⟩]
  refine congrArg (m ((c : Thread nD τ).loc main_arg0)) (funext fun a => Fin.ext ?_)
  match a with
  | ⟨0, _⟩ => show win0_0.index t (0 : Fin 3) * 1 + 1 * 0 = (2048 * (t.val % 6) + n.val) / 6144; omega
  | ⟨1, _⟩ => show win0_0.index t (1 : Fin 3) * 512 + 1 * r.val = 512 * (t.val / 6) + r.val; omega
  | ⟨2, _⟩ => show win0_0.index t (2 : Fin 3) * 2048 + 1 * n.val = (2048 * (t.val % 6) + n.val) % 6144; omega

/-- The weights' block. -/
theorem w_at (d : Fin 2048) (n : Fin 2048) : iblk m c 1 t (ix2 d n) = (ins m c).w d.val (2048 * (t.val % 6) + n.val) := by
  obtain ⟨_, _, _, b0, b1, _⟩ := idx_facts t
  show V m c main_arg1 (((cfg0.win 1).blk t).view.emb (ix2 d n)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 2048 + 1 * d.val = d.val; omega
  | ⟨1, _⟩ => show win0_1.index t (1 : Fin 2) * 2048 + 1 * n.val = 2048 * (t.val % 6) + n.val; omega

/-- The rows of the normalised matrix. -/
theorem x_at (r : Fin 512) : at2 (R := 512) (C := 2048) (iblk m c 2 t) r.val = (ins m c).x (512 * (t.val / 6) + r.val) := by
  have ht : t.val < 96 := lt_of_lt_of_eq t.isLt N_0
  obtain ⟨_, _, _, _, _, c0, c1, _⟩ := idx_facts t
  refine at2_block _ _ r (fun d => ?_) (fun d => at2_out _ _ d)
  show V m c main_arg2 (((cfg0.win 2).blk t).view.emb (ix2 r d)) = at2 (m ((c : Thread nD τ).loc main_arg2)) _ _
  unfold at2
  rw [dif_pos ⟨by omega, by omega⟩]
  refine congrArg (m ((c : Thread nD τ).loc main_arg2)) (funext fun a => Fin.ext ?_)
  match a with
  | ⟨0, _⟩ => show win0_2.index t (0 : Fin 2) * 512 + 1 * r.val = 512 * (t.val / 6) + r.val; omega
  | ⟨1, _⟩ => show win0_2.index t (1 : Fin 2) * 2048 + 1 * d.val = d.val; omega

/-- The scale. -/
theorem g_at : at2 (R := 1) (C := 2048) (iblk m c 3 t) 0 = (ins m c).g := by
  obtain ⟨_, _, _, _, _, _, _, d0, d1, _⟩ := idx_facts t
  refine at2_block (R := 1) _ _ 0 (fun d => ?_) (fun d => at2_out _ _ d)
  show V m c main_arg3 (((cfg0.win 3).blk t).view.emb (ix2 0 d)) = at2 (m ((c : Thread nD τ).loc main_arg3)) _ _
  refine Eq.trans ?_ (at2_ix (R := 1) _ 0 d).symm
  refine congrArg (m ((c : Thread nD τ).loc main_arg3)) (funext fun a => Fin.ext ?_)
  match a with
  | ⟨0, _⟩ => show win0_3.index t (0 : Fin 2) * 1 + 1 * 0 = 0; omega
  | ⟨1, _⟩ => show win0_3.index t (1 : Fin 2) * 2048 + 1 * d.val = d.val; omega

/-- The rows of the direct gradient. -/
theorem e_at (r : Fin 512) : at2 (R := 512) (C := 2048) (iblk m c 4 t) r.val = (ins m c).e (512 * (t.val / 6) + r.val) := by
  have ht : t.val < 96 := lt_of_lt_of_eq t.isLt N_0
  obtain ⟨_, _, _, _, _, _, _, _, _, e0, e1⟩ := idx_facts t
  refine at2_block _ _ r (fun d => ?_) (fun d => at2_out _ _ d)
  show V m c main_arg4 (((cfg0.win 4).blk t).view.emb (ix2 r d)) = at2 (m ((c : Thread nD τ).loc main_arg4)) _ _
  unfold at2
  rw [dif_pos ⟨by omega, by omega⟩]
  refine congrArg (m ((c : Thread nD τ).loc main_arg4)) (funext fun a => Fin.ext ?_)
  match a with
  | ⟨0, _⟩ => show win0_4.index t (0 : Fin 2) * 512 + 1 * r.val = 512 * (t.val / 6) + r.val; omega
  | ⟨1, _⟩ => show win0_4.index t (1 : Fin 2) * 2048 + 1 * d.val = d.val; omega

/-- The point's part of the product. -/
theorem part_at (r : Fin 512) (d : Fin 2048) : k0_pay2 (F := Idealize.ShloMosaic.Ideal) (iblk m c 0 t) (iblk m c 1 t) (ix2 r d)
    = ∑ n ∈ Finset.range 2048, (ins m c).a (512 * (t.val / 6) + r.val) (2048 * (t.val % 6) + n) * (ins m c).w d.val (2048 * (t.val % 6) + n) := by
  have e : ∀ (A : Vec Idealize.ShloMosaic.Ideal S1x512x2048 .bf16) (W : Vec Idealize.ShloMosaic.Ideal S2048x2048 .bf16),
      k0_pay2 (F := Idealize.ShloMosaic.Ideal) A W (ix2 r d) = ∑ n : Fin 2048, A (ix3 0 r n) * W (ix2 d n) := fun A W => by
    pointwise [k0_pay2]
  rw [e, Finset.sum_range]
  exact Finset.sum_congr rfl fun n _ => congrArg₂ (· * ·) (a_at m c t r n) (w_at m c t d n)

/-- The buffer's contents before the point. -/
abbrev before : Vec Idealize.ShloMosaic.Ideal S512x2048 .f32 := (outsAt0 m c (t.val - 1) (Nat.lt_of_le_of_lt (Nat.sub_le _ _) t.isLt)).2.2.2

/-- The buffer's contents with the point's product added. -/
abbrev added : Vec Idealize.ShloMosaic.Ideal S512x2048 .f32 := k0_pay3 (F := Idealize.ShloMosaic.Ideal) (before m c t) (iblk m c 0 t) (iblk m c 1 t)

/-- It at an entry. -/
theorem added_at (r : Fin 512) (d : Fin 2048) : added m c t (ix2 r d)
    = before m c t (ix2 r d) + k0_pay2 (F := Idealize.ShloMosaic.Ideal) (iblk m c 0 t) (iblk m c 1 t) (ix2 r d) := by
  unfold added
  generalize before m c t = A
  pointwise [k0_pay3, k0_pay2]

/-- The buffer after a row block's first point. -/
theorem acc_first (h1 : t.val % 6 = 0) : (outsAt0 m c t.val t.isLt).2.2.2 = k0_pay2 (F := Idealize.ShloMosaic.Ideal) (iblk m c 0 t) (iblk m c 1 t) := by
  by_cases h0 : t.val % 96 = 0
  · rw [outsAt0_A m c t h0 h1 (by omega) (by omega)]; dsimp only
    unfold sout0_A_0
    rw [View.read_writes_junk_eq_canon]
    unfold kernelRun0_A; dsimp only
    sl_unfold_words
    simp only [View.readAt_eq_ld, (hs0_0 t).read_unread, (hs0_1 t).read_unread]
    rw [View.canon_unit_zero (by funext a; fin_cases a <;> rfl)]
    simp only [ld_whole, ld_whole3]
  · rw [outsAt0_D m c t h0 h1 (by omega) (by omega)]; dsimp only
    unfold sout0_D_0
    rw [View.read_writes_junk_eq_canon]
    unfold kernelRun0_D; dsimp only
    sl_unfold_words
    simp only [View.readAt_eq_ld, (hs0_0 t).read_unread, (hs0_1 t).read_unread]
    rw [View.canon_unit_zero (by funext a; fin_cases a <;> rfl)]
    simp only [ld_whole, ld_whole3]

/-- The buffer after a later point, the last excepted. -/
theorem acc_later (h1 : ¬t.val % 6 = 0) (h3 : ¬t.val % 6 = 5) : (outsAt0 m c t.val t.isLt).2.2.2 = added m c t := by
  rw [outsAt0_B m c t (by omega) h1 (by omega) h3]; dsimp only
  unfold sout0_B_0
  rw [View.read_writes_junk_eq_canon]
  unfold kernelRun0_B; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole, ld_whole3]

/-- The row block's last point: the input gradient. -/
theorem dx_last (h3 : t.val % 6 = 5) : (outsAt0 m c t.val t.isLt).1 = dxBlock (iblk m c 2 t) (added m c t) (iblk m c 4 t) (iblk m c 3 t) := by
  rw [outsAt0_C m c t (by omega) (by omega) (by omega) h3]; dsimp only
  funext y
  unfold out0_C_5
  rw [View.read_writes_junk_eq_canon]
  refine View.canon_apply_of_pieces _ _ (View.PiecesOf.mem ?_) y ?_
  rotate_left
  · apply cover0_C_5
  unfold kernelRun0_C; dsimp only
  sl_unfold_words
  simp only [View.readAt_eq_ld, (hs0_0 t).read_unread, (hs0_1 t).read_unread, (hs0_2 t).read_unread, (hs0_3 t).read_unread, (hs0_4 t).read_unread,
    (Memref.isWhole_whole cc0_scratch0).read_unread, ld_whole, ld_whole3]
  repeat refine ⟨fun x => dx_piece _ _ x, ?_⟩
  exact trivial

/-- Its copy in the short format. -/
theorem dxb_last (h3 : t.val % 6 = 5) : (outsAt0 m c t.val t.isLt).2.1 = dxBlock (iblk m c 2 t) (added m c t) (iblk m c 4 t) (iblk m c 3 t) := by
  rw [outsAt0_C m c t (by omega) (by omega) (by omega) h3]; dsimp only
  funext y
  unfold out0_C_6
  rw [View.read_writes_junk_eq_canon]
  refine View.canon_apply_of_pieces _ _ (View.PiecesOf.mem ?_) y ?_
  rotate_left
  · apply cover0_C_6
  unfold kernelRun0_C; dsimp only
  sl_unfold_words
  simp only [View.readAt_eq_ld, (hs0_0 t).read_unread, (hs0_1 t).read_unread, (hs0_2 t).read_unread, (hs0_3 t).read_unread, (hs0_4 t).read_unread,
    (Memref.isWhole_whole cc0_scratch0).read_unread, ld_whole, ld_whole3]
  repeat refine ⟨fun x => dxb_piece _ _ x, ?_⟩
  exact trivial

/-- The scale's gradient there: the block's rows added to what was carried. -/
theorem dg_last (h3 : t.val % 6 = 5) (d : Fin 2048) : (outsAt0 m c t.val t.isLt).2.2.1 (ix2 0 d)
    = (outsAt0 m c (t.val - 1) (Nat.lt_of_le_of_lt (Nat.sub_le _ _) t.isLt)).2.2.1 (ix2 0 d)
      + ∑ k ∈ Finset.range 512, Cert.Norm.dg (at2 (R := 512) (C := 2048) (iblk m c 2 t) k) (at2 (R := 512) (C := 2048) (added m c t) k) d.val := by
  rw [outsAt0_C m c t (by omega) (by omega) (by omega) h3]; dsimp only
  unfold out0_C_7
  rw [View.read_writes_junk_eq_canon]
  unfold kernelRun0_C; dsimp only
  sl_unfold_words
  rw [View.canon_unit_zero (by funext a; fin_cases a <;> rfl)]
  simp only [View.readAt_eq_ld, (hs0_0 t).read_unread, (hs0_1 t).read_unread, (hs0_2 t).read_unread, (hs0_3 t).read_unread, (hs0_4 t).read_unread,
    (hs0_7 t).read_unread, (Memref.isWhole_whole cc0_scratch0).read_unread, ld_whole, ld_whole3]
  refine last_block _ ?_ _ d _
  repeat refine partial_succ _ _ ?_ _
  exact partial_zero

/-- Between a row block's last points the scale's gradient stays as it was. -/
theorem dg_kept (h0 : ¬t.val % 96 = 0) (h3 : ¬t.val % 6 = 5) :
    (outsAt0 m c t.val t.isLt).2.2.1 = (outsAt0 m c (t.val - 1) (Nat.lt_of_le_of_lt (Nat.sub_le _ _) t.isLt)).2.2.1 := by
  by_cases h1 : t.val % 6 = 0
  · rw [outsAt0_D m c t h0 h1 (by omega) h3]; try rfl
  · rw [outsAt0_B m c t h0 h1 (by omega) h3]; rfl

/-- At the very first point it is cleared. -/
theorem dg_clear (h0 : t.val % 96 = 0) (d : Fin 2048) : (outsAt0 m c t.val t.isLt).2.2.1 (ix2 0 d) = 0 := by
  rw [outsAt0_A m c t h0 (by omega) (by omega) (by omega)]; dsimp only
  unfold out0_A_7
  rw [View.read_writes_junk_eq_canon]
  unfold kernelRun0_A; dsimp only
  sl_unfold_words
  rw [View.canon_unit_zero (by funext a; fin_cases a <;> rfl)]
  pointwise [k0_pay1]

end Point

/-- At a row block's last point the whole product is there. -/
theorem dh_at (t : Fin cfg0.N) (h3 : t.val % 6 = 5) (r : Fin 512) :
    at2 (R := 512) (C := 2048) (added m c t) r.val = (ins m c).dh (512 * (t.val / 6) + r.val) := by
  refine at2_block _ _ r (fun d => ?_) (fun d hd => ?_)
  · rw [added_at, part_at]
    refine collect_last (K := 6) (c := 2048) (fun n hn => (outsAt0 m c n hn).2.2.2 (ix2 r d))
      (fun b x => (ins m c).a (512 * b + r.val) x * (ins m c).w d.val x)
      (by omega) (fun n hn h0 => ?_) (fun n hn h0 hk => ?_) t.val t.isLt (by omega)
    · exact (congrFun (acc_first m c ⟨n, hn⟩ h0) _).trans (part_at m c ⟨n, hn⟩ r d)
    · exact (congrFun (acc_later m c ⟨n, hn⟩ h0 (by show ¬n % 6 = 5; omega)) _).trans
        ((added_at m c ⟨n, hn⟩ r d).trans (congrArg (_ + ·) (part_at m c ⟨n, hn⟩ r d)))
  · refine Finset.sum_eq_zero fun n _ => ?_
    show _ * at2 (m ((c : Thread nD τ).loc main_arg1)) d n = 0
    unfold at2
    rw [dif_neg (fun h => hd h.1), mul_zero]

/-- The input gradient's rows at a row block's last point. -/
theorem block_at (t : Fin cfg0.N) (h3 : t.val % 6 = 5) (r : Fin 512) (d : Fin 2048) :
    dxBlock (iblk m c 2 t) (added m c t) (iblk m c 4 t) (iblk m c 3 t) (ix2 r d) = (ins m c).dx (512 * (t.val / 6) + r.val) d.val := by
  show Cert.Norm.dx (at2 (R := 512) (C := 2048) (iblk m c 2 t) r.val) (at2 (R := 512) (C := 2048) (added m c t) r.val)
    (at2 (R := 1) (C := 2048) (iblk m c 3 t) 0) (at2 (R := 512) (C := 2048) (iblk m c 4 t) r.val) d.val = _
  rw [x_at, dh_at m c t h3, g_at, e_at]
  rfl

/-- The scale's gradient after point `n`: the rows of the row blocks done. -/
theorem dg_at (n : ℕ) (hn : n < cfg0.N) (d : Fin 2048) : (outsAt0 m c n hn).2.2.1 (ix2 0 d)
    = ∑ k ∈ Finset.range (512 * ((n + 1) / 6)), Cert.Norm.dg ((ins m c).x k) ((ins m c).dh k) d.val := by
  have hN : cfg0.N = 96 := N_0
  induction n with
  | zero => exact (dg_clear m c ⟨0, hn⟩ rfl d).trans (by simp)
  | succ n ih =>
    by_cases h3 : (n + 1) % 6 = 5
    · refine (dg_last m c ⟨n + 1, hn⟩ h3 d).trans ?_
      refine (congrArg (· + _) (ih (by omega))).trans ?_
      rw [show (n + 1 + 1) / 6 = (n + 1) / 6 + 1 by omega, Nat.mul_succ, Finset.sum_range_add]
      congr 1
      refine Finset.sum_congr rfl fun k hk => ?_
      have hk' := Finset.mem_range.mp hk
      rw [show k = (⟨k, hk'⟩ : Fin 512).val from rfl, x_at, dh_at m c ⟨n + 1, hn⟩ h3]
    · rw [show (outsAt0 m c (n + 1) hn).2.2.1 = _ from dg_kept m c ⟨n + 1, hn⟩ (by show ¬(n + 1) % 96 = 0; omega) h3]
      refine (ih (by omega)).trans ?_
      rw [show (n + 1 + 1) / 6 = (n + 1) / 6 by omega]

end Cert.Kernel3Ideal.Norm
-- ==== Proof.Norm.SecondFinal.lean ====
/- The feed-forward norm's three result arrays after the run. -/
module

public import proofs.«01_k».proof.Proof.Norm.Second
public import proofs.«01_k».proof.Proof.Gen.Kernel3Ideal.Value
public import Idealize.ShloMosaic.Lib.Pipeline.ValueKit

@[expose] public section

set_option maxRecDepth 16384

noncomputable section

namespace Cert.Kernel3Ideal.Norm

open Cert.Kernel3Ideal Cert.Kernel3Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- Where the outputs' blocks lie. -/
theorem out_facts : ∀ t : Fin cfg0.N,
    win0_5.index t (0 : Fin 2) = t.val / 6 ∧ win0_5.index t (1 : Fin 2) = 0
    ∧ win0_6.index t (0 : Fin 2) = t.val / 6 ∧ win0_6.index t (1 : Fin 2) = 0
    ∧ win0_7.index t (0 : Fin 2) = 0 ∧ win0_7.index t (1 : Fin 2) = 0 :=
  (by decide +kernel : ∀ t : Fin grid0.N, _)

/-- The first result holds the input gradient. -/
theorem final_dx : (dats m 0 c).arrAt 5 cfg0.N = dxArr (ins m c) := by
  have hN : cfg0.N = 96 := N_0
  refine (dats m 0 c).arrAt_eq_of_cover 5 (dxArr (ins m c)) (fun t hf => ?_) (fun (y : S8192x2048.Idx) => ?_)
  · have h3 : t.val % 6 = 5 := (flush0_5 t).mp hf
    have ef := out_facts t
    rw [Value.flushed5]
    funext y
    obtain ⟨r, j, rfl⟩ := idx2 y
    refine Eq.trans (?_ : _ = (outsAt0 m c t.val t.isLt).1 (ix2 r j)) ?_
    · rfl
    rw [dx_last m c t h3, block_at m c t h3]
    show _ = dxArr (ins m c) (((cfg0.win 5).blk t).view.emb (ix2 r j))
    unfold dxArr
    have h0 : (((cfg0.win 5).blk t).view.emb (ix2 r j) 0).val = 512 * (t.val / 6) + r.val := by
      show win0_5.index t (0 : Fin 2) * 512 + 1 * r.val = _; omega
    have h1 : (((cfg0.win 5).blk t).view.emb (ix2 r j) 1).val = j.val := by
      show win0_5.index t (1 : Fin 2) * 2048 + 1 * j.val = _; omega
    rw [h0, h1]
  · exact (by decide +kernel : (cfg0.win 5).Covers).cover _ (Memref.isWhole_whole _) y

/-- The second result holds the input gradient. -/
theorem final_dxb : (dats m 0 c).arrAt 6 cfg0.N = dxArr (ins m c) := by
  have hN : cfg0.N = 96 := N_0
  refine (dats m 0 c).arrAt_eq_of_cover 6 (dxArr (ins m c)) (fun t hf => ?_) (fun (y : S8192x2048.Idx) => ?_)
  · have h3 : t.val % 6 = 5 := (flush0_6 t).mp hf
    have ef := out_facts t
    rw [Value.flushed6]
    funext y
    obtain ⟨r, j, rfl⟩ := idx2 y
    refine Eq.trans (?_ : _ = (outsAt0 m c t.val t.isLt).2.1 (ix2 r j)) ?_
    · rfl
    rw [dxb_last m c t h3, block_at m c t h3]
    show _ = dxArr (ins m c) (((cfg0.win 6).blk t).view.emb (ix2 r j))
    unfold dxArr
    have h0 : (((cfg0.win 6).blk t).view.emb (ix2 r j) 0).val = 512 * (t.val / 6) + r.val := by
      show win0_6.index t (0 : Fin 2) * 512 + 1 * r.val = _; omega
    have h1 : (((cfg0.win 6).blk t).view.emb (ix2 r j) 1).val = j.val := by
      show win0_6.index t (1 : Fin 2) * 2048 + 1 * j.val = _; omega
    rw [h0, h1]
  · exact (by decide +kernel : (cfg0.win 6).Covers).cover _ (Memref.isWhole_whole _) y

/-- The third result holds the scale's gradient. -/
theorem final_dg : (dats m 0 c).arrAt 7 cfg0.N = dgArr (ins m c) := by
  have hN : cfg0.N = 96 := N_0
  refine (dats m 0 c).arrAt_eq_of_cover 7 (dgArr (ins m c)) (fun t hf => ?_) (fun (y : S1x2048.Idx) => ?_)
  · have ht : t.val < 96 := lt_of_lt_of_eq t.isLt N_0
    have h95 : t.val = 95 := by have := (flush0_7 t).mp hf; omega
    have ef := out_facts t
    rw [Value.flushed7]
    funext y
    obtain ⟨r, j, rfl⟩ := idx2 y
    obtain rfl : r = 0 := Subsingleton.elim _ _
    refine Eq.trans (?_ : _ = (outsAt0 m c t.val t.isLt).2.2.1 (ix2 0 j)) ?_
    · rfl
    rw [dg_at]
    show _ = dgArr (ins m c) (((cfg0.win 7).blk t).view.emb (ix2 0 j))
    unfold dgArr
    have h1 : (((cfg0.win 7).blk t).view.emb (ix2 (0 : Fin 1) j) 1).val = j.val := by
      show win0_7.index t (1 : Fin 2) * 2048 + 1 * j.val = _; omega
    rw [h1, h95]
    rfl
  · exact (by decide +kernel : (cfg0.win 7).Covers).cover _ (Memref.isWhole_whole _) y

/-- The run: the three results hold the gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0_0) = dxArr (ins m c)
      ∧ r.2.mem ((c : Thread nD τ).loc main_v0_1) = dxArr (ins m c)
      ∧ r.2.mem ((c : Thread nD τ).loc main_v0_2) = dgArr (ins m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_dx m c), (h c).2.1.trans (final_dxb m c), (h c).2.2.1.trans (final_dg m c), (h c).2.2.2⟩)
    (Value.run_blocks m ρ)

end Cert.Kernel3Ideal.Norm
-- ==== Proof.Prod.Refs.lean ====
/- The references of the plain products: each is the product its kernel's grid leaves. -/
module

public import proofs.«01_k».proof.Proof.Prod.Model
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read

@[expose] public section

set_option maxRecDepth 16384

noncomputable section

namespace Cert.Prod

open Idealize.ShloMosaic Cert.Pool Cert.Norm

/-- A product's term from the entries of the two matrices. -/
theorem tn_term {T M N : ℕ} (h : (⟨2, ![T, M]⟩ : Shape).Idx → EReal) (y : (⟨2, ![T, N]⟩ : Shape).Idx → EReal) (r : Fin M) (d : Fin N) :
    ∑ t : Fin T, y (ix2 t d) * h (ix2 t r) = tn T (at2 h) (at2 y) r.val d.val := by
  unfold tn
  rw [Finset.sum_range]
  exact Finset.sum_congr rfl fun t _ => (mul_comm _ _).trans (congrArg₂ (· * ·) (at2_ix h t r) (at2_ix y t d)).symm

section Up

open Cert.Reference4Ideal Cert.Reference4Ideal.Read

/-- The two halves side by side. -/
theorem halves_at (x1 : S2x8192x6144.Idx → EReal) (t : Fin 8192) (d : Fin 12288) :
    val_main_v4 (F := Idealize.ShloMosaic.Ideal) x1 (ix2 t d) = beside x1 t.val d.val := by
  unfold beside
  rw [dif_pos ⟨t.isLt, d.isLt⟩]
  by_cases hd : d.val < 6144
  · pointwise [val_main_v4, val_main_v1, val_main_v0]
    rw [dif_pos hd]
    refine congrArg x1 (funext fun a => Fin.ext ?_)
    match a with
    | ⟨0, _⟩ => show 0 = d.val / 6144; omega
    | ⟨1, _⟩ => rfl
    | ⟨2, _⟩ => show d.val = d.val % 6144; omega
  · pointwise [val_main_v4, val_main_v3, val_main_v2]
    rw [dif_neg hd]
    refine congrArg x1 (funext fun a => Fin.ext ?_)
    match a with
    | ⟨0, _⟩ => show 1 = d.val / 6144; omega
    | ⟨1, _⟩ => rfl
    | ⟨2, _⟩ => show d.val - 6144 = d.val % 6144; omega

/-- The up projection's weight gradient. -/
theorem up_at (x0 : S8192x2048.Idx → EReal) (x1 : S2x8192x6144.Idx → EReal) (r : Fin 2048) (d : Fin 12288) :
    val_main_v11 (F := Idealize.ShloMosaic.Ideal) x0 x1 (ix2 r d) = tn 8192 (at2 x0) (beside x1) r.val d.val := by
  have h4 := fun t => halves_at x1 t d
  unfold val_main_v11 val_main_v10 val_main_v9 val_main_v8
  generalize val_main_v4 (F := Idealize.ShloMosaic.Ideal) x1 = y4 at h4 ⊢
  pointwise [val_main_v6]
  unfold tn
  rw [Finset.sum_range]
  exact Finset.sum_congr rfl fun t _ => (mul_comm _ _).trans (congrArg₂ (· * ·) (at2_ix x0 t r).symm (h4 t))

end Up

section In

open Cert.Reference5Ideal Cert.Reference5Ideal.Read

/-- The input projection's weight gradient. -/
theorem in_at (x0 : S8192x2048.Idx → EReal) (x1 : S8192x9216.Idx → EReal) (r : Fin 2048) (d : Fin 9216) :
    val_main_v6 (F := Idealize.ShloMosaic.Ideal) x0 x1 (ix2 r d) = tn 8192 (at2 x0) (at2 x1) r.val d.val := by
  refine Eq.trans ?_ (tn_term x0 x1 r d)
  pointwise [val_main_v6, val_main_v5, val_main_v4, val_main_v3, val_main_v1]

end In

section Down

open Cert.Reference6Ideal Cert.Reference6Ideal.Read

/-- The down projection's weight gradient. -/
theorem down_at (x0 : S8192x6144.Idx → EReal) (x1 : S8192x2048.Idx → EReal) (r : Fin 6144) (d : Fin 2048) :
    val_main_v6 (F := Idealize.ShloMosaic.Ideal) x0 x1 (ix2 r d) = tn 8192 (at2 x0) (at2 x1) r.val d.val := by
  refine Eq.trans ?_ (tn_term x0 x1 r d)
  pointwise [val_main_v6, val_main_v5, val_main_v4, val_main_v3, val_main_v1]

end Down

section Forward

open Cert.Reference7Ideal Cert.Reference7Ideal.Read

/-- The up projection. -/
theorem up_proj_at (x0 : S8192x2048.Idx → EReal) (x1 : S2048x12288.Idx → EReal) (r : Fin 8192) (d : Fin 12288) :
    val_main_v2 (F := Idealize.ShloMosaic.Ideal) x0 x1 (ix2 r d) = nn 2048 (at2 x0) (at2 x1) r.val d.val := by
  unfold nn
  rw [Finset.sum_range]
  simp only [at2_ix]
  pointwise [val_main_v2, val_main_v1, val_main_v0]

end Forward

end Cert.Prod
-- ==== Proof.Norm.Ref3.lean ====
/- The reference of the feed-forward norm's gradient, read at an index: it is the gradient's formulas. -/
module

public import proofs.«01_k».proof.Proof.Norm.Ref2
public import proofs.«01_k».proof.Proof.Norm.Second
public import proofs.«01_k».proof.Proof.Prod.Refs
public import proofs.«01_k».proof.Proof.Gen.Reference3Ideal.Read

@[expose] public section

set_option maxRecDepth 16384

noncomputable section

namespace Cert.Reference3Ideal.Norm

open Cert.Reference3Ideal Cert.Reference3Ideal.Gen Cert.Reference3Ideal.Read Idealize.ShloMosaic Cert.Pool Cert.Norm Cert.Prod

variable (x0 : S2x8192x6144.Idx → EReal) (x1 : S2048x12288.Idx → EReal) (x2 : S8192x2048.Idx → EReal) (x3 : S1x2048.Idx → EReal)
  (x4 : S8192x2048.Idx → EReal) (t : Fin 8192) (d : Fin 2048)

/-- One over the root of a row's mean square plus the small number: as in the other norm. -/
theorem v14_at : val_main_v14 (F := Idealize.ShloMosaic.Ideal) x2 (ix2 t 0) = root (at2 x2 t.val) := Cert.Reference2Ideal.Norm.v8_at x2 t

/-- Minus half of that over the mean square. -/
theorem v17_at : val_main_v17 (F := Idealize.ShloMosaic.Ideal) x2 (ix2 t 0)
    = ((-(1 / 2) : ℝ) : EReal) * Ideal.div (root (at2 x2 t.val)) (meanSq (at2 x2 t.val)) := Cert.Reference2Ideal.Norm.v11_at x2 t

/-- The two halves side by side: the same stages as in the weights' gradient. -/
theorem v4_at (k : Fin 12288) : val_main_v4 (F := Idealize.ShloMosaic.Ideal) x0 (ix2 t k) = beside x0 t.val k.val := halves_at x0 t k

/-- The cotangent of the normalised rows. -/
theorem v23_at : val_main_v23 (F := Idealize.ShloMosaic.Ideal) x0 x1 (ix2 t d) = (insTwo x0 x1 x2 x3 x4).dh t.val d.val := by
  have h4 := v4_at x0 t
  unfold val_main_v23 val_main_v5
  generalize val_main_v4 (F := Idealize.ShloMosaic.Ideal) x0 = y4 at h4 ⊢
  pointwise [val_main_v6]
  unfold Ins.dh
  rw [show (insTwo x0 x1 x2 x3 x4).K = 12288 from rfl, Finset.sum_range]
  exact Finset.sum_congr rfl fun k _ => congrArg₂ (· * ·) (h4 k) (at2_ix x1 d k).symm

/-- The scale's gradient. -/
theorem dg_at : val_main_v26 (F := Idealize.ShloMosaic.Ideal) x0 x1 x2 (ix2 0 d) = (insTwo x0 x1 x2 x3 x4).dg d.val := by
  have h14 := v14_at x2
  have h23 := fun t => v23_at x0 x1 x2 x3 x4 t d
  unfold val_main_v26 val_main_v25 val_main_v24 val_main_v19 val_main_v18
  generalize val_main_v14 (F := Idealize.ShloMosaic.Ideal) x2 = y14 at h14 ⊢
  generalize val_main_v23 (F := Idealize.ShloMosaic.Ideal) x0 x1 = y23 at h23 ⊢
  pointwise [val_main_cst_3]
  unfold Ins.dg
  rw [Finset.sum_range]
  refine Finset.sum_congr rfl fun t _ => ?_
  rw [h14, h23]
  unfold Cert.Norm.dg
  rw [mul_comm, show (insTwo x0 x1 x2 x3 x4).x t.val d.val = x2 (ix2 t d) from at2_ix x2 t d]
  rfl

/-- The inner product of a row of `x` with its scaled cotangent. -/
theorem v31_at : val_main_v31 (F := Idealize.ShloMosaic.Ideal) x0 x1 x2 x3 (ix2 t 0)
    = rowDot (at2 x2 t.val) ((insTwo x0 x1 x2 x3 x4).dh t.val) (at2 x3 0) := by
  have h23 := v23_at x0 x1 x2 x3 x4 t
  unfold val_main_v31 val_main_v30 val_main_v29 val_main_v28 val_main_v27
  generalize val_main_v23 (F := Idealize.ShloMosaic.Ideal) x0 x1 = y23 at h23 ⊢
  pointwise [val_main_cst_4]
  unfold rowDot
  rw [Finset.sum_range]
  refine Finset.sum_congr rfl fun k _ => ?_
  rw [h23, at2_ix, show at2 x3 0 k.val = x3 (ix2 0 k) from at2_ix x3 0 k]

/-- The input gradient. -/
theorem dx_at : val_main_v43 (F := Idealize.ShloMosaic.Ideal) x0 x1 x2 x3 x4 (ix2 t d) = (insTwo x0 x1 x2 x3 x4).dx t.val d.val := by
  have h14 := v14_at x2 t
  have h17 := v17_at x2 t
  have h23 := v23_at x0 x1 x2 x3 x4 t
  have h31 := v31_at x0 x1 x2 x3 x4 t
  unfold val_main_v43 val_main_v42 val_main_v41 val_main_v40 val_main_v39 val_main_v38 val_main_v37 val_main_v35 val_main_v34 val_main_v33
    val_main_v32 val_main_v28 val_main_v27
  generalize val_main_v14 (F := Idealize.ShloMosaic.Ideal) x2 = y14 at h14 ⊢
  generalize val_main_v17 (F := Idealize.ShloMosaic.Ideal) x2 = y17 at h17 ⊢
  generalize val_main_v23 (F := Idealize.ShloMosaic.Ideal) x0 x1 = y23 at h23 ⊢
  generalize val_main_v31 (F := Idealize.ShloMosaic.Ideal) x0 x1 x2 x3 = y31 at h31 ⊢
  pointwise [val_main_v36, val_main_cst_5, val_main_cst_6]
  simp only [Finset.univ_unique, Finset.sum_singleton, Fin.default_eq_zero]
  unfold Ins.dx
  rw [← dx_eq, h14, h17, h23, h31, width_word, show (insTwo x0 x1 x2 x3 x4).x t.val d.val = x2 (ix2 t d) from at2_ix x2 t d,
    show (insTwo x0 x1 x2 x3 x4).e t.val d.val = x4 (ix2 t d) from at2_ix x4 t d,
    show (insTwo x0 x1 x2 x3 x4).g d.val = x3 (ix2 0 d) from at2_ix x3 0 d]
  rfl

/-- The input gradient's copy in the short format has the same values. -/
theorem dxb_at : val_main_v44 (F := Idealize.ShloMosaic.Ideal) x0 x1 x2 x3 x4 (ix2 t d) = (insTwo x0 x1 x2 x3 x4).dx t.val d.val :=
  dx_at x0 x1 x2 x3 x4 t d

end Cert.Reference3Ideal.Norm
-- ==== Proof.Prod.Stream.lean ====
/- The residual stream after a product has been added to it, and its norm, row by row over the extended reals. -/
module

public import proofs.«01_k».proof.Proof.Prod.Model

@[expose] public section

noncomputable section

namespace Cert.Prod

open Idealize.ShloMosaic Cert.Norm Cert.Pool

/-- A row's normalised values: the row times its factor times the scale. -/
def normed (x g : ℕ → EReal) (d : ℕ) : EReal := x d * root x * g d

/-- The stream with the product of `a` and `w` added. -/
def stream (a w x : ℕ → ℕ → EReal) (t d : ℕ) : EReal := x t d + nn 2048 a w t d

/-- It as an array. -/
def streamArr (a w x : ℕ → ℕ → EReal) : (⟨2, ![8192, 2048]⟩ : Shape).Idx → EReal := fun y => stream a w x (y 0).val (y 1).val

/-- Its norm as an array. -/
def normedArr (a w x : ℕ → ℕ → EReal) (g : ℕ → EReal) : (⟨2, ![8192, 2048]⟩ : Shape).Idx → EReal := fun y =>
  normed (stream a w x (y 0).val) g (y 1).val

/-- Beyond the last column the stream is zero. -/
theorem stream_out (a : ℕ → ℕ → EReal) (W : (⟨2, ![2048, 2048]⟩ : Shape).Idx → EReal) (X : (⟨2, ![8192, 2048]⟩ : Shape).Idx → EReal) (t d : ℕ)
    (hd : ¬d < 2048) : stream a (at2 W) (at2 X) t d = 0 := by
  unfold stream nn
  rw [at2_out X t d hd, zero_add]
  exact Finset.sum_eq_zero fun k _ => by rw [at2_out W k d hd, mul_zero]

end Cert.Prod
-- ==== Proof.Prod.OutProj.lean ====
/- The mixer's output projection added to the residual stream, and the norm of the sum: one block of 512 rows. -/
module

public import proofs.«01_k».proof.Proof.Prod.Stream
public import proofs.«01_k».proof.Proof.Gen.Kernel20Ideal.Frame
public import Idealize.ShloMosaic.Lib.Pipeline.ReadBack

@[expose] public section

set_option maxRecDepth 65536
set_option maxHeartbeats 4000000

noncomputable section

namespace Cert.Kernel20Ideal.Prod

open Cert.Kernel20Ideal Cert.Kernel20Ideal.Gen Idealize.ShloMosaic Idealize.ShloMosaic.TcCoe Idealize.SL.Sem Cert.Pool Cert.Norm Cert.Strips Cert.Prod

/-- The normalised block of 512 rows. -/
def normBlock (X : Vec Idealize.ShloMosaic.Ideal S512x2048 .f32) (g : Vec Idealize.ShloMosaic.Ideal S1x2048 .f32) : S512x2048.Idx → EReal := fun y =>
  normed (at2 (R := 512) (C := 2048) X (y 0).val) (at2 (R := 1) (C := 2048) g 0) (y 1).val

/-- The sum with the product. -/
theorem stream_apply (X : Vec Idealize.ShloMosaic.Ideal S512x2048 .f32) (A : Vec Idealize.ShloMosaic.Ideal S512x2048 .bf16)
    (W : Vec Idealize.ShloMosaic.Ideal S2048x2048 .bf16) (r : Fin 512) (d : Fin 2048) :
    k0_pay2 (F := Idealize.ShloMosaic.Ideal) X A W (ix2 r d) = X (ix2 r d) + ∑ k : Fin 2048, A (ix2 r k) * W (ix2 k d) := by
  pointwise [k0_pay2]

/-- The factors of sixteen rows. -/
theorem root_apply (x : Vec Idealize.ShloMosaic.Ideal S16x2048 .f32) (r : Fin 16) :
    k0_pay3 (F := Idealize.ShloMosaic.Ideal) x (ix2 r 0) = root (at2 (R := 16) (C := 2048) x r.val) := by
  pointwise [k0_pay3]
  unfold root meanSq
  rw [width_word, Finset.sum_range]
  simp only [at2_ix]
  rfl

/-- Sixteen rows and 512 columns of the normalised block, from the whole rows `x`, the columns `v` and the columns' scale `s`. -/
theorem norm_apply (x : Vec Idealize.ShloMosaic.Ideal S16x2048 .f32) (v : Vec Idealize.ShloMosaic.Ideal S16x512 .f32)
    (s : Vec Idealize.ShloMosaic.Ideal S1x512 .f32) (r : Fin 16) (d : Fin 512) :
    k0_pay4 (F := Idealize.ShloMosaic.Ideal) x v s (ix2 r d) = v (ix2 r d) * root (at2 (R := 16) (C := 2048) x r.val) * s (ix2 0 d) := by
  have h := root_apply x r
  unfold k0_pay4
  generalize k0_pay3 (F := Idealize.ShloMosaic.Ideal) x = y at h ⊢
  pointwise []
  rw [h]

/-- A row read through a box of sixteen whole rows is the block's row. -/
theorem at2_ld {Y : Vec Idealize.ShloMosaic.Ideal S512x2048 .f32} {o : ℕ}
    (inb : ∀ a : Fin 2, (![o, 0] : Fin 2 → ℕ) a + (![16, 2048] : Fin 2 → ℕ) a ≤ (![512, 2048] : Fin 2 → ℕ) a) (r : Fin 16) :
    at2 (R := 16) (C := 2048) (View.ld Y (Rect.unit (s := S512x2048) ![o, 0] ![16, 2048] inb)) r.val = at2 (R := 512) (C := 2048) Y (o + r.val) := by
  have hr : o + r.val < 512 := by have := inb 0; have := r.isLt; simp at *; omega
  refine at2_block _ _ r (fun d => ?_) fun d hd => at2_out _ _ _ hd
  refine Eq.trans ?_ (at2_ix (R := 512) (C := 2048) Y ⟨o + r.val, hr⟩ d).symm
  refine (congrArg Y (idx_box (R := 512) (C := 2048) inb r d hr (by have := d.isLt; omega))).trans ?_
  congr 2
  exact Fin.ext (Nat.zero_add d.val)

section Piece

variable {X : Vec Idealize.ShloMosaic.Ideal S512x2048 .f32} {g : Vec Idealize.ShloMosaic.Ideal S1x2048 .f32} {sig : RefSig} {κ : Kind} {sp : Space}
  {v : View sig κ sp S512x2048 .f32} {w0 : ∀ a, (![0, 0] : Fin 2 → ℕ) a + S512x2048.size a ≤ S512x2048.size a}

/-- A piece of sixteen rows and 512 columns, computed from the sum read back from the buffer it was written to, is that piece of the
    normalised block. -/
theorem norm_piece (o p : ℕ) {f : Vec Idealize.ShloMosaic.Ideal S16x512 .bf16}
    (inb : ∀ a : Fin 2, (![o, p] : Fin 2 → ℕ) a + (![16, 512] : Fin 2 → ℕ) a ≤ (![512, 2048] : Fin 2 → ℕ) a)
    (rows : ∀ a : Fin 2, (![o, 0] : Fin 2 → ℕ) a + (![16, 2048] : Fin 2 → ℕ) a ≤ (![512, 2048] : Fin 2 → ℕ) a)
    (cols : ∀ a : Fin 2, (![0, p] : Fin 2 → ℕ) a + (![1, 512] : Fin 2 → ℕ) a ≤ (![1, 2048] : Fin 2 → ℕ) a)
    (hf : f = k0_pay4 (F := Idealize.ShloMosaic.Ideal)
      (v.readCov (Val := Elt Idealize.ShloMosaic.Ideal) [⟨Rect.unit ![0, 0] S512x2048.size w0, X⟩] (Rect.unit (s := S512x2048) ![o, 0] ![16, 2048] rows).toLoadRect)
      (v.readCov (Val := Elt Idealize.ShloMosaic.Ideal) [⟨Rect.unit ![0, 0] S512x2048.size w0, X⟩] (Rect.unit (s := S512x2048) ![o, p] ![16, 512] inb).toLoadRect)
      (View.ld g (Rect.unit (s := S1x2048) ![0, p] ![1, 512] cols)))
    (x : (Rect.unit (s := S512x2048) ![o, p] ![16, 512] inb).shape.Idx) :
    f x = normBlock X g ((Rect.unit (s := S512x2048) ![o, p] ![16, 512] inb).emb x) := by
  obtain ⟨r, d, rfl⟩ := idx2 (R := 16) (C := 512) x
  have hr : o + r.val < 512 := by have := inb 0; have := r.isLt; simp at *; omega
  have hd : p + d.val < 2048 := by have := inb 1; have := d.isLt; simp at *; omega
  rw [hf, View.readCov_fill v w0 X [] _ (by intro a; fin_cases a <;> rfl), View.readCov_fill v w0 X [] _ (by intro a; fin_cases a <;> rfl)]
  refine (norm_apply _ _ _ r d).trans ?_
  rw [at2_ld]
  have e : (Rect.unit (s := S512x2048) ![o, p] ![16, 512] inb).toLoadRect.idx (ix2 r d) = ix2 ⟨o + r.val, hr⟩ ⟨p + d.val, hd⟩ :=
    idx_box (R := 512) (C := 2048) inb r d hr hd
  have e' : (Rect.unit (s := S512x2048) ![o, p] ![16, 512] inb).emb (ix2 r d) = ix2 ⟨o + r.val, hr⟩ ⟨p + d.val, hd⟩ := e
  have es : (Rect.unit (s := S1x2048) ![0, p] ![1, 512] cols).toLoadRect.idx (ix2 0 d) = ix2 0 ⟨p + d.val, hd⟩ :=
    (idx_box (R := 1) (C := 2048) cols 0 d (by decide) hd).trans (by congr 1)
  rw [e']
  refine congrArg₂ (· * ·) (congrArg (· * _) ?_) ?_
  · exact (congrArg X e).trans (at2_ix (R := 512) (C := 2048) X ⟨o + r.val, hr⟩ ⟨p + d.val, hd⟩).symm
  · exact (congrArg g es).trans (at2_ix (R := 1) (C := 2048) g 0 ⟨p + d.val, hd⟩).symm

end Piece

variable (c : Dev nD) (i : grid0.Coords) (arg1 : Memref sig .tc .vmem S512x2048 .bf16) (harg1 : arg1.IsWhole)
  (arg2 : Memref sig .tc .vmem S2048x2048 .bf16) (harg2 : arg2.IsWhole) (arg3 : Memref sig .tc .vmem S512x2048 .f32) (harg3 : arg3.IsWhole)
  (arg4 : Memref sig .tc .vmem S1x2048 .f32) (harg4 : arg4.IsWhole) (arg5 : Memref sig .tc .vmem S512x2048 .f32) (harg5 : arg5.IsWhole)
  (arg6 : Memref sig .tc .vmem S512x2048 .bf16) (harg6 : arg6.IsWhole)
  (x0 : Vec Idealize.ShloMosaic.Ideal S512x2048 .bf16) (x1 : Vec Idealize.ShloMosaic.Ideal S2048x2048 .bf16)
  (x2 : Vec Idealize.ShloMosaic.Ideal S512x2048 .f32) (x3 : Vec Idealize.ShloMosaic.Ideal S1x2048 .f32)

/-- The block of the residual stream. -/
theorem stream_block : out0_A_4 c i arg1 harg1 arg2 harg2 arg3 harg3 arg4 harg4 arg5 harg5 arg6 harg6 x0 x1 x2 x3
    = k0_pay2 (F := Idealize.ShloMosaic.Ideal) x2 x0 x1 := by
  unfold out0_A_4
  rw [View.read_writes_junk_eq_canon]
  unfold kernelRun0_A; dsimp only
  sl_unfold_words
  simp only [View.readAt_eq_ld, harg1.read_unread, harg2.read_unread, harg3.read_unread]
  rw [View.canon_unit_zero (by funext a; fin_cases a <;> rfl)]
  simp only [ld_whole]

/-- The block of the normalised stream: each of its pieces is the block's. -/
theorem norm_block : out0_A_5 c i arg1 harg1 arg2 harg2 arg3 harg3 arg4 harg4 arg5 harg5 arg6 harg6 x0 x1 x2 x3
    = normBlock (k0_pay2 (F := Idealize.ShloMosaic.Ideal) x2 x0 x1) x3 := by
  funext y
  have hy := cover0_A_5 c i arg1 harg1 arg2 harg2 arg3 harg3 arg4 harg4 arg5 harg5 arg6 harg6 x0 x1 x2 x3 y
  unfold out0_A_5
  rw [View.read_writes_junk_eq_canon]
  refine View.canon_apply_of_pieces _ _ (View.PiecesOf.mem ?_) y hy
  unfold kernelRun0_A; dsimp only
  sl_unfold_words
  simp only [View.readAt_eq_ld, harg1.read_unread, harg2.read_unread, harg3.read_unread, harg4.read_unread, ld_whole]
  repeat refine ⟨fun x => norm_piece _ _ _ _ _ rfl x, ?_⟩
  exact trivial

end Cert.Kernel20Ideal.Prod
-- ==== Proof.Prod.OutFinal.lean ====
/- The mixer's output projection added to the residual stream, and the norm of the sum: the arrays that the grid leaves. -/
module

public import proofs.«01_k».proof.Proof.Prod.OutProj
public import proofs.«01_k».proof.Proof.Gen.Kernel20Ideal.Value
public import Idealize.ShloMosaic.Lib.Pipeline.ValueKit

@[expose] public section

set_option maxRecDepth 16384

noncomputable section

namespace Cert.Kernel20Ideal.Prod

open Cert.Kernel20Ideal Cert.Kernel20Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The mixer's merged branches. -/
abbrev a : ℕ → ℕ → EReal := at2 (m ((c : Thread nD τ).loc main_arg0))

/-- The weights. -/
abbrev w : ℕ → ℕ → EReal := at2 (m ((c : Thread nD τ).loc main_arg1))

/-- The stream before. -/
abbrev x : ℕ → ℕ → EReal := at2 (m ((c : Thread nD τ).loc main_arg2))

/-- The norm's scale. -/
abbrev g : ℕ → EReal := at2 (m ((c : Thread nD τ).loc main_arg3)) 0

/-- The blocks' places: point `t` has block `t` of the rows; the weights and the scale are whole. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- An entry of a matrix at an index given by its coordinates. -/
theorem entry {R C : ℕ} (A : (⟨2, ![R, C]⟩ : Shape).Idx → EReal) (z : (⟨2, ![R, C]⟩ : Shape).Idx) {i j : ℕ} (h0 : (z 0).val = i) (h1 : (z 1).val = j) :
    A z = at2 A i j := by
  subst h0 h1
  obtain ⟨r, d, rfl⟩ := idx2 z
  exact (at2_ix A r d).symm

variable (t : Fin cfg0.N) (r : Fin 512) (d : Fin 2048)

/-- The block of the merged branches. -/
theorem a_at : iblk m c 0 t (ix2 r d) = a m c (512 * t.val + r.val) d.val := by
  have ef := idx_facts t
  refine entry (m ((c : Thread nD τ).loc main_arg0)) (((cfg0.win 0).blk t).view.emb (ix2 r d)) ?_ ?_
  · show win0_0.index t (0 : Fin 2) * 512 + 1 * r.val = _; omega
  · show win0_0.index t (1 : Fin 2) * 2048 + 1 * d.val = _; omega

/-- The weights. -/
theorem w_at (k : Fin 2048) : iblk m c 1 t (ix2 k d) = w m c k.val d.val := by
  have ef := idx_facts t
  refine entry (m ((c : Thread nD τ).loc main_arg1)) (((cfg0.win 1).blk t).view.emb (ix2 k d)) ?_ ?_
  · show win0_1.index t (0 : Fin 2) * 2048 + 1 * k.val = _; omega
  · show win0_1.index t (1 : Fin 2) * 2048 + 1 * d.val = _; omega

/-- The block of the stream before. -/
theorem x_at : iblk m c 2 t (ix2 r d) = x m c (512 * t.val + r.val) d.val := by
  have ef := idx_facts t
  refine entry (m ((c : Thread nD τ).loc main_arg2)) (((cfg0.win 2).blk t).view.emb (ix2 r d)) ?_ ?_
  · show win0_2.index t (0 : Fin 2) * 512 + 1 * r.val = _; omega
  · show win0_2.index t (1 : Fin 2) * 2048 + 1 * d.val = _; omega

/-- The scale. -/
theorem g_at : at2 (R := 1) (C := 2048) (iblk m c 3 t) 0 = g m c := by
  refine at2_block (R := 1) (C := 2048) _ _ 0 (fun d => ?_) fun d hd => at2_out _ _ _ hd
  have ef := idx_facts t
  refine entry (m ((c : Thread nD τ).loc main_arg3)) (((cfg0.win 3).blk t).view.emb (ix2 0 d)) ?_ ?_
  · show win0_3.index t (0 : Fin 2) * 1 + 1 * 0 = _; omega
  · show win0_3.index t (1 : Fin 2) * 2048 + 1 * d.val = _; omega

/-- The point's rows of the stream. -/
theorem stream_at : k0_pay2 (F := Idealize.ShloMosaic.Ideal) (iblk m c 2 t) (iblk m c 0 t) (iblk m c 1 t) (ix2 r d)
    = stream (a m c) (w m c) (x m c) (512 * t.val + r.val) d.val := by
  unfold stream nn
  rw [stream_apply, Finset.sum_range]
  exact congrArg₂ (· + ·) (x_at m c t r d) (Finset.sum_congr rfl fun k _ => congrArg₂ (· * ·) (a_at m c t r k) (w_at m c t d k))

/-- The point's rows of the norm. -/
theorem norm_at : normBlock (k0_pay2 (F := Idealize.ShloMosaic.Ideal) (iblk m c 2 t) (iblk m c 0 t) (iblk m c 1 t)) (iblk m c 3 t) (ix2 r d)
    = normed (stream (a m c) (w m c) (x m c) (512 * t.val + r.val)) (g m c) d.val := by
  show normed (at2 (R := 512) (C := 2048) _ r.val) (at2 (R := 1) (C := 2048) _ 0) d.val = _
  rw [at2_block (R := 512) (C := 2048) _ _ r (stream_at m c t r) fun d hd => stream_out _ _ _ _ d hd, g_at]

/-- The stream's array. -/
theorem final_stream : (dats m 0 c).arrAt 4 cfg0.N = streamArr (a m c) (w m c) (x m c) := by
  refine (dats m 0 c).arrAt_eq_of_cover 4 (streamArr (a m c) (w m c) (x m c)) (fun t _ => ?_) (fun (z : S8192x2048.Idx) => ?_)
  · have ef := idx_facts t
    rw [Value.flushed4_A, stream_block]
    funext z
    obtain ⟨r, j, rfl⟩ := idx2 z
    refine (stream_at m c t r j).trans ?_
    show _ = streamArr (a m c) (w m c) (x m c) (((cfg0.win 4).blk t).view.emb (ix2 r j))
    unfold streamArr
    have h0 : (((cfg0.win 4).blk t).view.emb (ix2 r j) 0).val = 512 * t.val + r.val := by
      show win0_4.index t (0 : Fin 2) * 512 + 1 * r.val = _; omega
    have h1 : (((cfg0.win 4).blk t).view.emb (ix2 r j) 1).val = j.val := by
      show win0_4.index t (1 : Fin 2) * 2048 + 1 * j.val = _; omega
    rw [h0, h1]
  · exact (by decide +kernel : (cfg0.win 4).Covers).cover _ (Memref.isWhole_whole _) z

/-- The norm's array. -/
theorem final_norm : (dats m 0 c).arrAt 5 cfg0.N = normedArr (a m c) (w m c) (x m c) (g m c) := by
  refine (dats m 0 c).arrAt_eq_of_cover 5 (normedArr (a m c) (w m c) (x m c) (g m c)) (fun t _ => ?_) (fun (z : S8192x2048.Idx) => ?_)
  · have ef := idx_facts t
    rw [Value.flushed5_A, norm_block]
    funext z
    obtain ⟨r, j, rfl⟩ := idx2 z
    refine (norm_at m c t r j).trans ?_
    show _ = normedArr (a m c) (w m c) (x m c) (g m c) (((cfg0.win 5).blk t).view.emb (ix2 r j))
    unfold normedArr
    have h0 : (((cfg0.win 5).blk t).view.emb (ix2 r j) 0).val = 512 * t.val + r.val := by
      show win0_5.index t (0 : Fin 2) * 512 + 1 * r.val = _; omega
    have h1 : (((cfg0.win 5).blk t).view.emb (ix2 r j) 1).val = j.val := by
      show win0_5.index t (1 : Fin 2) * 2048 + 1 * j.val = _; omega
    rw [h0, h1]
  · exact (by decide +kernel : (cfg0.win 5).Covers).cover _ (Memref.isWhole_whole _) z

/-- The run: the results hold the stream and its norm, the arguments are unchanged. -/
theorem run : θ_run defs (onTc (τ := τ) (main (F := Idealize.ShloMosaic.Ideal))) ⟨m, fun _ => 0, ρ⟩ fun r => ∀ c : Dev nD,
      r.2.mem ((c : Thread nD τ).loc main_v0_0) = streamArr (a m c) (w m c) (x m c)
      ∧ r.2.mem ((c : Thread nD τ).loc main_v0_1) = normedArr (a m c) (w m c) (x m c) (g m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_stream m c), (h c).2.1.trans (final_norm m c), (h c).2.2⟩) (Value.run_blocks m ρ)

end Cert.Kernel20Ideal.Prod
-- ==== Proof.Prod.OutRef.lean ====
/- The mixer's output projection and the norm of the stream, as the reference computes them. -/
module

public import proofs.«01_k».proof.Proof.Prod.Stream
public import proofs.«01_k».proof.Proof.Gen.Reference20Ideal.Read
public import Idealize.ShloMosaic.Lib.Pointwise

@[expose] public section

set_option maxRecDepth 16384

noncomputable section

namespace Cert.Reference20Ideal.Prod

open Cert.Reference20Ideal Cert.Reference20Ideal.Gen Cert.Reference20Ideal.Read Idealize.ShloMosaic Cert.Pool Cert.Norm Cert.Prod

variable (x0 : S8192x2048.Idx → EReal) (x1 : S2048x2048.Idx → EReal) (x2 : S8192x2048.Idx → EReal) (x3 : S1x2048.Idx → EReal)
  (t : Fin 8192) (d : Fin 2048)

/-- The stream with the product added. -/
theorem stream_at : val_main_v3 (F := Idealize.ShloMosaic.Ideal) x0 x1 x2 (ix2 t d) = stream (at2 x0) (at2 x1) (at2 x2) t.val d.val := by
  unfold stream nn
  rw [Finset.sum_range]
  simp only [at2_ix]
  pointwise [val_main_v3, val_main_v2, val_main_v1, val_main_v0]

/-- A row's factor. -/
theorem root_at : val_main_v11 (F := Idealize.ShloMosaic.Ideal) x0 x1 x2 (ix2 t 0) = root (stream (at2 x0) (at2 x1) (at2 x2) t.val) := by
  have h3 := stream_at x0 x1 x2 t
  unfold val_main_v11 val_main_v10 val_main_v8 val_main_v6 val_main_v5 val_main_v4
  generalize val_main_v3 (F := Idealize.ShloMosaic.Ideal) x0 x1 x2 = y at h3 ⊢
  pointwise [val_main_v9, val_main_cst_1, val_main_v7, val_main_cst_0, val_main_cst]
  unfold root meanSq
  rw [width_word, Finset.sum_range]
  simp only [h3]
  rfl

/-- The normalised stream. -/
theorem normed_at : val_main_v16 (F := Idealize.ShloMosaic.Ideal) x0 x1 x2 x3 (ix2 t d)
    = normed (stream (at2 x0) (at2 x1) (at2 x2) t.val) (at2 x3 0) d.val := by
  have h3 := stream_at x0 x1 x2 t d
  have h11 := root_at x0 x1 x2 t
  unfold val_main_v16 val_main_v15 val_main_v13 val_main_v12
  generalize val_main_v3 (F := Idealize.ShloMosaic.Ideal) x0 x1 x2 = y at h3 ⊢
  generalize val_main_v11 (F := Idealize.ShloMosaic.Ideal) x0 x1 x2 = z at h11 ⊢
  pointwise [val_main_v14]
  unfold normed
  rw [h3, h11, show at2 x3 0 d.val = x3 (ix2 0 d) from at2_ix x3 0 d]

/-- The arrays that the reference leaves. -/
theorem arrays : val_main_v3 (F := Idealize.ShloMosaic.Ideal) x0 x1 x2 = streamArr (at2 x0) (at2 x1) (at2 x2)
    ∧ val_main_v16 (F := Idealize.ShloMosaic.Ideal) x0 x1 x2 x3 = normedArr (at2 x0) (at2 x1) (at2 x2) (at2 x3 0) := by
  refine ⟨funext fun y => ?_, funext fun y => ?_⟩ <;> obtain ⟨t, d, rfl⟩ := Cert.Strips.idx2 y
  · exact stream_at x0 x1 x2 t d
  · exact normed_at x0 x1 x2 x3 t d

end Cert.Reference20Ideal.Prod
-- ==== Proof.Prod.Gates.lean ====
/- The two branches of the mixer, projected and added with a gate each, over the extended reals. -/
module

public import proofs.«01_k».proof.Proof.Prod.Model

@[expose] public section

noncomputable section

namespace Cert.Prod

open Idealize.ShloMosaic Cert.Pool

/-- The sum of a pooling branch's entry `p` and a recurrent branch's entry `q`, each times the logistic function of its logit and bias. -/
def gated (p l b q l' b' : EReal) : EReal := Ideal.logistic (l + b) * p + Ideal.logistic (l' + b') * q

/-- The merged branches: the pooling branch's logits are the columns from 5120 on, the recurrent branch's those from 7168 on. -/
def merged (yp yl wp wl s : ℕ → ℕ → EReal) (b : ℕ → EReal) (t d : ℕ) : EReal :=
  gated (nn 1024 yp wp t d) (s t (5120 + d)) (b d) (nn 2048 yl wl t d) (s t (7168 + d)) (b (2048 + d))

/-- Entries given by token and column, as an array of 8192 tokens of 2048 columns. -/
def tokens (f : ℕ → ℕ → EReal) : (⟨2, ![8192, 2048]⟩ : Shape).Idx → EReal := fun y => f (y 0).val (y 1).val

end Cert.Prod
-- ==== Proof.Prod.Merge.lean ====
/- The two branches' products and their gated sum: one block of 512 tokens and 1024 columns. -/
module

public import proofs.«01_k».proof.Proof.Prod.Gates
public import proofs.«01_k».proof.Proof.Gen.Kernel21Ideal.Frame
public import Idealize.ShloMosaic.Lib.Pipeline.ReadBack

@[expose] public section

set_option maxRecDepth 65536
set_option maxHeartbeats 4000000

noncomputable section

namespace Cert.Kernel21Ideal.Prod

open Cert.Kernel21Ideal Cert.Kernel21Ideal.Gen Idealize.ShloMosaic Idealize.ShloMosaic.TcCoe Idealize.SL.Sem Cert.Pool Cert.Strips Cert.Prod

/-- The pooling branch's product. -/
theorem pool_apply (A : Vec Idealize.ShloMosaic.Ideal S512x1024 .bf16) (W : Vec Idealize.ShloMosaic.Ideal S1024x1024 .bf16) (r : Fin 512) (d : Fin 1024) :
    k0_pay1 (F := Idealize.ShloMosaic.Ideal) A W (ix2 r d) = ∑ k : Fin 1024, A (ix2 r k) * W (ix2 k d) := by
  pointwise [k0_pay1]

/-- The recurrent branch's product. -/
theorem lru_apply (A : Vec Idealize.ShloMosaic.Ideal S512x2048 .bf16) (W : Vec Idealize.ShloMosaic.Ideal S2048x1024 .bf16) (r : Fin 512) (d : Fin 1024) :
    k0_pay2 (F := Idealize.ShloMosaic.Ideal) A W (ix2 r d) = ∑ k : Fin 2048, A (ix2 r k) * W (ix2 k d) := by
  pointwise [k0_pay2]

/-- Sixteen rows and 512 columns of the gated sum. -/
theorem gated_apply (p q l l' : Vec Idealize.ShloMosaic.Ideal S16x512 .f32) (b b' : Vec Idealize.ShloMosaic.Ideal S1x512 .f32) (r : Fin 16) (d : Fin 512) :
    k0_pay3 (F := Idealize.ShloMosaic.Ideal) p q l b l' b' (ix2 r d)
      = gated (p (ix2 r d)) (l (ix2 r d)) (b (ix2 0 d)) (q (ix2 r d)) (l' (ix2 r d)) (b' (ix2 0 d)) := by
  unfold gated
  pointwise [k0_pay3]

/-- The block of the gated sum: `P` and `Q` are the products, `L` and `L'` the logits, `b` and `b'` the biases. -/
def mergeBlock (P Q L L' : Vec Idealize.ShloMosaic.Ideal S512x1024 .f32) (b b' : Vec Idealize.ShloMosaic.Ideal S1x1024 .f32) : S512x1024.Idx → EReal :=
  fun y => gated (P y) (L y) (b (ix2 0 (y 1))) (Q y) (L' y) (b' (ix2 0 (y 1)))

section Piece

variable {P Q L L' : Vec Idealize.ShloMosaic.Ideal S512x1024 .f32} {b b' : Vec Idealize.ShloMosaic.Ideal S1x1024 .f32} {sig : RefSig} {κ : Kind} {sp : Space}
  {v v' : View sig κ sp S512x1024 .f32} {w0 : ∀ a, (![0, 0] : Fin 2 → ℕ) a + S512x1024.size a ≤ S512x1024.size a}

/-- A piece of a product, read back from the buffer that the product was written to, is that piece of the product. -/
theorem copy_piece (o p : ℕ) {f : Vec Idealize.ShloMosaic.Ideal S16x512 .bf16}
    (inb : ∀ a : Fin 2, (![o, p] : Fin 2 → ℕ) a + (![16, 512] : Fin 2 → ℕ) a ≤ (![512, 1024] : Fin 2 → ℕ) a)
    (hf : f = k0_pay4 (F := Idealize.ShloMosaic.Ideal)
      (v.readCov (Val := Elt Idealize.ShloMosaic.Ideal) [⟨Rect.unit ![0, 0] S512x1024.size w0, P⟩] (Rect.unit (s := S512x1024) ![o, p] ![16, 512] inb).toLoadRect))
    (x : (Rect.unit (s := S512x1024) ![o, p] ![16, 512] inb).shape.Idx) :
    f x = P ((Rect.unit (s := S512x1024) ![o, p] ![16, 512] inb).emb x) := by
  rw [hf, View.readCov_fill v w0 P [] _ (by intro a; fin_cases a <;> rfl)]
  rfl

/-- A piece of the gated sum is that piece of the block. -/
theorem merge_piece (o p : ℕ) {f : Vec Idealize.ShloMosaic.Ideal S16x512 .bf16}
    (inb : ∀ a : Fin 2, (![o, p] : Fin 2 → ℕ) a + (![16, 512] : Fin 2 → ℕ) a ≤ (![512, 1024] : Fin 2 → ℕ) a)
    (cols : ∀ a : Fin 2, (![0, p] : Fin 2 → ℕ) a + (![1, 512] : Fin 2 → ℕ) a ≤ (![1, 1024] : Fin 2 → ℕ) a)
    (hf : f = k0_pay3 (F := Idealize.ShloMosaic.Ideal)
      (v.readCov (Val := Elt Idealize.ShloMosaic.Ideal) [⟨Rect.unit ![0, 0] S512x1024.size w0, P⟩] (Rect.unit (s := S512x1024) ![o, p] ![16, 512] inb).toLoadRect)
      (v'.readCov (Val := Elt Idealize.ShloMosaic.Ideal) [⟨Rect.unit ![0, 0] S512x1024.size w0, Q⟩] (Rect.unit (s := S512x1024) ![o, p] ![16, 512] inb).toLoadRect)
      (View.ld L (Rect.unit (s := S512x1024) ![o, p] ![16, 512] inb)) (View.ld b (Rect.unit (s := S1x1024) ![0, p] ![1, 512] cols))
      (View.ld L' (Rect.unit (s := S512x1024) ![o, p] ![16, 512] inb)) (View.ld b' (Rect.unit (s := S1x1024) ![0, p] ![1, 512] cols)))
    (x : (Rect.unit (s := S512x1024) ![o, p] ![16, 512] inb).shape.Idx) :
    f x = mergeBlock P Q L L' b b' ((Rect.unit (s := S512x1024) ![o, p] ![16, 512] inb).emb x) := by
  obtain ⟨r, d, rfl⟩ := idx2 (R := 16) (C := 512) x
  have hr : o + r.val < 512 := by have := inb 0; have := r.isLt; simp at *; omega
  have hd : p + d.val < 1024 := by have := inb 1; have := d.isLt; simp at *; omega
  rw [hf, View.readCov_fill v w0 P [] _ (by intro a; fin_cases a <;> rfl), View.readCov_fill v' w0 Q [] _ (by intro a; fin_cases a <;> rfl)]
  refine (gated_apply _ _ _ _ _ _ r d).trans ?_
  have e : (Rect.unit (s := S512x1024) ![o, p] ![16, 512] inb).emb (ix2 r d) = ix2 ⟨o + r.val, hr⟩ ⟨p + d.val, hd⟩ :=
    idx_box (R := 512) (C := 1024) inb r d hr hd
  have es : (Rect.unit (s := S1x1024) ![0, p] ![1, 512] cols).toLoadRect.idx (ix2 0 d)
      = ix2 0 ((Rect.unit (s := S512x1024) ![o, p] ![16, 512] inb).emb (ix2 r d) 1) :=
    (idx_box (R := 1) (C := 1024) cols 0 d (by decide) hd).trans (by rw [e]; congr 1)
  show gated _ _ (b ((Rect.unit (s := S1x1024) ![0, p] ![1, 512] cols).toLoadRect.idx (ix2 0 d))) _ _
    (b' ((Rect.unit (s := S1x1024) ![0, p] ![1, 512] cols).toLoadRect.idx (ix2 0 d))) = _
  rw [es]
  rfl

end Piece

variable (c : Dev nD) (i : grid0.Coords) (arg2 : Memref sig .tc .vmem S512x1024 .bf16) (harg2 : arg2.IsWhole)
  (arg3 : Memref sig .tc .vmem S512x2048 .bf16) (harg3 : arg3.IsWhole) (arg4 : Memref sig .tc .vmem S1024x1024 .bf16) (harg4 : arg4.IsWhole)
  (arg5 : Memref sig .tc .vmem S2048x1024 .bf16) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S512x1024 .bf16) (harg10 : arg10.IsWhole)
  (arg11 : Memref sig .tc .vmem S512x1024 .bf16) (harg11 : arg11.IsWhole) (arg12 : Memref sig .tc .vmem S512x1024 .bf16) (harg12 : arg12.IsWhole)
  (arg13 : Memref sig .tc .vmem S512x1024 .f32) (harg13 : arg13.IsWhole) (arg14 : Memref sig .tc .vmem S512x1024 .f32) (harg14 : arg14.IsWhole)
  (x0 : Vec Idealize.ShloMosaic.Ideal S512x1024 .bf16) (x1 : Vec Idealize.ShloMosaic.Ideal S512x2048 .bf16)
  (x2 : Vec Idealize.ShloMosaic.Ideal S1024x1024 .bf16) (x3 : Vec Idealize.ShloMosaic.Ideal S2048x1024 .bf16)
  (x4 x5 : Vec Idealize.ShloMosaic.Ideal S512x1024 .f32) (x6 x7 : Vec Idealize.ShloMosaic.Ideal S1x1024 .f32)

/-- The pooling branch's block. -/
theorem pool_block : out0_A_8 c i arg2 harg2 arg3 harg3 arg4 harg4 arg5 harg5 arg6 harg6 arg7 harg7 arg8 harg8 arg9 harg9 arg10 harg10
    arg11 harg11 arg12 harg12 arg13 harg13 arg14 harg14 x0 x1 x2 x3 x4 x5 x6 x7 = k0_pay1 (F := Idealize.ShloMosaic.Ideal) x0 x2 := by
  funext y
  have hy := cover0_A_8 c i arg2 harg2 arg3 harg3 arg4 harg4 arg5 harg5 arg6 harg6 arg7 harg7 arg8 harg8 arg9 harg9 arg10 harg10
    arg11 harg11 arg12 harg12 arg13 harg13 arg14 harg14 x0 x1 x2 x3 x4 x5 x6 x7 y
  unfold out0_A_8
  rw [View.read_writes_junk_eq_canon]
  refine View.canon_apply_of_pieces _ _ (View.PiecesOf.mem ?_) y hy
  unfold kernelRun0_A; dsimp only
  sl_unfold_words
  simp only [View.readAt_eq_ld, harg2.read_unread, harg4.read_unread, ld_whole]
  repeat refine ⟨fun x => copy_piece _ _ _ rfl x, ?_⟩
  exact trivial

/-- The recurrent branch's block. -/
theorem lru_block : out0_A_9 c i arg2 harg2 arg3 harg3 arg4 harg4 arg5 harg5 arg6 harg6 arg7 harg7 arg8 harg8 arg9 harg9 arg10 harg10
    arg11 harg11 arg12 harg12 arg13 harg13 arg14 harg14 x0 x1 x2 x3 x4 x5 x6 x7 = k0_pay2 (F := Idealize.ShloMosaic.Ideal) x1 x3 := by
  funext y
  have hy := cover0_A_9 c i arg2 harg2 arg3 harg3 arg4 harg4 arg5 harg5 arg6 harg6 arg7 harg7 arg8 harg8 arg9 harg9 arg10 harg10
    arg11 harg11 arg12 harg12 arg13 harg13 arg14 harg14 x0 x1 x2 x3 x4 x5 x6 x7 y
  unfold out0_A_9
  rw [View.read_writes_junk_eq_canon]
  refine View.canon_apply_of_pieces _ _ (View.PiecesOf.mem ?_) y hy
  unfold kernelRun0_A; dsimp only
  sl_unfold_words
  simp only [View.readAt_eq_ld, harg3.read_unread, harg5.read_unread, ld_whole]
  repeat refine ⟨fun x => copy_piece _ _ _ rfl x, ?_⟩
  exact trivial

/-- The merged block. -/
theorem merge_block : out0_A_10 c i arg2 harg2 arg3 harg3 arg4 harg4 arg5 harg5 arg6 harg6 arg7 harg7 arg8 harg8 arg9 harg9 arg10 harg10
    arg11 harg11 arg12 harg12 arg13 harg13 arg14 harg14 x0 x1 x2 x3 x4 x5 x6 x7
      = mergeBlock (k0_pay1 (F := Idealize.ShloMosaic.Ideal) x0 x2) (k0_pay2 (F := Idealize.ShloMosaic.Ideal) x1 x3) x4 x5 x6 x7 := by
  funext y
  have hy := cover0_A_10 c i arg2 harg2 arg3 harg3 arg4 harg4 arg5 harg5 arg6 harg6 arg7 harg7 arg8 harg8 arg9 harg9 arg10 harg10
    arg11 harg11 arg12 harg12 arg13 harg13 arg14 harg14 x0 x1 x2 x3 x4 x5 x6 x7 y
  unfold out0_A_10
  rw [View.read_writes_junk_eq_canon]
  refine View.canon_apply_of_pieces _ _ (View.PiecesOf.mem ?_) y hy
  unfold kernelRun0_A; dsimp only
  sl_unfold_words
  simp only [View.readAt_eq_ld, harg2.read_unread, harg3.read_unread, harg4.read_unread, harg5.read_unread, harg6.read_unread, harg7.read_unread,
    harg8.read_unread, harg9.read_unread, ld_whole]
  repeat refine ⟨fun x => merge_piece _ _ _ _ rfl x, ?_⟩
  exact trivial

end Cert.Kernel21Ideal.Prod
-- ==== Proof.Adam.Model.lean ====
/- The optimiser's update of one matrix, entry by entry: the gradient as the sum of the parts that eight devices sent, the two
running means and the step. -/
module

public import proofs.«01_k».proof.Proof.Norm.Model
public import proofs.«01_k».proof.Proof.Pool.Strips
public import Idealize.ShloMosaic.Lib.Pipeline.ValueKit

@[expose] public section

noncomputable section

namespace Cert.Adam

open Idealize.ShloMosaic

/-- A single-precision constant, by its bits. -/
abbrev k (b : BitVec 32) : EReal := Idealize.ShloMosaic.Ideal.ofBits .f32 b

/-- An array of `R` rows and `C` columns. -/
abbrev Mat (R C : ℕ) : Type := (⟨2, ![R, C]⟩ : Shape).Idx → EReal

/-- The eight parts that the devices sent. -/
abbrev Parts (R C : ℕ) : Type := (⟨3, ![8, R, C]⟩ : Shape).Idx → EReal

variable {R C : ℕ}

/-- The gradient: the sum of the parts. -/
def grad (p : Parts R C) : Mat R C := fun i => ∑ s : Fin 8, p (ix3 s (⟨(i 0).val, (i 0).isLt⟩ : Fin R) (⟨(i 1).val, (i 1).isLt⟩ : Fin C))

/-- The running mean of the gradient: nine tenths of the old one and a tenth of the gradient. -/
def mean (m g : Mat R C) : Mat R C := fun i => k 0x3F666666#32 * m i + k 0x3DCCCCCD#32 * g i

/-- The running mean of the gradient's square. -/
def square (v g : Mat R C) : Mat R C := fun i => k 0x3F7FBE77#32 * v i + k 0x3A83126F#32 * (g i * g i)

/-- The step, from the weights and the two new means, each divided by the sum of its coefficients so far. -/
def step (w m v : Mat R C) : Mat R C := fun i =>
  k 0xBA83126F#32 * (Ideal.div (Ideal.div (m i) (k 0x3F26BD02#32))
    (Ideal.sqrt (Ideal.div (v i) (k 0x3C231ACC#32)) + k 0x322BCC77#32) + k 0x3C23D70A#32 * w i)

/-- The four results of an update: the gradient, the step and the two new means. -/
def Updated (w m v g a4 a5 a6 a7 : Mat R C) : Prop := a4 = g ∧ a5 = step w (mean m g) (square v g) ∧ a6 = mean m g ∧ a7 = square v g

/-- A part lies inside the array of parts. -/
theorem inside (s : Fin 8) (a : Fin 3) : (![s.val, 0, 0] : Fin 3 → ℕ) a + (![1, R, C] : Fin 3 → ℕ) a ≤ (![8, R, C] : Fin 3 → ℕ) a := by
  match a with
  | ⟨0, _⟩ => show s.val + 1 ≤ 8; omega
  | ⟨1, _⟩ => show 0 + R ≤ R; omega
  | ⟨2, _⟩ => show 0 + C ≤ C; omega

/-- The part that stands at place `s` of the array of parts, as a matrix. -/
def part (x : (⟨3, ![8, R, C]⟩ : Shape).Idx → EReal) (hs : (⟨3, ![1, R, C]⟩ : Shape).ShapeCasts ⟨2, ![R, C]⟩) (s : Fin 8) : Mat R C :=
  shapeCast ⟨2, ![R, C]⟩ (View.ld (Val := fun _ => EReal) (e' := .bf16) x (Rect.unit (s := ⟨3, ![8, R, C]⟩) ![s.val, 0, 0] ![1, R, C] (inside s))) hs

/-- An entry of a part. -/
theorem part_at (x : (⟨3, ![8, R, C]⟩ : Shape).Idx → EReal) (hs : (⟨3, ![1, R, C]⟩ : Shape).ShapeCasts ⟨2, ![R, C]⟩) (s : Fin 8)
    (r : Fin R) (j : Fin C) : part x hs s (ix2 r j) = x (ix3 s r j) := by
  refine (shapeCast_apply _ _ (ix2 r j) (ix3 0 r j : (⟨3, ![1, R, C]⟩ : Shape).Idx) ?_).trans ?_
  · rw [Shape.rowMajor_val_three, Shape.rowMajor_val_two]
    show (0 * R + r.val) * C + j.val = r.val * C + j.val
    rw [Nat.zero_mul, Nat.zero_add]
  · refine congrArg x (funext fun a => Fin.ext ?_)
    match a with
    | ⟨0, _⟩ => show s.val + 1 * 0 = s.val; omega
    | ⟨1, _⟩ => show 0 + 1 * r.val = r.val; omega
    | ⟨2, _⟩ => show 0 + 1 * j.val = j.val; omega

/-- The parts added one after another. -/
theorem gather (x : (⟨3, ![8, R, C]⟩ : Shape).Idx → EReal) (hs : (⟨3, ![1, R, C]⟩ : Shape).ShapeCasts ⟨2, ![R, C]⟩) (i : (⟨2, ![R, C]⟩ : Shape).Idx) :
    part x hs 0 i + part x hs 1 i + part x hs 2 i + part x hs 3 i + part x hs 4 i + part x hs 5 i + part x hs 6 i + part x hs 7 i = grad x i := by
  obtain ⟨r, j, rfl⟩ := Cert.Strips.idx2 i
  simp only [part_at, grad, Fin.sum_univ_eight]
  rfl

/-- The rows that a block holds, of a matrix. -/
def pick {T : ℕ} (e : Fin T → Fin R) (a : Mat R C) : Mat T C := fun i => a (ix2 (e ⟨(i 0).val, (i 0).isLt⟩) (⟨(i 1).val, (i 1).isLt⟩ : Fin C))

/-- The rows that a block holds, of every part. -/
def pickParts {T : ℕ} (e : Fin T → Fin R) (p : Parts R C) : Parts T C := fun i =>
  p (ix3 (⟨(i 0).val, (i 0).isLt⟩ : Fin 8) (e ⟨(i 1).val, (i 1).isLt⟩) (⟨(i 2).val, (i 2).isLt⟩ : Fin C))

/-- The rows of the block that stands at place `n` among blocks of `T` rows. -/
def row {R : ℕ} (T n : ℕ) (h : T * n + T ≤ R) (r : Fin T) : Fin R := ⟨T * n + r.val, by omega⟩

/-- An update of a block's rows is the block's rows of the update. -/
theorem Updated.rows {T : ℕ} {e : Fin T → Fin R} {w m v : Mat R C} {p : Parts R C} {a4 a5 a6 a7 : Mat T C}
    (h : Updated (pick e w) (pick e m) (pick e v) (grad (pickParts e p)) a4 a5 a6 a7) :
    a4 = pick e (grad p) ∧ a5 = pick e (step w (mean m (grad p)) (square v (grad p)))
      ∧ a6 = pick e (mean m (grad p)) ∧ a7 = pick e (square v (grad p)) := h

/-- A sum over the parts that starts from zero is the gradient, `q s` being the entry's place in part `s`. -/
theorem from_zero (p : Parts R C) (i : (⟨2, ![R, C]⟩ : Shape).Idx) (q : Fin 8 → (⟨3, ![8, R, C]⟩ : Shape).Idx)
    (h0 : ∀ s, (q s 0).val = s.val) (h1 : ∀ s, (q s 1).val = (i 0).val) (h2 : ∀ s, (q s 2).val = (i 1).val) :
    k 0x00000000#32 + ∑ s, p (q s) = grad p i := by
  rw [show k 0x00000000#32 = 0 from Ideal.ofBits_zero .f32, zero_add]
  refine Finset.sum_congr rfl fun s _ => congrArg p (funext fun a => Fin.ext ?_)
  match a with
  | ⟨0, _⟩ => exact h0 s
  | ⟨1, _⟩ => exact h1 s
  | ⟨2, _⟩ => exact h2 s

/-- An update by an array that equals the gradient is an update by the gradient. -/
theorem Updated.by_grad {w m v g a4 a5 a6 a7 : Mat R C} (hg : a4 = g) (h : Updated w m v a4 a4 a5 a6 a7) : Updated w m v g a4 a5 a6 a7 := hg ▸ h

/-- The same by an array whose entries are sums over the parts that start from zero. -/
theorem Updated.by_sum {w m v a4 a5 a6 a7 : Mat R C} {p : Parts R C} {q : (⟨2, ![R, C]⟩ : Shape).Idx → Fin 8 → (⟨3, ![8, R, C]⟩ : Shape).Idx}
    (hg : ∀ i, a4 i = k 0x00000000#32 + ∑ s, p (q i s)) (h0 : ∀ i s, (q i s 0).val = s.val) (h1 : ∀ i s, (q i s 1).val = (i 0).val)
    (h2 : ∀ i s, (q i s 2).val = (i 1).val) (h : Updated w m v a4 a4 a5 a6 a7) : Updated w m v (grad p) a4 a5 a6 a7 :=
  Updated.by_grad (funext fun i => (hg i).trans (from_zero p i (q i) (h0 i) (h1 i) (h2 i))) h

/-- The place of a block's entry in its matrix, by its two coordinates: `n` and `o` are the block's place, in blocks. -/
theorem at_row {T n n' o : ℕ} (h : T * n + T ≤ R) (x : (⟨2, ![R, C]⟩ : Shape).Idx) (z : (⟨2, ![T, C]⟩ : Shape).Idx) (hn : n' = n) (ho : o = 0)
    (h0 : (x 0).val = n' * T + 1 * (z 0).val) (h1 : (x 1).val = o * C + 1 * (z 1).val) :
    x = ix2 (row T n h ⟨(z 0).val, (z 0).isLt⟩) (⟨(z 1).val, (z 1).isLt⟩ : Fin C) := by
  subst hn ho
  refine funext fun a => Fin.ext ?_
  match a with
  | ⟨0, _⟩ => exact h0.trans (by rw [Nat.mul_comm, Nat.one_mul]; rfl)
  | ⟨1, _⟩ => exact h1.trans (by rw [Nat.zero_mul, Nat.zero_add, Nat.one_mul]; rfl)

/-- The place of an entry of a block of the parts, by its three coordinates. -/
theorem at_part {T n n' o o' : ℕ} (h : T * n + T ≤ R) (x : (⟨3, ![8, R, C]⟩ : Shape).Idx) (z : (⟨3, ![8, T, C]⟩ : Shape).Idx) (ho' : o' = 0)
    (hn : n' = n) (ho : o = 0) (h0 : (x 0).val = o' * 8 + 1 * (z 0).val) (h1 : (x 1).val = n' * T + 1 * (z 1).val)
    (h2 : (x 2).val = o * C + 1 * (z 2).val) :
    x = ix3 (⟨(z 0).val, (z 0).isLt⟩ : Fin 8) (row T n h ⟨(z 1).val, (z 1).isLt⟩) (⟨(z 2).val, (z 2).isLt⟩ : Fin C) := by
  subst ho' hn ho
  refine funext fun a => Fin.ext ?_
  match a with
  | ⟨0, _⟩ => exact h0.trans (by rw [Nat.zero_mul, Nat.zero_add, Nat.one_mul]; rfl)
  | ⟨1, _⟩ => exact h1.trans (by rw [Nat.mul_comm, Nat.one_mul]; rfl)
  | ⟨2, _⟩ => exact h2.trans (by rw [Nat.zero_mul, Nat.zero_add, Nat.one_mul]; rfl)

/-- Arrays that are filled block by block, each point updating the rows of its block, are the update of the whole matrix: `c0` to `c3` say
which rows the blocks of the arguments are, `f4` to `f7` that an array is determined by the rows that the points leave in it. -/
theorem Updated.whole {ι : Type} {T : ℕ} {e : ι → Fin T → Fin R} {w m v : Mat R C} {p : Parts R C} {a4 a5 a6 a7 : Mat R C} {b0 b1 b2 b4 b5 b6 b7 : ι → Mat T C}
    {b3 : ι → Parts T C} (h : ∀ t, Updated (b0 t) (b1 t) (b2 t) (grad (b3 t)) (b4 t) (b5 t) (b6 t) (b7 t))
    (c0 : ∀ t, b0 t = pick (e t) w) (c1 : ∀ t, b1 t = pick (e t) m) (c2 : ∀ t, b2 t = pick (e t) v) (c3 : ∀ t, b3 t = pickParts (e t) p)
    (f4 : ∀ G, (∀ t, b4 t = pick (e t) G) → a4 = G) (f5 : ∀ G, (∀ t, b5 t = pick (e t) G) → a5 = G)
    (f6 : ∀ G, (∀ t, b6 t = pick (e t) G) → a6 = G) (f7 : ∀ G, (∀ t, b7 t = pick (e t) G) → a7 = G) : Updated w m v (grad p) a4 a5 a6 a7 := by
  have h : ∀ t, Updated (pick (e t) w) (pick (e t) m) (pick (e t) v) (grad (pickParts (e t) p)) (b4 t) (b5 t) (b6 t) (b7 t) := fun t => by
    rw [← c0 t, ← c1 t, ← c2 t, ← c3 t]
    exact h t
  exact ⟨f4 _ fun t => (h t).rows.1, f5 _ fun t => (h t).rows.2.1, f6 _ fun t => (h t).rows.2.2.1, f7 _ fun t => (h t).rows.2.2.2⟩

/-- An array whose blocks cover it ends as `G` when every point leaves `G`'s block. -/
theorem filled {nD : ℕ} {τ : Topo} {sig : RefSig} {Val : EltTy → Type} {Ix Name U Lvl : Type} [DecidableEq Ix] [DecidableEq Name] [Idealize.SL.RA.URA U]
    {Λ₀ : Idealize.SL.Sem.Labels} {cfg : Pipeline.Cfg sig Λ₀} {c : Dev nD} (dat : Pipeline.Dat τ Val Ix Name U Lvl cfg c) (w : Fin cfg.W) (hc : (cfg.win w).Covers)
    (ha : (cfg.win w).arr.IsWhole) {G : Buf Val ((cfg.win w).arr.view.loc (c.tc : Thread nD τ))}
    (h : ∀ t, dat.flushed w t = ((cfg.win w).blk t).view.read Val G) : dat.arrAt w cfg.N = G :=
  dat.arrAt_eq_of_cover w G (fun t _ => h t) fun i => hc.cover _ ha i

/-- An update beside a further statement. -/
theorem Updated.beside {w m v g a4 a5 a6 a7 : Mat R C} {Q : Prop} (h : Updated w m v g a4 a5 a6 a7) (q : Q) :
    a4 = g ∧ a5 = step w (mean m g) (square v g) ∧ a6 = mean m g ∧ a7 = square v g ∧ Q := ⟨h.1, h.2.1, h.2.2.1, h.2.2.2, q⟩

/-- A program whose four results are an update of its arguments, which agree with others, ends with the others' update; `Q` is what else
it ends with. -/
theorem Updated.carried {w m v w' m' v' : Mat R C} {p p' : Parts R C} {f4 f5 f6 f7 : Mat R C → Mat R C → Mat R C → Parts R C → Mat R C}
    (hf : ∀ w m v p, Updated w m v (grad p) (f4 w m v p) (f5 w m v p) (f6 w m v p) (f7 w m v p)) (h : w' = w ∧ m' = m ∧ v' = v ∧ p' = p)
    {b4 b5 b6 b7 : Mat R C} {Q : Prop} (r : b4 = f4 w' m' v' p' ∧ b5 = f5 w' m' v' p' ∧ b6 = f6 w' m' v' p' ∧ b7 = f7 w' m' v' p' ∧ Q) :
    b4 = grad p ∧ b5 = step w (mean m (grad p)) (square v (grad p)) ∧ b6 = mean m (grad p) ∧ b7 = square v (grad p) ∧ Q := by
  obtain ⟨rfl, rfl, rfl, rfl⟩ := h
  obtain ⟨rfl, rfl, rfl, rfl, q⟩ := r
  exact (hf w' m' v' p').beside q

/-- Two programs that end with the same update end with the same four arrays: `A` and `B` say what each ends with. -/
theorem Updated.settle {ι : Type} {w w' m m' v v' : ι → Mat R C} {p p' : ι → Parts R C}
    {A B : (ι → Mat R C) → (ι → Mat R C) → (ι → Mat R C) → (ι → Mat R C) → Prop} (_ : ∀ c, w' c = w c ∧ m' c = m c ∧ v' c = v c ∧ p' c = p c)
    (hA : A (fun c => grad (p c)) (fun c => step (w c) (mean (m c) (grad (p c))) (square (v c) (grad (p c))))
      (fun c => mean (m c) (grad (p c))) fun c => square (v c) (grad (p c)))
    (hB : B (fun c => grad (p c)) (fun c => step (w c) (mean (m c) (grad (p c))) (square (v c) (grad (p c))))
      (fun c => mean (m c) (grad (p c))) fun c => square (v c) (grad (p c))) :
    ∃ a4 a5 a6 a7, A a4 a5 a6 a7 ∧ B a4 a5 a6 a7 := ⟨_, _, _, _, hA, hB⟩

end Cert.Adam
-- ==== Proof.Prod.MergeFinal.lean ====
/- The two branches' products and their gated sum: the arrays that the grid leaves. -/
module

public import proofs.«01_k».proof.Proof.Prod.Merge
public import proofs.«01_k».proof.Proof.Prod.OutFinal
public import proofs.«01_k».proof.Proof.Adam.Model
public import proofs.«01_k».proof.Proof.Gen.Kernel21Ideal.Value
public import Idealize.ShloMosaic.Lib.Pipeline.ValueKit

@[expose] public section

set_option maxRecDepth 16384

noncomputable section

namespace Cert.Kernel21Ideal.Prod

open Cert.Kernel21Ideal Cert.Kernel21Ideal.Gen Idealize.ShloMosaic Idealize.ShloMosaic.TcCoe Idealize.SL.Sem Cert.Pool Cert.Strips Cert.Prod Cert.Adam
open Cert.Kernel20Ideal.Prod (entry)

variable (m : (ℓ : Loc nD τ sig) → Buf (Elt Idealize.ShloMosaic.Ideal) ℓ) (ρ : Dev nD → PrngReg) (c : Dev nD)

/-- The pooling branch. -/
abbrev yp : ℕ → ℕ → EReal := at2 (m ((c : Thread nD τ).loc main_arg0))

/-- The recurrent branch. -/
abbrev yl : ℕ → ℕ → EReal := at2 (m ((c : Thread nD τ).loc main_arg1))

/-- The pooling branch's weights. -/
abbrev wp : ℕ → ℕ → EReal := at2 (m ((c : Thread nD τ).loc main_arg2))

/-- The recurrent branch's weights. -/
abbrev wl : ℕ → ℕ → EReal := at2 (m ((c : Thread nD τ).loc main_arg3))

/-- The input projection, which holds the logits. -/
abbrev s : ℕ → ℕ → EReal := at2 (m ((c : Thread nD τ).loc main_arg4))

/-- The gates' biases. -/
abbrev b : ℕ → EReal := at2 (m ((c : Thread nD τ).loc main_arg5)) 0

/-- The blocks' places: point `t` has block `t % 16` of the tokens and block `t / 16` of the columns. -/
theorem idx_facts : ∀ t : Fin cfg0.N,
    (win0_0.index t (0 : Fin 2) = t.val % 16 ∧ win0_0.index t (1 : Fin 2) = 0)
    ∧ (win0_1.index t (0 : Fin 2) = t.val % 16 ∧ win0_1.index t (1 : Fin 2) = 0)
    ∧ (win0_2.index t (0 : Fin 2) = 0 ∧ win0_2.index t (1 : Fin 2) = t.val / 16)
    ∧ (win0_3.index t (0 : Fin 2) = 0 ∧ win0_3.index t (1 : Fin 2) = t.val / 16)
    ∧ (win0_4.index t (0 : Fin 2) = t.val % 16 ∧ win0_4.index t (1 : Fin 2) = 5 + t.val / 16)
    ∧ (win0_5.index t (0 : Fin 2) = t.val % 16 ∧ win0_5.index t (1 : Fin 2) = 7 + t.val / 16)
    ∧ (win0_6.index t (0 : Fin 2) = 0 ∧ win0_6.index t (1 : Fin 2) = t.val / 16)
    ∧ (win0_7.index t (0 : Fin 2) = 0 ∧ win0_7.index t (1 : Fin 2) = 2 + t.val / 16)
    ∧ (win0_8.index t (0 : Fin 2) = t.val % 16 ∧ win0_8.index t (1 : Fin 2) = t.val / 16) :=
  (by decide +kernel : ∀ t : Fin grid0.N, _)

variable (t : Fin cfg0.N) (r : Fin 512) (d : Fin 1024)

/-- The blocks of the two branches. -/
theorem y_at : (∀ k : Fin 1024, iblk m c 0 t (ix2 r k) = yp m c (512 * (t.val % 16) + r.val) k.val)
    ∧ ∀ k : Fin 2048, iblk m c 1 t (ix2 r k) = yl m c (512 * (t.val % 16) + r.val) k.val := by
  have ef := idx_facts t
  refine ⟨fun k => entry (m ((c : Thread nD τ).loc main_arg0)) (((cfg0.win 0).blk t).view.emb (ix2 r k)) ?_ ?_,
    fun k => entry (m ((c : Thread nD τ).loc main_arg1)) (((cfg0.win 1).blk t).view.emb (ix2 r k)) ?_ ?_⟩
  · show win0_0.index t (0 : Fin 2) * 512 + 1 * r.val = _; omega
  · show win0_0.index t (1 : Fin 2) * 1024 + 1 * k.val = _; omega
  · show win0_1.index t (0 : Fin 2) * 512 + 1 * r.val = _; omega
  · show win0_1.index t (1 : Fin 2) * 2048 + 1 * k.val = _; omega

/-- The blocks of the two weights. -/
theorem w_at : (∀ k : Fin 1024, iblk m c 2 t (ix2 k d) = wp m c k.val (1024 * (t.val / 16) + d.val))
    ∧ ∀ k : Fin 2048, iblk m c 3 t (ix2 k d) = wl m c k.val (1024 * (t.val / 16) + d.val) := by
  have ef := idx_facts t
  refine ⟨fun k => entry (m ((c : Thread nD τ).loc main_arg2)) (((cfg0.win 2).blk t).view.emb (ix2 k d)) ?_ ?_,
    fun k => entry (m ((c : Thread nD τ).loc main_arg3)) (((cfg0.win 3).blk t).view.emb (ix2 k d)) ?_ ?_⟩
  · show win0_2.index t (0 : Fin 2) * 1024 + 1 * k.val = _; omega
  · show win0_2.index t (1 : Fin 2) * 1024 + 1 * d.val = _; omega
  · show win0_3.index t (0 : Fin 2) * 2048 + 1 * k.val = _; omega
  · show win0_3.index t (1 : Fin 2) * 1024 + 1 * d.val = _; omega

/-- The blocks of the two branches' logits. -/
theorem s_at : iblk m c 4 t (ix2 r d) = s m c (512 * (t.val % 16) + r.val) (5120 + (1024 * (t.val / 16) + d.val))
    ∧ iblk m c 5 t (ix2 r d) = s m c (512 * (t.val % 16) + r.val) (7168 + (1024 * (t.val / 16) + d.val)) := by
  have ef := idx_facts t
  refine ⟨entry (m ((c : Thread nD τ).loc main_arg4)) (((cfg0.win 4).blk t).view.emb (ix2 r d)) ?_ ?_,
    entry (m ((c : Thread nD τ).loc main_arg4)) (((cfg0.win 5).blk t).view.emb (ix2 r d)) ?_ ?_⟩
  · show win0_4.index t (0 : Fin 2) * 512 + 1 * r.val = _; omega
  · show win0_4.index t (1 : Fin 2) * 1024 + 1 * d.val = _; omega
  · show win0_5.index t (0 : Fin 2) * 512 + 1 * r.val = _; omega
  · show win0_5.index t (1 : Fin 2) * 1024 + 1 * d.val = _; omega

/-- The blocks of the two branches' biases. -/
theorem b_at : iblk m c 6 t (ix2 0 d) = b m c (1024 * (t.val / 16) + d.val)
    ∧ iblk m c 7 t (ix2 0 d) = b m c (2048 + (1024 * (t.val / 16) + d.val)) := by
  have ef := idx_facts t
  refine ⟨entry (m ((c : Thread nD τ).loc main_arg5)) (((cfg0.win 6).blk t).view.emb (ix2 0 d)) ?_ ?_,
    entry (m ((c : Thread nD τ).loc main_arg5)) (((cfg0.win 7).blk t).view.emb (ix2 0 d)) ?_ ?_⟩
  · show win0_6.index t (0 : Fin 2) * 1 + 1 * 0 = _; omega
  · show win0_6.index t (1 : Fin 2) * 1024 + 1 * d.val = _; omega
  · show win0_7.index t (0 : Fin 2) * 1 + 1 * 0 = _; omega
  · show win0_7.index t (1 : Fin 2) * 1024 + 1 * d.val = _; omega

/-- The point's entries of the pooling branch's product. -/
theorem pool_at : k0_pay1 (F := Idealize.ShloMosaic.Ideal) (iblk m c 0 t) (iblk m c 2 t) (ix2 r d)
    = nn 1024 (yp m c) (wp m c) (512 * (t.val % 16) + r.val) (1024 * (t.val / 16) + d.val) := by
  unfold nn
  rw [pool_apply, Finset.sum_range]
  exact Finset.sum_congr rfl fun k _ => congrArg₂ (· * ·) ((y_at m c t r).1 k) ((w_at m c t d).1 k)

/-- The point's entries of the recurrent branch's product. -/
theorem lru_at : k0_pay2 (F := Idealize.ShloMosaic.Ideal) (iblk m c 1 t) (iblk m c 3 t) (ix2 r d)
    = nn 2048 (yl m c) (wl m c) (512 * (t.val % 16) + r.val) (1024 * (t.val / 16) + d.val) := by
  unfold nn
  rw [lru_apply, Finset.sum_range]
  exact Finset.sum_congr rfl fun k _ => congrArg₂ (· * ·) ((y_at m c t r).2 k) ((w_at m c t d).2 k)

/-- The point's entries of the gated sum. -/
theorem merged_at : mergeBlock (k0_pay1 (F := Idealize.ShloMosaic.Ideal) (iblk m c 0 t) (iblk m c 2 t))
      (k0_pay2 (F := Idealize.ShloMosaic.Ideal) (iblk m c 1 t) (iblk m c 3 t)) (iblk m c 4 t) (iblk m c 5 t) (iblk m c 6 t) (iblk m c 7 t) (ix2 r d)
    = merged (yp m c) (yl m c) (wp m c) (wl m c) (s m c) (b m c) (512 * (t.val % 16) + r.val) (1024 * (t.val / 16) + d.val) := by
  unfold merged
  rw [← pool_at, ← lru_at, ← (s_at m c t r d).1, ← (s_at m c t r d).2, ← (b_at m c t d).1, ← (b_at m c t d).2]
  rfl

/-- A block whose entries are those of `f` at the point's tokens and columns is the point's block of the array of `f`; all the results are
cut alike. -/
theorem tile {B : S512x1024.Idx → EReal} {f : ℕ → ℕ → EReal} (t : Fin cfg0.N)
    (h : ∀ r d, B (ix2 r d) = f (512 * (t.val % 16) + r.val) (1024 * (t.val / 16) + d.val)) :
    B = fun z => tokens f (((cfg0.win 8).blk t).view.emb z) := by
  have ef := idx_facts t
  funext z
  obtain ⟨r, d, rfl⟩ := idx2 (R := 512) (C := 1024) z
  rw [h]
  unfold tokens
  have h0 : (((cfg0.win 8).blk t).view.emb (ix2 r d) 0).val = 512 * (t.val % 16) + r.val := by
    show win0_8.index t (0 : Fin 2) * 512 + 1 * r.val = _; omega
  have h1 : (((cfg0.win 8).blk t).view.emb (ix2 r d) 1).val = 1024 * (t.val / 16) + d.val := by
    show win0_8.index t (1 : Fin 2) * 1024 + 1 * d.val = _; omega
  rw [h0, h1]

/-- The points' blocks cover a result. -/
theorem covers : (cfg0.win 8).Covers := by decide +kernel

/-- The run: the results hold the two products and their gated sum, the arguments are unchanged. -/
theorem run : θ_run defs (onTc (τ := τ) (main (F := Idealize.ShloMosaic.Ideal))) ⟨m, fun _ => 0, ρ⟩ fun r => ∀ c : Dev nD,
      r.2.mem ((c : Thread nD τ).loc main_v0_0) = tokens (nn 1024 (yp m c) (wp m c))
      ∧ r.2.mem ((c : Thread nD τ).loc main_v0_1) = tokens (nn 2048 (yl m c) (wl m c))
      ∧ r.2.mem ((c : Thread nD τ).loc main_v0_2) = tokens (merged (yp m c) (yl m c) (wp m c) (wl m c) (s m c) (b m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ?_) (Value.run_blocks m ρ)
  obtain ⟨h8, h9, h10, hargs⟩ := h c
  refine ⟨h8.trans (filled _ 8 covers (Memref.isWhole_whole _) fun t => (Value.flushed8_A m c t).trans ?_),
    h9.trans (filled _ 9 covers (Memref.isWhole_whole _) fun t => (Value.flushed9_A m c t).trans ?_),
    h10.trans (filled _ 10 covers (Memref.isWhole_whole _) fun t => (Value.flushed10_A m c t).trans ?_), hargs⟩
  · rw [pool_block]
    exact tile t (pool_at m c t)
  · rw [lru_block]
    exact tile t (lru_at m c t)
  · rw [merge_block]
    exact tile t (merged_at m c t)

end Cert.Kernel21Ideal.Prod
-- ==== Proof.Prod.MergeRef.lean ====
/- The two branches' products and their gated sum, as the reference computes them. -/
module

public import proofs.«01_k».proof.Proof.Prod.Gates
public import proofs.«01_k».proof.Proof.Gen.Reference21Ideal.Read
public import Idealize.ShloMosaic.Lib.Pointwise

@[expose] public section

set_option maxRecDepth 16384

noncomputable section

namespace Cert.Reference21Ideal.Prod

open Cert.Reference21Ideal Cert.Reference21Ideal.Gen Cert.Reference21Ideal.Read Idealize.ShloMosaic Cert.Pool Cert.Prod

variable (x0 : S8192x1024.Idx → EReal) (x1 : S8192x2048.Idx → EReal) (x2 : S1024x2048.Idx → EReal) (x3 : S2048x2048.Idx → EReal)
  (x4 : S8192x9216.Idx → EReal) (x5 : S1x4096.Idx → EReal) (t : Fin 8192) (d : Fin 2048)

/-- The pooling branch's product. -/
theorem pool_at : val_main_v11 (F := Idealize.ShloMosaic.Ideal) x0 x2 (ix2 t d) = nn 1024 (at2 x0) (at2 x2) t.val d.val := by
  unfold nn
  rw [Finset.sum_range]
  simp only [at2_ix]
  pointwise [val_main_v11, val_main_v10, val_main_v9]

/-- The recurrent branch's product. -/
theorem lru_at : val_main_v14 (F := Idealize.ShloMosaic.Ideal) x1 x3 (ix2 t d) = nn 2048 (at2 x1) (at2 x3) t.val d.val := by
  unfold nn
  rw [Finset.sum_range]
  simp only [at2_ix]
  pointwise [val_main_v14, val_main_v13, val_main_v12]

/-- A gate: the logistic function of its logit and bias. -/
theorem gate_at (k : Fin 4096) : val_main_v8 (F := Idealize.ShloMosaic.Ideal) x4 x5 (ix2 t k)
    = Ideal.logistic (at2 x4 t.val (5120 + k.val) + at2 x5 0 k.val) := by
  have hk : 5120 + k.val < 9216 := by have := k.isLt; omega
  have e4 : at2 x4 t.val (5120 + k.val) = x4 (ix2 t ⟨5120 + k.val, hk⟩) := at2_ix x4 t ⟨5120 + k.val, hk⟩
  have e5 : at2 x5 0 k.val = x5 (ix2 0 k) := at2_ix x5 0 k
  rw [e4, e5]
  pointwise [val_main_v8, val_main_v7, val_main_cst_0, val_main_v6, val_main_v5, val_main_cst, val_main_v4, val_main_v3, val_main_v2,
    val_main_v1, val_main_v0]
  rfl

/-- The gated sum. -/
theorem merged_at : val_main_v19 (F := Idealize.ShloMosaic.Ideal) x0 x1 x2 x3 x4 x5 (ix2 t d)
    = merged (at2 x0) (at2 x1) (at2 x2) (at2 x3) (at2 x4) (at2 x5 0) t.val d.val := by
  have hd := d.isLt
  unfold merged gated
  have e0 : idx_main_v15 (ix2 t d) = ix2 t ⟨d.val, by omega⟩ := by funext a; fin_cases a <;> rfl
  have e1 : idx_main_v17 (ix2 t d) = ix2 t ⟨2048 + d.val, by omega⟩ := by funext a; fin_cases a <;> rfl
  rw [val_main_v19_apply, val_main_v16_apply, val_main_v18_apply, val_main_v15_apply, val_main_v17_apply, pool_at, lru_at, e0, e1, gate_at, gate_at]
  show _ = Ideal.logistic (at2 x4 t.val (5120 + d.val) + _) * _ + Ideal.logistic (at2 x4 t.val (7168 + d.val) + _) * _
  rw [show 7168 + d.val = 5120 + (2048 + d.val) by omega]
  rfl

/-- The arrays that the reference leaves. -/
theorem arrays : val_main_v20 (F := Idealize.ShloMosaic.Ideal) x0 x2 = tokens (nn 1024 (at2 x0) (at2 x2))
    ∧ val_main_v21 (F := Idealize.ShloMosaic.Ideal) x1 x3 = tokens (nn 2048 (at2 x1) (at2 x3))
    ∧ val_main_v22 (F := Idealize.ShloMosaic.Ideal) x0 x1 x2 x3 x4 x5
      = tokens (merged (at2 x0) (at2 x1) (at2 x2) (at2 x3) (at2 x4) (at2 x5 0)) := by
  refine ⟨funext fun y => ?_, funext fun y => ?_, funext fun y => ?_⟩ <;> obtain ⟨t, d, rfl⟩ := Cert.Strips.idx2 y
  · exact pool_at x0 x2 t d
  · exact lru_at x1 x3 t d
  · exact merged_at x0 x1 x2 x3 x4 x5 t d

end Cert.Reference21Ideal.Prod
-- ==== Proof.Prod.Up.lean ====
/- The up projection's weight gradient: the array that the product's grid leaves. -/
module

public import proofs.«01_k».proof.Proof.Prod.Model
public import proofs.«01_k».proof.Proof.Gen.Kernel4Ideal.Value
public import Idealize.ShloMosaic.Lib.Pipeline.ValueKit

@[expose] public section

set_option maxRecDepth 16384

noncomputable section

namespace Cert.Kernel4Ideal.Prod

open Cert.Kernel4Ideal Cert.Kernel4Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The forward rows. -/
abbrev h : ℕ → ℕ → EReal := at2 (m ((c : Thread nD τ).loc main_arg0))

/-- The arriving gradient, its two halves side by side. -/
abbrev y : ℕ → ℕ → EReal := beside (m ((c : Thread nD τ).loc main_arg1))

/-- The blocks' places: point `8 j + k` has the columns' block `j` and the rows' part `k`. -/
theorem idx_facts : ∀ t : Fin cfg0.N,
    win0_0.index t (0 : Fin 2) = t.val % 8 ∧ win0_0.index t (1 : Fin 2) = 0
    ∧ win0_1.index t (0 : Fin 3) = t.val / 8 / 4 ∧ win0_1.index t (1 : Fin 3) = t.val % 8 ∧ win0_1.index t (2 : Fin 3) = t.val / 8 % 4
    ∧ win0_2.index t (0 : Fin 2) = 0 ∧ win0_2.index t (1 : Fin 2) = t.val / 8 :=
  (by decide +kernel : ∀ t : Fin grid0.N, _)

section Point

variable (t : Fin cfg0.N)

/-- The rows' block. -/
theorem h_at (x : Fin 1024) (r : Fin 2048) : iblk m c 0 t (ix2 x r) = h m c (1024 * (t.val % 8) + x.val) r.val := by
  obtain ⟨a0, a1, b0, b1, b2, _⟩ := idx_facts t
  show V m c main_arg0 (((cfg0.win 0).blk t).view.emb (ix2 x r)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 1024 + 1 * x.val = 1024 * (t.val % 8) + x.val; omega
  | ⟨1, _⟩ => show win0_0.index t (1 : Fin 2) * 2048 + 1 * r.val = r.val; omega

/-- The gradient's block. -/
theorem y_at (x : Fin 1024) (d : Fin 1536) : iblk m c 1 t (ix3 0 x d) = y m c (1024 * (t.val % 8) + x.val) (1536 * (t.val / 8) + d.val) := by
  have ht : t.val < 64 := lt_of_lt_of_eq t.isLt N_0
  obtain ⟨a0, a1, b0, b1, b2, _⟩ := idx_facts t
  show V m c main_arg1 (((cfg0.win 1).blk t).view.emb (ix3 0 x d)) = beside (m ((c : Thread nD τ).loc main_arg1)) _ _
  unfold beside
  rw [dif_pos ⟨by omega, by omega⟩]
  refine congrArg (m ((c : Thread nD τ).loc main_arg1)) (funext fun a => Fin.ext ?_)
  match a with
  | ⟨0, _⟩ => show win0_1.index t (0 : Fin 3) * 1 + 1 * 0 = (1536 * (t.val / 8) + d.val) / 6144; omega
  | ⟨1, _⟩ => show win0_1.index t (1 : Fin 3) * 1024 + 1 * x.val = 1024 * (t.val % 8) + x.val; omega
  | ⟨2, _⟩ => show win0_1.index t (2 : Fin 3) * 1536 + 1 * d.val = (1536 * (t.val / 8) + d.val) % 6144; omega

/-- The point's part of the product. -/
theorem part_at (r : Fin 2048) (d : Fin 1536) : k0_pay1 (F := Idealize.ShloMosaic.Ideal) (iblk m c 0 t) (iblk m c 1 t) (ix2 r d)
    = ∑ x ∈ Finset.range 1024, h m c (1024 * (t.val % 8) + x) r.val * y m c (1024 * (t.val % 8) + x) (1536 * (t.val / 8) + d.val) := by
  have e : ∀ (A : Vec Idealize.ShloMosaic.Ideal S1024x2048 .bf16) (W : Vec Idealize.ShloMosaic.Ideal S1x1024x1536 .bf16),
      k0_pay1 (F := Idealize.ShloMosaic.Ideal) A W (ix2 r d) = ∑ x : Fin 1024, A (ix2 x r) * W (ix3 0 x d) := fun A W => by
    pointwise [k0_pay1]
  rw [e, Finset.sum_range]
  exact Finset.sum_congr rfl fun x _ => congrArg₂ (· * ·) (h_at m c t x r) (y_at m c t x d)

/-- The buffer after a block's first point. -/
theorem acc_first (h0 : t.val % 8 = 0) : (outsAt0 m c t.val t.isLt).2 = k0_pay1 (F := Idealize.ShloMosaic.Ideal) (iblk m c 0 t) (iblk m c 1 t) := by
  rw [outsAt0_A m c t h0 (by omega) (by omega)]; dsimp only
  unfold sout0_A_0
  rw [View.read_writes_junk_eq_canon]
  unfold kernelRun0_A; dsimp only
  sl_unfold_words
  simp only [View.readAt_eq_ld, (hs0_0 t).read_unread, (hs0_1 t).read_unread]
  rw [View.canon_unit_zero (by funext a; fin_cases a <;> rfl)]
  simp only [ld_whole, ld_whole3]

/-- The buffer after a later point that is not the last. -/
theorem acc_later (h0 : ¬t.val % 8 = 0) (h2 : ¬t.val % 8 = 7) (r : Fin 2048) (d : Fin 1536) : (outsAt0 m c t.val t.isLt).2 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_B m c t h0 (by omega) h2]; dsimp only
  unfold sout0_B_0
  rw [View.read_writes_junk_eq_canon]
  unfold kernelRun0_B; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole, ld_whole3]
  pointwise [k0_pay2, k0_pay1]

/-- The block that the last point writes. -/
theorem out_last (h2 : t.val % 8 = 7) (r : Fin 2048) (d : Fin 1536) : (outsAt0 m c t.val t.isLt).1 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_C m c t (by omega) (by omega) h2]; dsimp only
  unfold out0_C_2
  rw [View.read_writes_junk_eq_canon]
  unfold kernelRun0_C; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole, ld_whole3]
  pointwise [k0_pay3, k0_pay1]

/-- It is the block of the product. -/
theorem out_at (h2 : t.val % 8 = 7) (r : Fin 2048) (d : Fin 1536) : (outsAt0 m c t.val t.isLt).1 (ix2 r d)
    = tn 8192 (h m c) (y m c) r.val (1536 * (t.val / 8) + d.val) := by
  rw [out_last m c t h2, part_at]
  refine collect_last (K := 8) (c := 1024) (fun n hn => (outsAt0 m c n hn).2 (ix2 r d)) (fun b x => h m c x r.val * y m c x (1536 * b + d.val))
    (by omega) (fun n hn h0 => ?_) (fun n hn h0 hk => ?_) t.val t.isLt (by omega)
  · exact (congrFun (acc_first m c ⟨n, hn⟩ h0) _).trans (part_at m c ⟨n, hn⟩ r d)
  · exact (acc_later m c ⟨n, hn⟩ h0 (by show ¬n % 8 = 7; omega) r d).trans (congrArg (_ + ·) (part_at m c ⟨n, hn⟩ r d))

end Point

/-- The result's array. -/
theorem final : (dats m 0 c).arrAt 2 cfg0.N = tnArr 2048 12288 8192 (h m c) (y m c) := by
  refine (dats m 0 c).arrAt_eq_of_cover 2 (tnArr 2048 12288 8192 (h m c) (y m c)) (fun t hf => ?_) (fun (z : S2048x12288.Idx) => ?_)
  · have ef := idx_facts t
    rw [Value.flushed2]
    funext z
    obtain ⟨r, j, rfl⟩ := idx2 z
    refine Eq.trans (?_ : _ = (outsAt0 m c t.val t.isLt).1 (ix2 r j)) ?_
    · rfl
    rw [out_at m c t ((flush0_2 t).mp hf)]
    show _ = tnArr 2048 12288 8192 (h m c) (y m c) (((cfg0.win 2).blk t).view.emb (ix2 r j))
    unfold tnArr
    have h0 : (((cfg0.win 2).blk t).view.emb (ix2 r j) 0).val = r.val := by
      show win0_2.index t (0 : Fin 2) * 2048 + 1 * r.val = _; omega
    have h1 : (((cfg0.win 2).blk t).view.emb (ix2 r j) 1).val = 1536 * (t.val / 8) + j.val := by
      show win0_2.index t (1 : Fin 2) * 1536 + 1 * j.val = _; omega
    rw [h0, h1]
  · exact (by decide +kernel : (cfg0.win 2).Covers).cover _ (Memref.isWhole_whole _) z

/-- The run: the result holds the weights' gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = tnArr 2048 12288 8192 (h m c) (y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Prod
-- ==== Proof.Prod.In.lean ====
/- The input projection's weight gradient: the array that the product's grid leaves. -/
module

public import proofs.«01_k».proof.Proof.Prod.Model
public import proofs.«01_k».proof.Proof.Gen.Kernel5Ideal.Value
public import Idealize.ShloMosaic.Lib.Pipeline.ValueKit

@[expose] public section

set_option maxRecDepth 16384

noncomputable section

namespace Cert.Kernel5Ideal.Prod

open Cert.Kernel5Ideal Cert.Kernel5Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The forward rows. -/
abbrev h : ℕ → ℕ → EReal := at2 (m ((c : Thread nD τ).loc main_arg0))

/-- The arriving gradient. -/
abbrev y : ℕ → ℕ → EReal := at2 (m ((c : Thread nD τ).loc main_arg1))

/-- The blocks' places: point `8 j + k` has the columns' block `j` and the rows' part `k`. -/
theorem idx_facts : ∀ t : Fin cfg0.N,
    win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

section Point

variable (t : Fin cfg0.N)

/-- The rows' block. -/
theorem h_at (x : Fin 1024) (r : Fin 2048) : iblk m c 0 t (ix2 x r) = h m c (1024 * (t.val % 8) + x.val) r.val := by
  obtain ⟨a0, a1, b0, b1, _⟩ := idx_facts t
  show V m c main_arg0 (((cfg0.win 0).blk t).view.emb (ix2 x r)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 1024 + 1 * x.val = 1024 * (t.val % 8) + x.val; omega
  | ⟨1, _⟩ => show win0_0.index t (1 : Fin 2) * 2048 + 1 * r.val = r.val; omega

/-- The gradient's block. -/
theorem y_at (x : Fin 1024) (d : Fin 1536) : iblk m c 1 t (ix2 x d) = y m c (1024 * (t.val % 8) + x.val) (1536 * (t.val / 8) + d.val) := by
  have ht : t.val < 48 := lt_of_lt_of_eq t.isLt N_0
  obtain ⟨a0, a1, b0, b1, _⟩ := idx_facts t
  show V m c main_arg1 (((cfg0.win 1).blk t).view.emb (ix2 x d)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 1024 + 1 * x.val = 1024 * (t.val % 8) + x.val; omega
  | ⟨1, _⟩ => show win0_1.index t (1 : Fin 2) * 1536 + 1 * d.val = 1536 * (t.val / 8) + d.val; omega

/-- The point's part of the product. -/
theorem part_at (r : Fin 2048) (d : Fin 1536) : k0_pay1 (F := Idealize.ShloMosaic.Ideal) (iblk m c 0 t) (iblk m c 1 t) (ix2 r d)
    = ∑ x ∈ Finset.range 1024, h m c (1024 * (t.val % 8) + x) r.val * y m c (1024 * (t.val % 8) + x) (1536 * (t.val / 8) + d.val) := by
  have e : ∀ (A : Vec Idealize.ShloMosaic.Ideal S1024x2048 .bf16) (W : Vec Idealize.ShloMosaic.Ideal S1024x1536 .bf16),
      k0_pay1 (F := Idealize.ShloMosaic.Ideal) A W (ix2 r d) = ∑ x : Fin 1024, A (ix2 x r) * W (ix2 x d) := fun A W => by
    pointwise [k0_pay1]
  rw [e, Finset.sum_range]
  exact Finset.sum_congr rfl fun x _ => congrArg₂ (· * ·) (h_at m c t x r) (y_at m c t x d)

/-- The buffer after a block's first point. -/
theorem acc_first (h0 : t.val % 8 = 0) : (outsAt0 m c t.val t.isLt).2 = k0_pay1 (F := Idealize.ShloMosaic.Ideal) (iblk m c 0 t) (iblk m c 1 t) := by
  rw [outsAt0_A m c t h0 (by omega) (by omega)]; dsimp only
  unfold sout0_A_0
  rw [View.read_writes_junk_eq_canon]
  unfold kernelRun0_A; dsimp only
  sl_unfold_words
  simp only [View.readAt_eq_ld, (hs0_0 t).read_unread, (hs0_1 t).read_unread]
  rw [View.canon_unit_zero (by funext a; fin_cases a <;> rfl)]
  simp only [ld_whole]

/-- The buffer after a later point that is not the last. -/
theorem acc_later (h0 : ¬t.val % 8 = 0) (h2 : ¬t.val % 8 = 7) (r : Fin 2048) (d : Fin 1536) : (outsAt0 m c t.val t.isLt).2 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_B m c t h0 (by omega) h2]; dsimp only
  unfold sout0_B_0
  rw [View.read_writes_junk_eq_canon]
  unfold kernelRun0_B; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay2, k0_pay1]

/-- The block that the last point writes. -/
theorem out_last (h2 : t.val % 8 = 7) (r : Fin 2048) (d : Fin 1536) : (outsAt0 m c t.val t.isLt).1 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_C m c t (by omega) (by omega) h2]; dsimp only
  unfold out0_C_2
  rw [View.read_writes_junk_eq_canon]
  unfold kernelRun0_C; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay3, k0_pay1]

/-- It is the block of the product. -/
theorem out_at (h2 : t.val % 8 = 7) (r : Fin 2048) (d : Fin 1536) : (outsAt0 m c t.val t.isLt).1 (ix2 r d)
    = tn 8192 (h m c) (y m c) r.val (1536 * (t.val / 8) + d.val) := by
  rw [out_last m c t h2, part_at]
  refine collect_last (K := 8) (c := 1024) (fun n hn => (outsAt0 m c n hn).2 (ix2 r d)) (fun b x => h m c x r.val * y m c x (1536 * b + d.val))
    (by omega) (fun n hn h0 => ?_) (fun n hn h0 hk => ?_) t.val t.isLt (by omega)
  · exact (congrFun (acc_first m c ⟨n, hn⟩ h0) _).trans (part_at m c ⟨n, hn⟩ r d)
  · exact (acc_later m c ⟨n, hn⟩ h0 (by show ¬n % 8 = 7; omega) r d).trans (congrArg (_ + ·) (part_at m c ⟨n, hn⟩ r d))

end Point

/-- The result's array. -/
theorem final : (dats m 0 c).arrAt 2 cfg0.N = tnArr 2048 9216 8192 (h m c) (y m c) := by
  refine (dats m 0 c).arrAt_eq_of_cover 2 (tnArr 2048 9216 8192 (h m c) (y m c)) (fun t hf => ?_) (fun (z : S2048x9216.Idx) => ?_)
  · have ef := idx_facts t
    rw [Value.flushed2]
    funext z
    obtain ⟨r, j, rfl⟩ := idx2 z
    refine Eq.trans (?_ : _ = (outsAt0 m c t.val t.isLt).1 (ix2 r j)) ?_
    · rfl
    rw [out_at m c t ((flush0_2 t).mp hf)]
    show _ = tnArr 2048 9216 8192 (h m c) (y m c) (((cfg0.win 2).blk t).view.emb (ix2 r j))
    unfold tnArr
    have h0 : (((cfg0.win 2).blk t).view.emb (ix2 r j) 0).val = r.val := by
      show win0_2.index t (0 : Fin 2) * 2048 + 1 * r.val = _; omega
    have h1 : (((cfg0.win 2).blk t).view.emb (ix2 r j) 1).val = 1536 * (t.val / 8) + j.val := by
      show win0_2.index t (1 : Fin 2) * 1536 + 1 * j.val = _; omega
    rw [h0, h1]
  · exact (by decide +kernel : (cfg0.win 2).Covers).cover _ (Memref.isWhole_whole _) z

/-- The run: the result holds the weights' gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = tnArr 2048 9216 8192 (h m c) (y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel5Ideal.Prod
-- ==== Proof.Prod.Down.lean ====
/- The down projection's weight gradient: the array that the product's grid leaves. -/
module

public import proofs.«01_k».proof.Proof.Prod.Model
public import proofs.«01_k».proof.Proof.Gen.Kernel6Ideal.Value
public import Idealize.ShloMosaic.Lib.Pipeline.ValueKit

@[expose] public section

set_option maxRecDepth 16384

noncomputable section

namespace Cert.Kernel6Ideal.Prod

open Cert.Kernel6Ideal Cert.Kernel6Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The forward rows. -/
abbrev h : ℕ → ℕ → EReal := at2 (m ((c : Thread nD τ).loc main_arg0))

/-- The arriving gradient. -/
abbrev y : ℕ → ℕ → EReal := at2 (m ((c : Thread nD τ).loc main_arg1))

/-- The blocks' places: point `8 i + 4 j + k` has the block `(i, j)` of the result and the rows' part `k`. -/
theorem idx_facts : ∀ t : Fin cfg0.N,
    win0_0.index t (0 : Fin 2) = t.val % 4 ∧ win0_0.index t (1 : Fin 2) = t.val / 4 / 2
    ∧ win0_1.index t (0 : Fin 2) = t.val % 4 ∧ win0_1.index t (1 : Fin 2) = t.val / 4 % 2
    ∧ win0_2.index t (0 : Fin 2) = t.val / 4 / 2 ∧ win0_2.index t (1 : Fin 2) = t.val / 4 % 2 :=
  (by decide +kernel : ∀ t : Fin grid0.N, _)

section Point

variable (t : Fin cfg0.N)

/-- The rows' block. -/
theorem h_at (x : Fin 2048) (r : Fin 1536) : iblk m c 0 t (ix2 x r) = h m c (2048 * (t.val % 4) + x.val) (1536 * (t.val / 4 / 2) + r.val) := by
  have ht : t.val < 32 := lt_of_lt_of_eq t.isLt N_0
  obtain ⟨a0, a1, b0, b1, _⟩ := idx_facts t
  show V m c main_arg0 (((cfg0.win 0).blk t).view.emb (ix2 x r)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 2048 + 1 * x.val = 2048 * (t.val % 4) + x.val; omega
  | ⟨1, _⟩ => show win0_0.index t (1 : Fin 2) * 1536 + 1 * r.val = 1536 * (t.val / 4 / 2) + r.val; omega

/-- The gradient's block. -/
theorem y_at (x : Fin 2048) (d : Fin 1024) : iblk m c 1 t (ix2 x d) = y m c (2048 * (t.val % 4) + x.val) (1024 * (t.val / 4 % 2) + d.val) := by
  have ht : t.val < 32 := lt_of_lt_of_eq t.isLt N_0
  obtain ⟨a0, a1, b0, b1, _⟩ := idx_facts t
  show V m c main_arg1 (((cfg0.win 1).blk t).view.emb (ix2 x d)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 2048 + 1 * x.val = 2048 * (t.val % 4) + x.val; omega
  | ⟨1, _⟩ => show win0_1.index t (1 : Fin 2) * 1024 + 1 * d.val = 1024 * (t.val / 4 % 2) + d.val; omega

/-- The point's part of the product. -/
theorem part_at (r : Fin 1536) (d : Fin 1024) : k0_pay1 (F := Idealize.ShloMosaic.Ideal) (iblk m c 0 t) (iblk m c 1 t) (ix2 r d)
    = ∑ x ∈ Finset.range 2048, h m c (2048 * (t.val % 4) + x) (1536 * (t.val / 4 / 2) + r.val)
        * y m c (2048 * (t.val % 4) + x) (1024 * (t.val / 4 % 2) + d.val) := by
  have e : ∀ (A : Vec Idealize.ShloMosaic.Ideal S2048x1536 .bf16) (W : Vec Idealize.ShloMosaic.Ideal S2048x1024 .bf16),
      k0_pay1 (F := Idealize.ShloMosaic.Ideal) A W (ix2 r d) = ∑ x : Fin 2048, A (ix2 x r) * W (ix2 x d) := fun A W => by
    pointwise [k0_pay1]
  rw [e, Finset.sum_range]
  exact Finset.sum_congr rfl fun x _ => congrArg₂ (· * ·) (h_at m c t x r) (y_at m c t x d)

/-- The buffer after a block's first point. -/
theorem acc_first (h0 : t.val % 4 = 0) : (outsAt0 m c t.val t.isLt).2 = k0_pay1 (F := Idealize.ShloMosaic.Ideal) (iblk m c 0 t) (iblk m c 1 t) := by
  rw [outsAt0_A m c t h0 (by omega) (by omega)]; dsimp only
  unfold sout0_A_0
  rw [View.read_writes_junk_eq_canon]
  unfold kernelRun0_A; dsimp only
  sl_unfold_words
  simp only [View.readAt_eq_ld, (hs0_0 t).read_unread, (hs0_1 t).read_unread]
  rw [View.canon_unit_zero (by funext a; fin_cases a <;> rfl)]
  simp only [ld_whole]

/-- The buffer after a later point that is not the last. -/
theorem acc_later (h0 : ¬t.val % 4 = 0) (h2 : ¬t.val % 4 = 3) (r : Fin 1536) (d : Fin 1024) : (outsAt0 m c t.val t.isLt).2 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_B m c t h0 (by omega) h2]; dsimp only
  unfold sout0_B_0
  rw [View.read_writes_junk_eq_canon]
  unfold kernelRun0_B; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay2, k0_pay1]

/-- The block that the last point writes. -/
theorem out_last (h2 : t.val % 4 = 3) (r : Fin 1536) (d : Fin 1024) : (outsAt0 m c t.val t.isLt).1 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_C m c t (by omega) (by omega) h2]; dsimp only
  unfold out0_C_2
  rw [View.read_writes_junk_eq_canon]
  unfold kernelRun0_C; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay3, k0_pay1]

/-- It is the block of the product. -/
theorem out_at (h2 : t.val % 4 = 3) (r : Fin 1536) (d : Fin 1024) : (outsAt0 m c t.val t.isLt).1 (ix2 r d)
    = tn 8192 (h m c) (y m c) (1536 * (t.val / 4 / 2) + r.val) (1024 * (t.val / 4 % 2) + d.val) := by
  rw [out_last m c t h2, part_at]
  refine collect_last (K := 4) (c := 2048) (fun n hn => (outsAt0 m c n hn).2 (ix2 r d))
    (fun b x => h m c x (1536 * (b / 2) + r.val) * y m c x (1024 * (b % 2) + d.val))
    (by omega) (fun n hn h0 => ?_) (fun n hn h0 hk => ?_) t.val t.isLt (by omega)
  · exact (congrFun (acc_first m c ⟨n, hn⟩ h0) _).trans (part_at m c ⟨n, hn⟩ r d)
  · exact (acc_later m c ⟨n, hn⟩ h0 (by show ¬n % 4 = 3; omega) r d).trans (congrArg (_ + ·) (part_at m c ⟨n, hn⟩ r d))

end Point

/-- The result's array. -/
theorem final : (dats m 0 c).arrAt 2 cfg0.N = tnArr 6144 2048 8192 (h m c) (y m c) := by
  refine (dats m 0 c).arrAt_eq_of_cover 2 (tnArr 6144 2048 8192 (h m c) (y m c)) (fun t hf => ?_) (fun (z : S6144x2048.Idx) => ?_)
  · have ef := idx_facts t
    rw [Value.flushed2]
    funext z
    obtain ⟨r, j, rfl⟩ := idx2 z
    refine Eq.trans (?_ : _ = (outsAt0 m c t.val t.isLt).1 (ix2 r j)) ?_
    · rfl
    rw [out_at m c t ((flush0_2 t).mp hf)]
    show _ = tnArr 6144 2048 8192 (h m c) (y m c) (((cfg0.win 2).blk t).view.emb (ix2 r j))
    unfold tnArr
    have h0 : (((cfg0.win 2).blk t).view.emb (ix2 r j) 0).val = 1536 * (t.val / 4 / 2) + r.val := by
      show win0_2.index t (0 : Fin 2) * 1536 + 1 * r.val = _; omega
    have h1 : (((cfg0.win 2).blk t).view.emb (ix2 r j) 1).val = 1024 * (t.val / 4 % 2) + j.val := by
      show win0_2.index t (1 : Fin 2) * 1024 + 1 * j.val = _; omega
    rw [h0, h1]
  · exact (by decide +kernel : (cfg0.win 2).Covers).cover _ (Memref.isWhole_whole _) z

/-- The run: the result holds the weights' gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = tnArr 6144 2048 8192 (h m c) (y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel6Ideal.Prod
-- ==== Proof.Prod.UpProj.lean ====
/- The up projection: the array that the product's grid leaves. -/
module

public import proofs.«01_k».proof.Proof.Prod.Model
public import proofs.«01_k».proof.Proof.Gen.Kernel7Ideal.Value
public import Idealize.ShloMosaic.Lib.Pipeline.ValueKit

@[expose] public section

set_option maxRecDepth 16384

noncomputable section

namespace Cert.Kernel7Ideal.Prod

open Cert.Kernel7Ideal Cert.Kernel7Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The rows. -/
abbrev h : ℕ → ℕ → EReal := at2 (m ((c : Thread nD τ).loc main_arg0))

/-- The weights. -/
abbrev w : ℕ → ℕ → EReal := at2 (m ((c : Thread nD τ).loc main_arg1))

/-- The blocks' places: point `8 i + j` has the rows' block `i` and the columns' block `j`. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8 :=
  (by decide +kernel : ∀ t : Fin grid0.N, _)

variable (t : Fin cfg0.N)

/-- The rows' block. -/
theorem h_at (r : Fin 1024) (x : Fin 2048) : iblk m c 0 t (ix2 r x) = h m c (1024 * (t.val / 8) + r.val) x.val := by
  have ht : t.val < 64 := lt_of_lt_of_eq t.isLt N_0
  obtain ⟨a0, a1, b0, b1, _⟩ := idx_facts t
  show V m c main_arg0 (((cfg0.win 0).blk t).view.emb (ix2 r x)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 2048 + 1 * x.val = x.val; omega

/-- The weights' block. -/
theorem w_at (x : Fin 2048) (d : Fin 1536) : iblk m c 1 t (ix2 x d) = w m c x.val (1536 * (t.val % 8) + d.val) := by
  obtain ⟨a0, a1, b0, b1, _⟩ := idx_facts t
  show V m c main_arg1 (((cfg0.win 1).blk t).view.emb (ix2 x d)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 2048 + 1 * x.val = x.val; omega
  | ⟨1, _⟩ => show win0_1.index t (1 : Fin 2) * 1536 + 1 * d.val = 1536 * (t.val % 8) + d.val; omega

/-- The point's block of the product. -/
theorem out_at (r : Fin 1024) (d : Fin 1536) : out0_2 (F := Idealize.ShloMosaic.Ideal) (iblk m c 0 t) (iblk m c 1 t) (ix2 r d)
    = nn 2048 (h m c) (w m c) (1024 * (t.val / 8) + r.val) (1536 * (t.val % 8) + d.val) := by
  have e : ∀ (A : Vec Idealize.ShloMosaic.Ideal S1024x2048 .bf16) (W : Vec Idealize.ShloMosaic.Ideal S2048x1536 .bf16),
      k0_pay1 (F := Idealize.ShloMosaic.Ideal) A W (ix2 r d) = ∑ x : Fin 2048, A (ix2 r x) * W (ix2 x d) := fun A W => by
    pointwise [k0_pay1]
  unfold out0_2
  rw [View.canon_unit_zero (by funext a; fin_cases a <;> rfl)]
  simp only [r0_0, r0_1, ld_whole]
  unfold nn
  rw [e, Finset.sum_range]
  exact Finset.sum_congr rfl fun x _ => congrArg₂ (· * ·) (h_at m c t r x) (w_at m c t x d)

/-- The result's array. -/
theorem final : (dats m 0 c).arrAt 2 cfg0.N = nnArr 8192 12288 2048 (h m c) (w m c) := by
  refine (dats m 0 c).arrAt_eq_of_cover 2 (nnArr 8192 12288 2048 (h m c) (w m c)) (fun t _ => ?_) (fun (z : S8192x12288.Idx) => ?_)
  · have ef := idx_facts t
    rw [Value.flushed2]
    funext z
    obtain ⟨r, j, rfl⟩ := idx2 z
    refine Eq.trans (?_ : _ = out0_2 (F := Idealize.ShloMosaic.Ideal) (iblk m c 0 t) (iblk m c 1 t) (ix2 r j)) ?_
    · rfl
    rw [out_at]
    show _ = nnArr 8192 12288 2048 (h m c) (w m c) (((cfg0.win 2).blk t).view.emb (ix2 r j))
    unfold nnArr
    have h0 : (((cfg0.win 2).blk t).view.emb (ix2 r j) 0).val = 1024 * (t.val / 8) + r.val := by
      show win0_2.index t (0 : Fin 2) * 1024 + 1 * r.val = _; omega
    have h1 : (((cfg0.win 2).blk t).view.emb (ix2 r j) 1).val = 1536 * (t.val % 8) + j.val := by
      show win0_2.index t (1 : Fin 2) * 1536 + 1 * j.val = _; omega
    rw [h0, h1]
  · exact (by decide +kernel : (cfg0.win 2).Covers).cover _ (Memref.isWhole_whole _) z

/-- The run: the result holds the product, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = nnArr 8192 12288 2048 (h m c) (w m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel7Ideal.Prod
-- ==== Proof.Prod.LruProj.lean ====
/- The recurrence projection's weight gradient, which is the output projection's too: the array that the product's grid leaves. -/
module

public import proofs.«01_k».proof.Proof.Prod.Model
public import proofs.«01_k».proof.Proof.Gen.Kernel8Ideal.Value
public import Idealize.ShloMosaic.Lib.Pipeline.ValueKit

@[expose] public section

set_option maxRecDepth 16384

noncomputable section

namespace Cert.Kernel8Ideal.Prod

open Cert.Kernel8Ideal Cert.Kernel8Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The forward rows. -/
abbrev h : ℕ → ℕ → EReal := at2 (m ((c : Thread nD τ).loc main_arg0))

/-- The arriving gradient. -/
abbrev y : ℕ → ℕ → EReal := at2 (m ((c : Thread nD τ).loc main_arg1))

/-- The blocks' places: point `4 j + k` has the block `(0, j)` of the result and the rows' part `k`. -/
theorem idx_facts : ∀ t : Fin cfg0.N,
    win0_0.index t (0 : Fin 2) = t.val % 4 ∧ win0_0.index t (1 : Fin 2) = t.val / 4 / 2
    ∧ win0_1.index t (0 : Fin 2) = t.val % 4 ∧ win0_1.index t (1 : Fin 2) = t.val / 4 % 2
    ∧ win0_2.index t (0 : Fin 2) = t.val / 4 / 2 ∧ win0_2.index t (1 : Fin 2) = t.val / 4 % 2 :=
  (by decide +kernel : ∀ t : Fin grid0.N, _)

section Point

variable (t : Fin cfg0.N)

/-- The rows' block. -/
theorem h_at (x : Fin 2048) (r : Fin 2048) : iblk m c 0 t (ix2 x r) = h m c (2048 * (t.val % 4) + x.val) (2048 * (t.val / 4 / 2) + r.val) := by
  have ht : t.val < 8 := lt_of_lt_of_eq t.isLt N_0
  obtain ⟨a0, a1, b0, b1, _⟩ := idx_facts t
  show V m c main_arg0 (((cfg0.win 0).blk t).view.emb (ix2 x r)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 2048 + 1 * x.val = 2048 * (t.val % 4) + x.val; omega
  | ⟨1, _⟩ => show win0_0.index t (1 : Fin 2) * 2048 + 1 * r.val = 2048 * (t.val / 4 / 2) + r.val; omega

/-- The gradient's block. -/
theorem y_at (x : Fin 2048) (d : Fin 1024) : iblk m c 1 t (ix2 x d) = y m c (2048 * (t.val % 4) + x.val) (1024 * (t.val / 4 % 2) + d.val) := by
  have ht : t.val < 8 := lt_of_lt_of_eq t.isLt N_0
  obtain ⟨a0, a1, b0, b1, _⟩ := idx_facts t
  show V m c main_arg1 (((cfg0.win 1).blk t).view.emb (ix2 x d)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 2048 + 1 * x.val = 2048 * (t.val % 4) + x.val; omega
  | ⟨1, _⟩ => show win0_1.index t (1 : Fin 2) * 1024 + 1 * d.val = 1024 * (t.val / 4 % 2) + d.val; omega

/-- The point's part of the product. -/
theorem part_at (r : Fin 2048) (d : Fin 1024) : k0_pay1 (F := Idealize.ShloMosaic.Ideal) (iblk m c 0 t) (iblk m c 1 t) (ix2 r d)
    = ∑ x ∈ Finset.range 2048, h m c (2048 * (t.val % 4) + x) (2048 * (t.val / 4 / 2) + r.val)
        * y m c (2048 * (t.val % 4) + x) (1024 * (t.val / 4 % 2) + d.val) := by
  have e : ∀ (A : Vec Idealize.ShloMosaic.Ideal S2048x2048 .bf16) (W : Vec Idealize.ShloMosaic.Ideal S2048x1024 .bf16),
      k0_pay1 (F := Idealize.ShloMosaic.Ideal) A W (ix2 r d) = ∑ x : Fin 2048, A (ix2 x r) * W (ix2 x d) := fun A W => by
    pointwise [k0_pay1]
  rw [e, Finset.sum_range]
  exact Finset.sum_congr rfl fun x _ => congrArg₂ (· * ·) (h_at m c t x r) (y_at m c t x d)

/-- The buffer after a block's first point. -/
theorem acc_first (h0 : t.val % 4 = 0) : (outsAt0 m c t.val t.isLt).2 = k0_pay1 (F := Idealize.ShloMosaic.Ideal) (iblk m c 0 t) (iblk m c 1 t) := by
  rw [outsAt0_A m c t h0 (by omega) (by omega)]; dsimp only
  unfold sout0_A_0
  rw [View.read_writes_junk_eq_canon]
  unfold kernelRun0_A; dsimp only
  sl_unfold_words
  simp only [View.readAt_eq_ld, (hs0_0 t).read_unread, (hs0_1 t).read_unread]
  rw [View.canon_unit_zero (by funext a; fin_cases a <;> rfl)]
  simp only [ld_whole]

/-- The buffer after a later point that is not the last. -/
theorem acc_later (h0 : ¬t.val % 4 = 0) (h2 : ¬t.val % 4 = 3) (r : Fin 2048) (d : Fin 1024) : (outsAt0 m c t.val t.isLt).2 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_B m c t h0 (by omega) h2]; dsimp only
  unfold sout0_B_0
  rw [View.read_writes_junk_eq_canon]
  unfold kernelRun0_B; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay2, k0_pay1]

/-- The block that the last point writes. -/
theorem out_last (h2 : t.val % 4 = 3) (r : Fin 2048) (d : Fin 1024) : (outsAt0 m c t.val t.isLt).1 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_C m c t (by omega) (by omega) h2]; dsimp only
  unfold out0_C_2
  rw [View.read_writes_junk_eq_canon]
  unfold kernelRun0_C; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay3, k0_pay1]

/-- It is the block of the product. -/
theorem out_at (h2 : t.val % 4 = 3) (r : Fin 2048) (d : Fin 1024) : (outsAt0 m c t.val t.isLt).1 (ix2 r d)
    = tn 8192 (h m c) (y m c) (2048 * (t.val / 4 / 2) + r.val) (1024 * (t.val / 4 % 2) + d.val) := by
  rw [out_last m c t h2, part_at]
  refine collect_last (K := 4) (c := 2048) (fun n hn => (outsAt0 m c n hn).2 (ix2 r d))
    (fun b x => h m c x (2048 * (b / 2) + r.val) * y m c x (1024 * (b % 2) + d.val))
    (by omega) (fun n hn h0 => ?_) (fun n hn h0 hk => ?_) t.val t.isLt (by omega)
  · exact (congrFun (acc_first m c ⟨n, hn⟩ h0) _).trans (part_at m c ⟨n, hn⟩ r d)
  · exact (acc_later m c ⟨n, hn⟩ h0 (by show ¬n % 4 = 3; omega) r d).trans (congrArg (_ + ·) (part_at m c ⟨n, hn⟩ r d))

end Point

/-- The result's array. -/
theorem final : (dats m 0 c).arrAt 2 cfg0.N = tnArr 2048 2048 8192 (h m c) (y m c) := by
  refine (dats m 0 c).arrAt_eq_of_cover 2 (tnArr 2048 2048 8192 (h m c) (y m c)) (fun t hf => ?_) (fun (z : S2048x2048.Idx) => ?_)
  · have ef := idx_facts t
    rw [Value.flushed2]
    funext z
    obtain ⟨r, j, rfl⟩ := idx2 z
    refine Eq.trans (?_ : _ = (outsAt0 m c t.val t.isLt).1 (ix2 r j)) ?_
    · rfl
    rw [out_at m c t ((flush0_2 t).mp hf)]
    show _ = tnArr 2048 2048 8192 (h m c) (y m c) (((cfg0.win 2).blk t).view.emb (ix2 r j))
    unfold tnArr
    have h0 : (((cfg0.win 2).blk t).view.emb (ix2 r j) 0).val = 2048 * (t.val / 4 / 2) + r.val := by
      show win0_2.index t (0 : Fin 2) * 2048 + 1 * r.val = _; omega
    have h1 : (((cfg0.win 2).blk t).view.emb (ix2 r j) 1).val = 1024 * (t.val / 4 % 2) + j.val := by
      show win0_2.index t (1 : Fin 2) * 1024 + 1 * j.val = _; omega
    rw [h0, h1]
  · exact (by decide +kernel : (cfg0.win 2).Covers).cover _ (Memref.isWhole_whole _) z

/-- The run: the result holds the weights' gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = tnArr 2048 2048 8192 (h m c) (y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel8Ideal.Prod
-- ==== Proof.Prod.PoolProj.lean ====
/- The pooling projection's weight gradient: the array that the product's grid leaves. -/
module

public import proofs.«01_k».proof.Proof.Prod.Model
public import proofs.«01_k».proof.Proof.Gen.Kernel9Ideal.Value
public import Idealize.ShloMosaic.Lib.Pipeline.ValueKit

@[expose] public section

set_option maxRecDepth 16384

noncomputable section

namespace Cert.Kernel9Ideal.Prod

open Cert.Kernel9Ideal Cert.Kernel9Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The forward rows. -/
abbrev h : ℕ → ℕ → EReal := at2 (m ((c : Thread nD τ).loc main_arg0))

/-- The arriving gradient. -/
abbrev y : ℕ → ℕ → EReal := at2 (m ((c : Thread nD τ).loc main_arg1))

/-- The blocks' places: point `4 j + k` has the block `(0, j)` of the result and the rows' part `k`. -/
theorem idx_facts : ∀ t : Fin cfg0.N,
    win0_0.index t (0 : Fin 2) = t.val % 4 ∧ win0_0.index t (1 : Fin 2) = t.val / 4 / 2
    ∧ win0_1.index t (0 : Fin 2) = t.val % 4 ∧ win0_1.index t (1 : Fin 2) = t.val / 4 % 2
    ∧ win0_2.index t (0 : Fin 2) = t.val / 4 / 2 ∧ win0_2.index t (1 : Fin 2) = t.val / 4 % 2 :=
  (by decide +kernel : ∀ t : Fin grid0.N, _)

section Point

variable (t : Fin cfg0.N)

/-- The rows' block. -/
theorem h_at (x : Fin 2048) (r : Fin 1024) : iblk m c 0 t (ix2 x r) = h m c (2048 * (t.val % 4) + x.val) (1024 * (t.val / 4 / 2) + r.val) := by
  have ht : t.val < 8 := lt_of_lt_of_eq t.isLt N_0
  obtain ⟨a0, a1, b0, b1, _⟩ := idx_facts t
  show V m c main_arg0 (((cfg0.win 0).blk t).view.emb (ix2 x r)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 2048 + 1 * x.val = 2048 * (t.val % 4) + x.val; omega
  | ⟨1, _⟩ => show win0_0.index t (1 : Fin 2) * 1024 + 1 * r.val = 1024 * (t.val / 4 / 2) + r.val; omega

/-- The gradient's block. -/
theorem y_at (x : Fin 2048) (d : Fin 1024) : iblk m c 1 t (ix2 x d) = y m c (2048 * (t.val % 4) + x.val) (1024 * (t.val / 4 % 2) + d.val) := by
  have ht : t.val < 8 := lt_of_lt_of_eq t.isLt N_0
  obtain ⟨a0, a1, b0, b1, _⟩ := idx_facts t
  show V m c main_arg1 (((cfg0.win 1).blk t).view.emb (ix2 x d)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 2048 + 1 * x.val = 2048 * (t.val % 4) + x.val; omega
  | ⟨1, _⟩ => show win0_1.index t (1 : Fin 2) * 1024 + 1 * d.val = 1024 * (t.val / 4 % 2) + d.val; omega

/-- The point's part of the product. -/
theorem part_at (r : Fin 1024) (d : Fin 1024) : k0_pay1 (F := Idealize.ShloMosaic.Ideal) (iblk m c 0 t) (iblk m c 1 t) (ix2 r d)
    = ∑ x ∈ Finset.range 2048, h m c (2048 * (t.val % 4) + x) (1024 * (t.val / 4 / 2) + r.val)
        * y m c (2048 * (t.val % 4) + x) (1024 * (t.val / 4 % 2) + d.val) := by
  have e : ∀ (A : Vec Idealize.ShloMosaic.Ideal S2048x1024 .bf16) (W : Vec Idealize.ShloMosaic.Ideal S2048x1024 .bf16),
      k0_pay1 (F := Idealize.ShloMosaic.Ideal) A W (ix2 r d) = ∑ x : Fin 2048, A (ix2 x r) * W (ix2 x d) := fun A W => by
    pointwise [k0_pay1]
  rw [e, Finset.sum_range]
  exact Finset.sum_congr rfl fun x _ => congrArg₂ (· * ·) (h_at m c t x r) (y_at m c t x d)

/-- The buffer after a block's first point. -/
theorem acc_first (h0 : t.val % 4 = 0) : (outsAt0 m c t.val t.isLt).2 = k0_pay1 (F := Idealize.ShloMosaic.Ideal) (iblk m c 0 t) (iblk m c 1 t) := by
  rw [outsAt0_A m c t h0 (by omega) (by omega)]; dsimp only
  unfold sout0_A_0
  rw [View.read_writes_junk_eq_canon]
  unfold kernelRun0_A; dsimp only
  sl_unfold_words
  simp only [View.readAt_eq_ld, (hs0_0 t).read_unread, (hs0_1 t).read_unread]
  rw [View.canon_unit_zero (by funext a; fin_cases a <;> rfl)]
  simp only [ld_whole]

/-- The buffer after a later point that is not the last. -/
theorem acc_later (h0 : ¬t.val % 4 = 0) (h2 : ¬t.val % 4 = 3) (r : Fin 1024) (d : Fin 1024) : (outsAt0 m c t.val t.isLt).2 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_B m c t h0 (by omega) h2]; dsimp only
  unfold sout0_B_0
  rw [View.read_writes_junk_eq_canon]
  unfold kernelRun0_B; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay2, k0_pay1]

/-- The block that the last point writes. -/
theorem out_last (h2 : t.val % 4 = 3) (r : Fin 1024) (d : Fin 1024) : (outsAt0 m c t.val t.isLt).1 (ix2 r d)
    = (outsAt0 m c (t.val - 1) (Nat.lt_of_le_of_lt (Nat.sub_le _ _) t.isLt)).2 (ix2 r d)
      + k0_pay1 (F := Idealize.ShloMosaic.Ideal) (iblk m c 0 t) (iblk m c 1 t) (ix2 r d) := by
  rw [outsAt0_C m c t (by omega) (by omega) h2]; dsimp only
  unfold out0_C_2
  rw [View.read_writes_junk_eq_canon]
  unfold kernelRun0_C; dsimp only
  sl_unfold_words
  simp only [View.readAt_eq_ld, (hs0_0 t).read_unread, (hs0_1 t).read_unread, (Memref.isWhole_whole cc0_scratch0).read_unread]
  rw [View.canon_unit_zero (by funext a; fin_cases a <;> rfl)]
  simp only [ld_whole]
  pointwise [k0_pay3, k0_pay1]

/-- It is the block of the product. -/
theorem out_at (h2 : t.val % 4 = 3) (r : Fin 1024) (d : Fin 1024) : (outsAt0 m c t.val t.isLt).1 (ix2 r d)
    = tn 8192 (h m c) (y m c) (1024 * (t.val / 4 / 2) + r.val) (1024 * (t.val / 4 % 2) + d.val) := by
  rw [out_last m c t h2, part_at]
  refine collect_last (K := 4) (c := 2048) (fun n hn => (outsAt0 m c n hn).2 (ix2 r d))
    (fun b x => h m c x (1024 * (b / 2) + r.val) * y m c x (1024 * (b % 2) + d.val))
    (by omega) (fun n hn h0 => ?_) (fun n hn h0 hk => ?_) t.val t.isLt (by omega)
  · exact (congrFun (acc_first m c ⟨n, hn⟩ h0) _).trans (part_at m c ⟨n, hn⟩ r d)
  · exact (acc_later m c ⟨n, hn⟩ h0 (by show ¬n % 4 = 3; omega) r d).trans (congrArg (_ + ·) (part_at m c ⟨n, hn⟩ r d))

end Point

/-- The result's array. -/
theorem final : (dats m 0 c).arrAt 2 cfg0.N = tnArr 1024 2048 8192 (h m c) (y m c) := by
  refine (dats m 0 c).arrAt_eq_of_cover 2 (tnArr 1024 2048 8192 (h m c) (y m c)) (fun t hf => ?_) (fun (z : S1024x2048.Idx) => ?_)
  · have ef := idx_facts t
    rw [Value.flushed2]
    funext z
    obtain ⟨r, j, rfl⟩ := idx2 z
    refine Eq.trans (?_ : _ = (outsAt0 m c t.val t.isLt).1 (ix2 r j)) ?_
    · rfl
    rw [out_at m c t ((flush0_2 t).mp hf)]
    show _ = tnArr 1024 2048 8192 (h m c) (y m c) (((cfg0.win 2).blk t).view.emb (ix2 r j))
    unfold tnArr
    have h0 : (((cfg0.win 2).blk t).view.emb (ix2 r j) 0).val = 1024 * (t.val / 4 / 2) + r.val := by
      show win0_2.index t (0 : Fin 2) * 1024 + 1 * r.val = _; omega
    have h1 : (((cfg0.win 2).blk t).view.emb (ix2 r j) 1).val = 1024 * (t.val / 4 % 2) + j.val := by
      show win0_2.index t (1 : Fin 2) * 1024 + 1 * j.val = _; omega
    rw [h0, h1]
  · exact (by decide +kernel : (cfg0.win 2).Covers).cover _ (Memref.isWhole_whole _) z

/-- The run: the result holds the weights' gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = tnArr 1024 2048 8192 (h m c) (y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel9Ideal.Prod
-- ==== Proof.Prod.LruIn.lean ====
/- The recurrence's output gradient, from that of its projection: the array that the product's grid leaves. -/
module

public import proofs.«01_k».proof.Proof.Prod.Model
public import proofs.«01_k».proof.Proof.Gen.Kernel10Ideal.Value
public import Idealize.ShloMosaic.Lib.Pipeline.ValueKit

@[expose] public section

set_option maxRecDepth 16384

noncomputable section

namespace Cert.Kernel10Ideal.Prod

open Cert.Kernel10Ideal Cert.Kernel10Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The arriving gradient. -/
abbrev y : ℕ → ℕ → EReal := at2 (m ((c : Thread nD τ).loc main_arg0))

/-- The weights. -/
abbrev w : ℕ → ℕ → EReal := at2 (m ((c : Thread nD τ).loc main_arg1))

/-- The blocks' places: point `2 i + j` has the rows' block `i` and the weights' rows' block `j`. -/
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

variable (t : Fin cfg0.N)

/-- The gradient's block. -/
theorem y_at (r : Fin 1024) (x : Fin 2048) : iblk m c 0 t (ix2 r x) = y m c (1024 * (t.val / 2) + r.val) x.val := by
  have ht : t.val < 16 := lt_of_lt_of_eq t.isLt N_0
  obtain ⟨a0, a1, b0, b1, _⟩ := idx_facts t
  show V m c main_arg0 (((cfg0.win 0).blk t).view.emb (ix2 r x)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 1024 + 1 * r.val = 1024 * (t.val / 2) + r.val; omega
  | ⟨1, _⟩ => show win0_0.index t (1 : Fin 2) * 2048 + 1 * x.val = x.val; omega

/-- The weights' block. -/
theorem w_at (d : Fin 1024) (x : Fin 2048) : iblk m c 1 t (ix2 d x) = w m c (1024 * (t.val % 2) + d.val) x.val := by
  have ht : t.val < 16 := lt_of_lt_of_eq t.isLt N_0
  obtain ⟨a0, a1, b0, b1, _⟩ := idx_facts t
  show V m c main_arg1 (((cfg0.win 1).blk t).view.emb (ix2 d x)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 1024 + 1 * d.val = 1024 * (t.val % 2) + d.val; omega
  | ⟨1, _⟩ => show win0_1.index t (1 : Fin 2) * 2048 + 1 * x.val = x.val; omega

/-- The point's block of the product. -/
theorem out_at (r : Fin 1024) (d : Fin 1024) : out0_2 (F := Idealize.ShloMosaic.Ideal) (iblk m c 0 t) (iblk m c 1 t) (ix2 r d)
    = nt 2048 (y m c) (w m c) (1024 * (t.val / 2) + r.val) (1024 * (t.val % 2) + d.val) := by
  have e : ∀ (A : Vec Idealize.ShloMosaic.Ideal S1024x2048 .bf16) (W : Vec Idealize.ShloMosaic.Ideal S1024x2048 .bf16),
      k0_pay1 (F := Idealize.ShloMosaic.Ideal) A W (ix2 r d) = ∑ x : Fin 2048, A (ix2 r x) * W (ix2 d x) := fun A W => by
    pointwise [k0_pay1]
  unfold out0_2
  rw [View.canon_unit_zero (by funext a; fin_cases a <;> rfl)]
  simp only [r0_0, r0_1, ld_whole]
  unfold nt
  rw [e, Finset.sum_range]
  exact Finset.sum_congr rfl fun x _ => congrArg₂ (· * ·) (y_at m c t r x) (w_at m c t d x)

/-- The result's array. -/
theorem final : (dats m 0 c).arrAt 2 cfg0.N = ntArr 8192 2048 2048 (y m c) (w m c) := by
  refine (dats m 0 c).arrAt_eq_of_cover 2 (ntArr 8192 2048 2048 (y m c) (w m c)) (fun t _ => ?_) (fun (z : S8192x2048.Idx) => ?_)
  · have ef := idx_facts t
    rw [Value.flushed2]
    funext z
    obtain ⟨r, j, rfl⟩ := idx2 z
    refine Eq.trans (?_ : _ = out0_2 (F := Idealize.ShloMosaic.Ideal) (iblk m c 0 t) (iblk m c 1 t) (ix2 r j)) ?_
    · rfl
    rw [out_at]
    show _ = ntArr 8192 2048 2048 (y m c) (w m c) (((cfg0.win 2).blk t).view.emb (ix2 r j))
    unfold ntArr
    have h0 : (((cfg0.win 2).blk t).view.emb (ix2 r j) 0).val = 1024 * (t.val / 2) + r.val := by
      show win0_2.index t (0 : Fin 2) * 1024 + 1 * r.val = _; omega
    have h1 : (((cfg0.win 2).blk t).view.emb (ix2 r j) 1).val = 1024 * (t.val % 2) + j.val := by
      show win0_2.index t (1 : Fin 2) * 1024 + 1 * j.val = _; omega
    rw [h0, h1]
  · exact (by decide +kernel : (cfg0.win 2).Covers).cover _ (Memref.isWhole_whole _) z

/-- The run: the result holds the gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = ntArr 8192 2048 2048 (y m c) (w m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel10Ideal.Prod
-- ==== Proof.Prod.PoolIn.lean ====
/- The pooling mixer's output gradient, from that of its projection: the array that the product's grid leaves. -/
module

public import proofs.«01_k».proof.Proof.Prod.Model
public import proofs.«01_k».proof.Proof.Gen.Kernel11Ideal.Value
public import Idealize.ShloMosaic.Lib.Pipeline.ValueKit

@[expose] public section

set_option maxRecDepth 16384

noncomputable section

namespace Cert.Kernel11Ideal.Prod

open Cert.Kernel11Ideal Cert.Kernel11Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (c : Dev nD)

/-- The arriving gradient. -/
abbrev y : ℕ → ℕ → EReal := at2 (m ((c : Thread nD τ).loc main_arg0))

/-- The weights. -/
abbrev w : ℕ → ℕ → EReal := at2 (m ((c : Thread nD τ).loc main_arg1))

/-- The blocks' places: point `i` has the rows' block `i` and all the weights' rows. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (t : Fin cfg0.N)

/-- The gradient's block. -/
theorem y_at (r : Fin 1024) (x : Fin 2048) : iblk m c 0 t (ix2 r x) = y m c (1024 * (t.val) + r.val) x.val := by
  have ht : t.val < 8 := lt_of_lt_of_eq t.isLt N_0
  obtain ⟨a0, a1, b0, b1, _⟩ := idx_facts t
  show V m c main_arg0 (((cfg0.win 0).blk t).view.emb (ix2 r x)) = at2 (m ((c : Thread nD τ).loc main_arg0)) _ _
  unfold at2
  rw [dif_pos ⟨by omega, by omega⟩]
  refine congrArg (m ((c : Thread nD τ).loc main_arg0)) (funext fun a => Fin.ext ?_)
  match a with
  | ⟨0, _⟩ => show win0_0.index t (0 : Fin 2) * 1024 + 1 * r.val = 1024 * (t.val) + r.val; omega
  | ⟨1, _⟩ => show win0_0.index t (1 : Fin 2) * 2048 + 1 * x.val = x.val; omega

/-- The weights' block. -/
theorem w_at (d : Fin 1024) (x : Fin 2048) : iblk m c 1 t (ix2 d x) = w m c (d.val) x.val := by
  have ht : t.val < 8 := lt_of_lt_of_eq t.isLt N_0
  obtain ⟨a0, a1, b0, b1, _⟩ := idx_facts t
  show V m c main_arg1 (((cfg0.win 1).blk t).view.emb (ix2 d x)) = at2 (m ((c : Thread nD τ).loc main_arg1)) _ _
  unfold at2
  rw [dif_pos ⟨by omega, by omega⟩]
  refine congrArg (m ((c : Thread nD τ).loc main_arg1)) (funext fun a => Fin.ext ?_)
  match a with
  | ⟨0, _⟩ => show win0_1.index t (0 : Fin 2) * 1024 + 1 * d.val = d.val; omega
  | ⟨1, _⟩ => show win0_1.index t (1 : Fin 2) * 2048 + 1 * x.val = x.val; omega

/-- The point's block of the product. -/
theorem out_at (r : Fin 1024) (d : Fin 1024) : out0_2 (F := Idealize.ShloMosaic.Ideal) (iblk m c 0 t) (iblk m c 1 t) (ix2 r d)
    = nt 2048 (y m c) (w m c) (1024 * (t.val) + r.val) (d.val) := by
  have e : ∀ (A : Vec Idealize.ShloMosaic.Ideal S1024x2048 .bf16) (W : Vec Idealize.ShloMosaic.Ideal S1024x2048 .bf16),
      k0_pay1 (F := Idealize.ShloMosaic.Ideal) A W (ix2 r d) = ∑ x : Fin 2048, A (ix2 r x) * W (ix2 d x) := fun A W => by
    pointwise [k0_pay1]
  unfold out0_2
  rw [View.canon_unit_zero (by funext a; fin_cases a <;> rfl)]
  simp only [r0_0, r0_1, ld_whole]
  unfold nt
  rw [e, Finset.sum_range]
  exact Finset.sum_congr rfl fun x _ => congrArg₂ (· * ·) (y_at m c t r x) (w_at m c t d x)

/-- The result's array. -/
theorem final : (dats m 0 c).arrAt 2 cfg0.N = ntArr 8192 1024 2048 (y m c) (w m c) := by
  refine (dats m 0 c).arrAt_eq_of_cover 2 (ntArr 8192 1024 2048 (y m c) (w m c)) (fun t _ => ?_) (fun (z : S8192x1024.Idx) => ?_)
  · have ef := idx_facts t
    rw [Value.flushed2]
    funext z
    obtain ⟨r, j, rfl⟩ := idx2 z
    refine Eq.trans (?_ : _ = out0_2 (F := Idealize.ShloMosaic.Ideal) (iblk m c 0 t) (iblk m c 1 t) (ix2 r j)) ?_
    · rfl
    rw [out_at]
    show _ = ntArr 8192 1024 2048 (y m c) (w m c) (((cfg0.win 2).blk t).view.emb (ix2 r j))
    unfold ntArr
    have h0 : (((cfg0.win 2).blk t).view.emb (ix2 r j) 0).val = 1024 * (t.val) + r.val := by
      show win0_2.index t (0 : Fin 2) * 1024 + 1 * r.val = _; omega
    have h1 : (((cfg0.win 2).blk t).view.emb (ix2 r j) 1).val = j.val := by
      show win0_2.index t (1 : Fin 2) * 1024 + 1 * j.val = _; omega
    rw [h0, h1]
  · exact (by decide +kernel : (cfg0.win 2).Covers).cover _ (Memref.isWhole_whole _) z

/-- The run: the result holds the gradient, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = ntArr 8192 1024 2048 (y m c) (w m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel11Ideal.Prod
-- ==== Proof.Prod.InRange.lean ====
/- The precondition of the remaining columns' projection read, and what it gives: with the first part's number at most
   six, both column blocks of every grid point lie inside their arrays. -/
module

public import proofs.«01_k».proof.Pre_in_range
public import proofs.«01_k».proof.Proof.Gen.Kernel12.Frame
public import proofs.«01_k».proof.Proof.Gen.Kernel12Ideal.Frame

@[expose] public section

set_option maxRecDepth 16384

noncomputable section

namespace Cert.Pre_in_range.Proj

open Cert.Pre_in_range Idealize.ShloMosaic

/-- The shape relation the predicate's operations take. -/
theorem facts : Cert.Pre_in_range.Facts where
  bcast_S_S1 := by decide

variable [Facts]

/-- Under the precondition the first part's number is at most six. -/
theorem le_six {F : FTy → Type} [FloatOps F] (x0 : IVec S1 32) (x1 : FVec F S8192x2048 .bf16) (x2 : FVec F S2048x9216 .bf16) (x3 : FVec F S8192x9216 .f32)
    (h : (fn x0 x1 x2 x3).1 = (fun _ => 1#1) ∧ (fn x0 x1 x2 x3).2 = fun _ => 1#1) (i : S1.Idx) : (x0 i).toNat ≤ 6 := by
  have lo : IntOp.cmpi .sge (x0 i) 0#32 = 1#1 := congrFun h.1 i
  have hi : IntOp.cmpi .sle (x0 i) 6#32 = 1#1 := congrFun h.2 i
  generalize x0 i = v at lo hi ⊢
  have one (p : Bool) : (BitVec.ofBool p = 1#1) ↔ p = true := by cases p <;> decide
  have hv := v.isLt
  simp only [IntOp.cmpi, one, BitVec.sle, decide_eq_true_eq, BitVec.toInt, BitVec.toNat_ofNat] at lo hi
  omega

end Cert.Pre_in_range.Proj

/-- The one index of an array of one element. -/
def Cert.Prod.one1 : (⟨1, ![1]⟩ : Idealize.ShloMosaic.Shape).Idx := fun a => ⟨0, by match a with | ⟨0, _⟩ => exact Nat.one_pos⟩

/-- There is no other. -/
theorem Cert.Prod.eq_one1 (x : (⟨1, ![1]⟩ : Idealize.ShloMosaic.Shape).Idx) : x = Cert.Prod.one1 :=
  funext fun a => Fin.ext (by match a with | ⟨0, _⟩ => exact Nat.lt_one_iff.mp (x 0).isLt)

/-- A small number and a grid coordinate add without wrapping. -/
theorem Cert.Prod.add_toNat (v : BitVec 32) (n : ℕ) (hv : v.toNat ≤ 6) (hn : n < 2) : (v + BitVec.ofNat 32 n).toNat = v.toNat + n := by
  rw [BitVec.toNat_add, BitVec.toNat_ofNat]
  omega

namespace Cert.Kernel12Ideal.Prod

open Cert.Kernel12Ideal Cert.Kernel12Ideal.Gen Idealize.ShloMosaic Idealize.ShloMosaic.TcCoe Cert.Prod

variable {F : FTy → Type} [FloatOps F] (m : (ℓ : Loc nD τ sig) → Buf (Elt F) ℓ)

/-- The first part's number, as launched. -/
def word : BitVec 32 := m (((0 : Dev nD) : Thread nD τ).loc main_arg0) one1

/-- It is what the index maps read. -/
theorem word_at : (tbl m).at 0 (Rect.unit (s := S1) ![0] S1.size inb_S1_S1_0) numel1_S1 = word m := by
  unfold word
  show V m (0 : Dev nD) main_arg0 _ = _
  rw [V_main_arg0]
  exact congrArg (m (((0 : Dev nD) : Thread nD τ).loc main_arg0)) (eq_one1 _)

variable (i : grid0.Coords) (hw : (word m).toNat ≤ 6)

include hw in
/-- The weights' block's place. -/
theorem place1 : cc0_transform_1 inb_S1_S1_0 numel1_S1 (tbl m) i = ![0, (word m).toNat + (i 1).val] := by
  have e := add_toNat (word m) (i 1).val hw (i 1).isLt
  rw [← e, ← word_at]
  rfl

include hw in
/-- The result's block's place. -/
theorem place3 : cc0_transform_3 inb_S1_S1_0 numel1_S1 (tbl m) i = ![(BitVec.ofNat 32 (i 0).val).toNat, (word m).toNat + (i 1).val] := by
  have e := add_toNat (word m) (i 1).val hw (i 1).isLt
  rw [← e, ← word_at]
  rfl

/-- With a number at most six the blocks are inside their arrays. -/
theorem ok_of_word (hw : (word m).toNat ≤ 6) : Ok m := by
  refine ⟨fun i => ⟨fun a => ?_, .inr (Affine.block_words_dvd (of_decide_eq_true rfl) (by decide))⟩, fun i => ⟨fun a => ?_, .inl rfl⟩⟩
  · have h1 : (i 1).val < 2 := (i 1).isLt
    rw [place1 m i hw]
    match a with
    | ⟨0, _⟩ => exact (by decide : (0 + 1) * 2048 ≤ 2048)
    | ⟨1, _⟩ => show ((word m).toNat + (i 1).val + 1) * 1152 ≤ 9216; omega
  · have h0 : (i 0).val < 8 := (i 0).isLt
    have h1 : (i 1).val < 2 := (i 1).isLt
    rw [place3 m i hw]
    match a with
    | ⟨0, _⟩ => show ((BitVec.ofNat 32 (i 0).val).toNat + 1) * 1024 ≤ 8192; rw [BitVec.toNat_ofNat]; omega
    | ⟨1, _⟩ => show ((word m).toNat + (i 1).val + 1) * 1152 ≤ 9216; omega

end Cert.Kernel12Ideal.Prod

namespace Cert.Kernel12.Prod

open Cert.Kernel12 Cert.Kernel12.Gen Idealize.ShloMosaic Idealize.ShloMosaic.TcCoe Cert.Prod

variable {F : FTy → Type} [FloatOps F] (m : (ℓ : Loc nD τ sig) → Buf (Elt F) ℓ)

/-- The first part's number, as launched. -/
def word : BitVec 32 := m (((0 : Dev nD) : Thread nD τ).loc main_arg0) one1

/-- It is what the index maps read. -/
theorem word_at : (tbl m).at 0 (Rect.unit (s := S1) ![0] S1.size inb_S1_S1_0) numel1_S1 = word m := by
  unfold word
  show V m (0 : Dev nD) main_arg0 _ = _
  rw [V_main_arg0]
  exact congrArg (m (((0 : Dev nD) : Thread nD τ).loc main_arg0)) (eq_one1 _)

/-- With a number at most six the blocks are inside their arrays. -/
theorem ok_of_word (hw : (word m).toNat ≤ 6) : Ok m := by
  refine ⟨fun i => ⟨fun a => ?_, .inr (Affine.block_words_dvd (of_decide_eq_true rfl) (by decide))⟩, fun i => ⟨fun a => ?_, .inl rfl⟩⟩
  all_goals
    have h0 : (i 0).val < 8 := (i 0).isLt
    have h1 : (i 1).val < 2 := (i 1).isLt
    have e := add_toNat (word m) (i 1).val hw h1
    rw [← word_at] at e hw
  · match a with
    | ⟨0, _⟩ => exact (by decide : (0 + 1) * 2048 ≤ 2048)
    | ⟨1, _⟩ => exact (congrArg (fun n => (n + 1) * 1152) e).trans_le (by show _ * 1152 ≤ 9216; omega)
  · match a with
    | ⟨0, _⟩ => show ((BitVec.ofNat 32 (i 0).val).toNat + 1) * 1024 ≤ 8192; rw [BitVec.toNat_ofNat]; omega
    | ⟨1, _⟩ => exact (congrArg (fun n => (n + 1) * 1152) e).trans_le (by show _ * 1152 ≤ 9216; omega)

end Cert.Kernel12.Prod
-- ==== Proof.Prod.InProj.lean ====
/- The input projection's remaining columns: the array that the product's grid leaves, two parts of it overwritten. -/
module

public import proofs.«01_k».proof.Proof.Prod.Model
public import proofs.«01_k».proof.Proof.Prod.InRange

@[expose] public section

set_option maxRecDepth 16384

noncomputable section

namespace Cert.Prod

open Idealize.ShloMosaic Cert.Pool

/-- Two choices by equivalent conditions, however each is decided. -/
theorem choice_congr {p q : Prop} {dp : Decidable p} {dq : Decidable q} {x y y' : EReal} (h : p ↔ q) (e : y = y') :
    (@ite EReal p dp x y) = @ite EReal q dq x y' := by
  subst e
  by_cases hp : p
  · rw [if_pos hp, if_pos (h.mp hp)]
  · rw [if_neg hp, if_neg (fun hq => hp (h.mpr hq))]

/-- The product on the columns of the parts `b` and `b + 1`, the earlier array elsewhere. -/
def partly (b : ℕ) (h w : ℕ → ℕ → EReal) (p : (⟨2, ![8192, 9216]⟩ : Shape).Idx → EReal) : (⟨2, ![8192, 9216]⟩ : Shape).Idx → EReal :=
  fun i => if 1152 * b ≤ (i 1).val ∧ (i 1).val < 1152 * (b + 2) then nnArr 8192 9216 2048 h w i else p i

end Cert.Prod

namespace Cert.Kernel12Ideal.Prod

open Cert.Kernel12Ideal Cert.Kernel12Ideal.Gen Idealize.ShloMosaic Idealize.ShloMosaic.TcCoe Idealize.SL.Sem Cert.Pool Cert.Norm Cert.Strips Cert.Prod

variable (m : (ℓ : Loc nD τ sig) → Buf (Elt Idealize.ShloMosaic.Ideal) ℓ) (ρ : Dev nD → PrngReg) (hw : (word m).toNat ≤ 6) (c : Dev nD)

/-- The rows. -/
abbrev h : ℕ → ℕ → EReal := at2 (m ((c : Thread nD τ).loc main_arg1))

/-- The weights. -/
abbrev w : ℕ → ℕ → EReal := at2 (m ((c : Thread nD τ).loc main_arg2))

/-- The first part's number. -/
abbrev b : ℕ := (word m).toNat

/-- A point's coordinates. -/
theorem coords_facts : ∀ t : Fin grid0.N, (grid0.coords t 0).val = t.val / 2 ∧ (grid0.coords t 1).val = t.val % 2 := by
  decide +kernel

/-- The blocks' places: point `2 i + j` has the rows' block `i` and the columns' part `b + j`. -/
theorem idx_facts (t : Fin (cfgM m (ok_of_word m hw)).N) :
    ((cfgM m (ok_of_word m hw)).win 0).index t (0 : Fin 2) = t.val / 2 ∧ ((cfgM m (ok_of_word m hw)).win 0).index t (1 : Fin 2) = 0
    ∧ ((cfgM m (ok_of_word m hw)).win 1).index t (0 : Fin 2) = 0 ∧ ((cfgM m (ok_of_word m hw)).win 1).index t (1 : Fin 2) = b m + t.val % 2
    ∧ ((cfgM m (ok_of_word m hw)).win 2).index t (0 : Fin 2) = t.val / 2 ∧ ((cfgM m (ok_of_word m hw)).win 2).index t (1 : Fin 2) = b m + t.val % 2 := by
  have ht : t.val < 16 := lt_of_lt_of_eq t.isLt N_0
  obtain ⟨e0, e1⟩ := coords_facts t
  have p1 := place1 m (grid0.coords t) hw
  have p3 := place3 m (grid0.coords t) hw
  have r : (BitVec.ofNat 32 (grid0.coords t 0).val).toNat = t.val / 2 := by rw [BitVec.toNat_ofNat, e0]; omega
  rw [r, e1] at p3
  rw [e1] at p1
  exact ⟨r, rfl, congrFun p1 0, congrFun p1 1, congrFun p3 0, congrFun p3 1⟩

variable (t : Fin (cfgM m (ok_of_word m hw)).N)

/-- The rows' block. -/
theorem h_at (r : Fin 1024) (x : Fin 2048) : iblk m (ok_of_word m hw) c 0 t (ix2 r x) = h m c (1024 * (t.val / 2) + r.val) x.val := by
  have ht : t.val < 16 := lt_of_lt_of_eq t.isLt N_0
  obtain ⟨a0, a1, _⟩ := idx_facts m hw t
  show V m c main_arg1 ((((cfgM m (ok_of_word m hw)).win 0).blk t).view.emb (ix2 r x)) = at2 (m ((c : Thread nD τ).loc main_arg1)) _ _
  rw [V_main_arg1]
  unfold at2
  rw [dif_pos ⟨by omega, by omega⟩]
  refine congrArg (m ((c : Thread nD τ).loc main_arg1)) (funext fun a => Fin.ext ?_)
  match a with
  | ⟨0, _⟩ => show ((cfgM m (ok_of_word m hw)).win 0).index t (0 : Fin 2) * 1024 + 1 * r.val = 1024 * (t.val / 2) + r.val; omega
  | ⟨1, _⟩ => show ((cfgM m (ok_of_word m hw)).win 0).index t (1 : Fin 2) * 2048 + 1 * x.val = x.val; omega

/-- The weights' block. -/
theorem w_at (x : Fin 2048) (d : Fin 1152) : iblk m (ok_of_word m hw) c 1 t (ix2 x d) = w m c x.val (1152 * (b m + t.val % 2) + d.val) := by
  have ht : t.val < 16 := lt_of_lt_of_eq t.isLt N_0
  obtain ⟨_, _, a0, a1, _⟩ := idx_facts m hw t
  have hb : b m ≤ 6 := hw
  show V m c main_arg2 ((((cfgM m (ok_of_word m hw)).win 1).blk t).view.emb (ix2 x d)) = at2 (m ((c : Thread nD τ).loc main_arg2)) _ _
  rw [V_main_arg2]
  unfold at2
  rw [dif_pos ⟨by omega, by omega⟩]
  refine congrArg (m ((c : Thread nD τ).loc main_arg2)) (funext fun a => Fin.ext ?_)
  match a with
  | ⟨0, _⟩ => show ((cfgM m (ok_of_word m hw)).win 1).index t (0 : Fin 2) * 2048 + 1 * x.val = x.val; omega
  | ⟨1, _⟩ => show ((cfgM m (ok_of_word m hw)).win 1).index t (1 : Fin 2) * 1152 + 1 * d.val = 1152 * (b m + t.val % 2) + d.val; omega

/-- The point's block of the product. -/
theorem out_at (r : Fin 1024) (d : Fin 1152) : outsAt0 m (ok_of_word m hw) c t (ix2 r d)
    = nn 2048 (h m c) (w m c) (1024 * (t.val / 2) + r.val) (1152 * (b m + t.val % 2) + d.val) := by
  have e : ∀ (A : Vec Idealize.ShloMosaic.Ideal S1024x2048 .bf16) (W : Vec Idealize.ShloMosaic.Ideal S2048x1152 .bf16),
      k0_pay1 (F := Idealize.ShloMosaic.Ideal) A W (ix2 r d) = ∑ x : Fin 2048, A (ix2 r x) * W (ix2 x d) := fun A W => by
    pointwise [k0_pay1]
  unfold outsAt0 out0_A_2
  rw [View.read_writes_junk_eq_canon]
  unfold kernelRun0_A
  dsimp only
  sl_unfold_words
  simp only [View.readAt_eq_ld]
  rw [View.canon_unit_zero (by funext a; fin_cases a <;> rfl)]
  simp only [ld_whole]
  unfold nn
  rw [e, Finset.sum_range]
  exact Finset.sum_congr rfl fun x _ => congrArg₂ (· * ·)
    ((congrFun ((hs0_0 m (ok_of_word m hw) t).read_unread _) _).trans (h_at m hw c t r x))
    ((congrFun ((hs0_1 m (ok_of_word m hw) t).read_unread _) _).trans (w_at m hw c t x d))

/-- Every point writes its block back. -/
theorem flushes : ((cfgM m (ok_of_word m hw)).win 2).flush t = true := by
  have ht : t.val < 16 := lt_of_lt_of_eq t.isLt N_0
  unfold Pipeline.Window.flush
  refine (Bool.and_eq_true _ _).mpr ⟨rfl, ?_⟩
  rw [Bool.or_eq_true, decide_eq_true_eq, decide_eq_true_eq]
  by_cases hl : t.val + 1 = grid0.N
  · exact .inl hl
  · have hn : t.val + 1 < grid0.N := by have hl' : t.val < grid0.N := t.isLt; omega
    refine .inr ⟨hn, fun he => ?_⟩
    have h0 := (idx_facts m hw t).2.2.2.2.2
    have h1 := (idx_facts m hw ⟨t.val + 1, hn⟩).2.2.2.2.2
    have h2 : b m + (t.val + 1) % 2 = b m + t.val % 2 := h1.symm.trans ((congrFun he (1 : Fin 2)).trans h0)
    omega

/-- The result's array when the grid begins: the earlier one. -/
theorem begins (z : S8192x9216.Idx) : (dats m (ok_of_word m hw) 0 c).A 2 z = m ((c : Thread nD τ).loc main_arg3) z := by
  rw [A_eq m (ok_of_word m hw) c 2]
  rfl

/-- A result's element by its place in the point's block. -/
theorem place (r : Fin 1024) (j : Fin 1152) (hr : 1024 * (t.val / 2) + r.val < 8192) (hj : 1152 * (b m + t.val % 2) + j.val < 9216) :
    (((cfgM m (ok_of_word m hw)).win 2).blk t).view.emb (ix2 r j)
      = (ix2 ⟨1024 * (t.val / 2) + r.val, hr⟩ ⟨1152 * (b m + t.val % 2) + j.val, hj⟩ : S8192x9216.Idx) := by
  obtain ⟨_, _, _, _, a0, a1⟩ := idx_facts m hw t
  refine funext fun (a : Fin 2) => Fin.ext ?_
  match a with
  | ⟨0, _⟩ => show ((cfgM m (ok_of_word m hw)).win 2).index t (0 : Fin 2) * 1024 + 1 * r.val = 1024 * (t.val / 2) + r.val; omega
  | ⟨1, _⟩ => show ((cfgM m (ok_of_word m hw)).win 2).index t (1 : Fin 2) * 1152 + 1 * j.val = 1152 * (b m + t.val % 2) + j.val; omega

/-- A block lies inside the array. -/
theorem inside (r : Fin 1024) (j : Fin 1152) : 1024 * (t.val / 2) + r.val < 8192 ∧ 1152 * (b m + t.val % 2) + j.val < 9216 := by
  have ht : t.val < 16 := lt_of_lt_of_eq t.isLt N_0
  have hb : b m ≤ 6 := hw
  omega

/-- The blocks together are the columns of the two parts. -/
theorem covered (z : S8192x9216.Idx) :
    (∃ t : Fin (cfgM m (ok_of_word m hw)).N, ((cfgM m (ok_of_word m hw)).win 2).flush t = true ∧ z ∈ (((cfgM m (ok_of_word m hw)).win 2).blk t).view.set)
      ↔ 1152 * b m ≤ (z 1).val ∧ (z 1).val < 1152 * (b m + 2) := by
  constructor
  · rintro ⟨t, _, hz⟩
    obtain ⟨y, _, hy⟩ := Finset.mem_map.mp hz
    obtain ⟨r, j, rfl⟩ := idx2 y
    have hp := congrArg (fun x : S8192x9216.Idx => (x 1).val) ((place m hw t r j (inside m hw t r j).1 (inside m hw t r j).2).symm.trans hy)
    have hv : 1152 * (b m + t.val % 2) + j.val = (z 1).val := hp
    have hj := j.isLt
    omega
  · intro hz
    have hb : b m ≤ 6 := hw
    have z0 : (z 0).val < 8192 := (z 0).isLt
    let t : Fin (cfgM m (ok_of_word m hw)).N :=
      ⟨2 * ((z 0).val / 1024) + ((z 1).val / 1152 - b m), lt_of_lt_of_eq (by omega : _ < 16) N_0.symm⟩
    have tv : t.val = 2 * ((z 0).val / 1024) + ((z 1).val / 1152 - b m) := rfl
    let r : Fin 1024 := ⟨(z 0).val % 1024, by omega⟩
    let j : Fin 1152 := ⟨(z 1).val % 1152, by omega⟩
    refine ⟨t, flushes m hw t, Finset.mem_map.mpr ⟨ix2 r j, Finset.mem_univ _, ?_⟩⟩
    refine (place m hw t r j (inside m hw t r j).1 (inside m hw t r j).2).trans (funext fun a => Fin.ext ?_)
    match a with
    | ⟨0, _⟩ => show 1024 * (t.val / 2) + (z 0).val % 1024 = (z 0).val; omega
    | ⟨1, _⟩ => show 1152 * (b m + t.val % 2) + (z 1).val % 1152 = (z 1).val; omega

/-- The result's array. -/
theorem final : (dats m (ok_of_word m hw) 0 c).arrAt 2 (cfgM m (ok_of_word m hw)).N
    = partly (b m) (h m c) (w m c) (m ((c : Thread nD τ).loc main_arg3)) := by
  funext (z : S8192x9216.Idx)
  refine ((dats m (ok_of_word m hw) 0 c).arrAt_eq_piecewise 2 (nnArr 8192 9216 2048 (h m c) (w m c)) (fun t _ => ?_) z).trans ?_
  · have ef : (dats m (ok_of_word m hw) 0 c).flushed 2 t = ((cfgM m (ok_of_word m hw)).win 2).cut (grid0.coords t) (outsAt0 m (ok_of_word m hw) c t) := by
      show ((cfgM m (ok_of_word m hw)).win 2).cut (grid0.coords t) ((dats m (ok_of_word m hw) 0 c).after 2 t) = _
      rw [after0_2]
    rw [ef]
    funext z
    obtain ⟨r, j, rfl⟩ := idx2 z
    refine Eq.trans (?_ : _ = outsAt0 m (ok_of_word m hw) c t (ix2 r j)) ?_
    · rfl
    rw [out_at m hw c t r j]
    exact (congrArg (nnArr 8192 9216 2048 (h m c) (w m c)) (place m hw t r j (inside m hw t r j).1 (inside m hw t r j).2)).symm
  · exact choice_congr (covered m hw z) (begins m hw c z)

include hw in
/-- The run: the result holds the product on the two parts, the arguments are unchanged. -/
theorem run : θ_run defs (onTc (τ := τ) (main (F := Idealize.ShloMosaic.Ideal))) ⟨m, fun _ => 0, ρ⟩ fun r => ∀ c : Dev nD,
      r.2.mem ((c : Thread nD τ).loc main_v0) = partly (b m) (h m c) (w m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ hr c => ⟨((hr.1 c).1 2).trans (final m hw c), hr.2 c⟩)
    (θ_run_and (run_main m ρ (ok_of_word m hw)) (unchanged m ρ (ok_of_word m hw)))

end Cert.Kernel12Ideal.Prod
-- ==== Proof.Prod.Refs2.lean ====
/- The references of the further plain products: each is the product its kernel's grid leaves. -/
module

public import proofs.«01_k».proof.Proof.Prod.InProj
public import proofs.«01_k».proof.Proof.Prod.Refs
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read
public import proofs.«01_k».proof.Proof.Gen.Reference12Ideal.Read

@[expose] public section

set_option maxRecDepth 16384

noncomputable section

namespace Cert.Prod

open Idealize.ShloMosaic Cert.Pool Cert.Norm

/-- A product with a transposed matrix from the entries of the two. -/
theorem nt_term {M N K : ℕ} (y : (⟨2, ![M, K]⟩ : Shape).Idx → EReal) (w : (⟨2, ![N, K]⟩ : Shape).Idx → EReal) (r : Fin M) (d : Fin N) :
    ∑ k : Fin K, y (ix2 r k) * w (ix2 d k) = nt K (at2 y) (at2 w) r.val d.val := by
  unfold nt
  rw [Finset.sum_range]
  exact Finset.sum_congr rfl fun k _ => (congrArg₂ (· * ·) (at2_ix y r k) (at2_ix w d k)).symm

/-- A product from the entries of the two matrices. -/
theorem nn_term {M N K : ℕ} (h : (⟨2, ![M, K]⟩ : Shape).Idx → EReal) (w : (⟨2, ![K, N]⟩ : Shape).Idx → EReal) (r : Fin M) (d : Fin N) :
    ∑ k : Fin K, h (ix2 r k) * w (ix2 k d) = nn K (at2 h) (at2 w) r.val d.val := by
  unfold nn
  rw [Finset.sum_range]
  exact Finset.sum_congr rfl fun k _ => (congrArg₂ (· * ·) (at2_ix h r k) (at2_ix w k d)).symm

section LruProj

open Cert.Reference8Ideal Cert.Reference8Ideal.Read

/-- The weight gradient of a projection of the recurrence's rows. -/
theorem lru_proj_at (x0 x1 : S8192x2048.Idx → EReal) (r d : Fin 2048) :
    val_main_v6 (F := Idealize.ShloMosaic.Ideal) x0 x1 (ix2 r d) = tn 8192 (at2 x0) (at2 x1) r.val d.val := by
  refine Eq.trans ?_ (tn_term x0 x1 r d)
  pointwise [val_main_v6, val_main_v5, val_main_v4, val_main_v3, val_main_v1]

end LruProj

section PoolProj

open Cert.Reference9Ideal Cert.Reference9Ideal.Read

/-- The weight gradient of the pooling mixer's projection. -/
theorem pool_proj_at (x0 : S8192x1024.Idx → EReal) (x1 : S8192x2048.Idx → EReal) (r : Fin 1024) (d : Fin 2048) :
    val_main_v6 (F := Idealize.ShloMosaic.Ideal) x0 x1 (ix2 r d) = tn 8192 (at2 x0) (at2 x1) r.val d.val := by
  refine Eq.trans ?_ (tn_term x0 x1 r d)
  pointwise [val_main_v6, val_main_v5, val_main_v4, val_main_v3, val_main_v1]

end PoolProj

section LruIn

open Cert.Reference10Ideal Cert.Reference10Ideal.Read

/-- The gradient of the recurrence's rows. -/
theorem lru_in_at (x0 : S8192x2048.Idx → EReal) (x1 : S2048x2048.Idx → EReal) (r : Fin 8192) (d : Fin 2048) :
    val_main_v4 (F := Idealize.ShloMosaic.Ideal) x0 x1 (ix2 r d) = nt 2048 (at2 x0) (at2 x1) r.val d.val := by
  refine Eq.trans ?_ (nt_term x0 x1 r d)
  pointwise [val_main_v4, val_main_v3, val_main_v1]

end LruIn

section PoolIn

open Cert.Reference11Ideal Cert.Reference11Ideal.Read

/-- The gradient of the pooling mixer's rows. -/
theorem pool_in_at (x0 : S8192x2048.Idx → EReal) (x1 : S1024x2048.Idx → EReal) (r : Fin 8192) (d : Fin 1024) :
    val_main_v4 (F := Idealize.ShloMosaic.Ideal) x0 x1 (ix2 r d) = nt 2048 (at2 x0) (at2 x1) r.val d.val := by
  refine Eq.trans ?_ (nt_term x0 x1 r d)
  pointwise [val_main_v4, val_main_v3, val_main_v1]

end PoolIn

section InProj

open Cert.Reference12Ideal Cert.Reference12Ideal.Read

/-- The comparison of a column with the parts' bounds is that of the numbers: none of them wraps. -/
theorem mine_iff (v : BitVec 32) (n : ℕ) (hv : v.toNat ≤ 6) (hn : n < 9216) :
    IntOp.andi (IntOp.cmpi .sge (BitVec.ofNat 32 n) (IntOp.muli 1152#32 v)) (IntOp.cmpi .slt (BitVec.ofNat 32 n) (IntOp.muli 1152#32 (IntOp.addi v 2#32))) = 1#1
      ↔ 1152 * v.toNat ≤ n ∧ n < 1152 * (v.toNat + 2) := by
  have one (p q : Bool) : IntOp.andi (BitVec.ofBool p) (BitVec.ofBool q) = 1#1 ↔ p = true ∧ q = true := by cases p <;> cases q <;> decide
  simp only [IntOp.cmpi, one, IntOp.muli, IntOp.addi, BitVec.sle, BitVec.slt, decide_eq_true_eq, BitVec.toInt, BitVec.toNat_ofNat, BitVec.toNat_mul, BitVec.toNat_add]
  omega

/-- The projection's remaining columns. -/
theorem in_proj_at (x0 : IVec S1 32) (x1 : S8192x2048.Idx → EReal) (x2 : S2048x9216.Idx → EReal) (x3 : S8192x9216.Idx → EReal)
    (hv : (x0 one1).toNat ≤ 6) (r : Fin 8192) (d : Fin 9216) :
    val_main_v15 (F := Idealize.ShloMosaic.Ideal) x0 x1 x2 x3 (ix2 r d) = partly (x0 one1).toNat (at2 x1) (at2 x2) x3 (ix2 r d) := by
  have e : val_main_v2 (F := Idealize.ShloMosaic.Ideal) x1 x2 (ix2 r d) = nn 2048 (at2 x1) (at2 x2) r.val d.val := by
    refine Eq.trans ?_ (nn_term x1 x2 r d)
    pointwise [val_main_v2, val_main_v1, val_main_v0]
  have s : ∀ q, val_main_v4 (F := Idealize.ShloMosaic.Ideal) x0 q = x0 one1 := fun q => congrArg x0 (eq_one1 _)
  have s' : ∀ q, val_main_v8 (F := Idealize.ShloMosaic.Ideal) x0 q = x0 one1 := fun q => congrArg x0 (eq_one1 _)
  rw [val_main_v15_apply, val_main_call0_v0_apply, val_main_v14_apply, val_main_v13_apply, val_main_v7_apply, val_main_v12_apply,
    val_main_v3_apply, val_main_v6_apply, val_main_v11_apply, val_main_v5_apply, val_main_v10_apply, val_main_v9_apply, val_main_c_apply,
    val_main_c_0_apply, val_main_c_1_apply, s, s', e]
  unfold partly Scalar.select
  exact if_congr (mine_iff (x0 one1) d.val hv d.isLt) rfl rfl

end InProj

end Cert.Prod
-- ==== Proof.Adam.WeightIn.lean ====
/- The optimiser's update of the input projection's weights: the arrays that the grid of eight points leaves. -/
module

public import proofs.«01_k».proof.Proof.Adam.Model
public import proofs.«01_k».proof.Proof.Gen.Kernel13Ideal.Value
public import Idealize.ShloMosaic.Lib.Pipeline.ValueKit

@[expose] public section

set_option maxRecDepth 16384

noncomputable section

namespace Cert.Kernel13Ideal.Adam

open Cert.Kernel13Ideal Cert.Kernel13Ideal.Gen Idealize.ShloMosaic Idealize.ShloMosaic.TcCoe Idealize.SL.Sem Cert.Strips Cert.Adam

/-- The body updates its block. -/
theorem body (x0 x1 x2 : Mat 256 1152) (x3 : Parts 256 1152) : Updated x0 x1 x2 (grad x3)
    (out0_4 (F := Idealize.ShloMosaic.Ideal) x0 x1 x2 x3) (out0_5 (F := Idealize.ShloMosaic.Ideal) x0 x1 x2 x3)
    (out0_6 (F := Idealize.ShloMosaic.Ideal) x0 x1 x2 x3) (out0_7 (F := Idealize.ShloMosaic.Ideal) x0 x1 x2 x3) := by
  have hz : (![0, 0] : Fin 2 → ℕ) = fun _ => 0 := by funext a; fin_cases a <;> rfl
  have hg : k0_pay5 (F := Idealize.ShloMosaic.Ideal) x0 x1 x2 x3 = grad x3 := funext (gather x3 shapeCasts_S1x256x1152_S256x1152)
  unfold out0_4 out0_5 out0_6 out0_7
  rw [hg]
  simp only [r0_8, ld_whole]
  iterate 4 rw [View.canon_unit_zero hz]
  exact ⟨rfl, rfl, rfl, rfl⟩

variable (m : (ℓ : Loc nD τ sig) → Buf (Elt Idealize.ShloMosaic.Ideal) ℓ) (ρ : Dev nD → PrngReg) (t : Fin cfg0.N)

/-- A point's rows lie inside the matrix. -/
theorem fits : 256 * t.val + 256 ≤ 2048 := by have : t.val < 8 := lt_of_lt_of_eq t.isLt N_0; omega

/-- The blocks' places. -/
theorem idx_facts : ∀ t : Fin cfg0.N,
    (win0_0.index t (0 : Fin 2) = t.val ∧ win0_0.index t (1 : Fin 2) = 0)
    ∧ win0_3.index t (0 : Fin 3) = 0 ∧ win0_3.index t (1 : Fin 3) = t.val ∧ win0_3.index t (2 : Fin 3) = 0 :=
  (by decide +kernel : ∀ t : Fin grid0.N, _)

/-- A block of a matrix is its rows; all the matrices are cut alike. -/
theorem cut {a : Mat 2048 1152} (t : Fin cfg0.N) : (fun z => a (((cfg0.win 0).blk t).view.emb z)) = pick (row 256 t.val (fits t)) a :=
  funext fun z => congrArg a (at_row (fits t) _ z (idx_facts t).1.1 (idx_facts t).1.2 rfl rfl)

/-- A block of the parts is their rows. -/
theorem cut_parts {a : Parts 2048 1152} (t : Fin cfg0.N) :
    (fun z => a (((cfg0.win 3).blk t).view.emb z)) = pickParts (row 256 t.val (fits t)) a :=
  funext fun z => congrArg a (at_part (fits t) _ z (idx_facts t).2.1 (idx_facts t).2.2.1 (idx_facts t).2.2.2 rfl rfl rfl)

/-- The points' blocks cover a matrix. -/
theorem covers : (cfg0.win 4).Covers := by decide +kernel

/-- The run updates the matrix; the arguments are unchanged. -/
theorem run : θ_run defs (onTc (τ := τ) (main (F := Idealize.ShloMosaic.Ideal))) ⟨m, fun _ => 0, ρ⟩ fun r => ∀ c : Dev nD,
      Updated (R := 2048) (C := 1152) (m ((c : Thread nD τ).loc main_arg0)) (m ((c : Thread nD τ).loc main_arg1)) (m ((c : Thread nD τ).loc main_arg2))
        (grad (R := 2048) (C := 1152) (m ((c : Thread nD τ).loc main_arg3)))
        (r.2.mem ((c : Thread nD τ).loc main_v0_0)) (r.2.mem ((c : Thread nD τ).loc main_v0_1))
        (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (Value.run_blocks m ρ)
  obtain ⟨h4, h5, h6, h7, hargs⟩ := h c
  refine ⟨Updated.whole (e := fun t : Fin cfg0.N => row 256 t.val (fits t))
    (fun t => body (iblk m c 0 t) (iblk m c 1 t) (iblk m c 2 t) (iblk m c 3 t)) cut cut cut cut_parts
    (fun _ h => h4.trans (filled _ 4 covers (Memref.isWhole_whole _) fun t => (Value.flushed4 m c t).trans ((h t).trans (cut t).symm)))
    (fun _ h => h5.trans (filled _ 5 covers (Memref.isWhole_whole _) fun t => (Value.flushed5 m c t).trans ((h t).trans (cut t).symm)))
    (fun _ h => h6.trans (filled _ 6 covers (Memref.isWhole_whole _) fun t => (Value.flushed6 m c t).trans ((h t).trans (cut t).symm)))
    fun _ h => h7.trans (filled _ 7 covers (Memref.isWhole_whole _) fun t => (Value.flushed7 m c t).trans ((h t).trans (cut t).symm)), hargs⟩

end Cert.Kernel13Ideal.Adam
-- ==== Proof.Adam.OnePoint.lean ====
/- The optimiser's update of the matrices that one grid point holds whole: the body's four results are the update of its arguments. -/
module

public import proofs.«01_k».proof.Proof.Adam.Model
public import proofs.«01_k».proof.Proof.Gen.Kernel14Ideal.Value
public import proofs.«01_k».proof.Proof.Gen.Kernel15Ideal.Value
public import proofs.«01_k».proof.Proof.Gen.Kernel17Ideal.Value

@[expose] public section

set_option maxRecDepth 16384

noncomputable section

namespace Cert.Adam

open Idealize.ShloMosaic

open Cert.Kernel14Ideal Cert.Kernel14Ideal.Gen Cert.Kernel14Ideal.Value in
/-- The pooling branch's mixing weights. -/
theorem one_weight_pool (w m v : Mat 128 256) (p : Parts 128 256) : Updated w m v (grad p)
    (G4 (F := Idealize.ShloMosaic.Ideal) w m v p) (G5 (F := Idealize.ShloMosaic.Ideal) w m v p)
    (G6 (F := Idealize.ShloMosaic.Ideal) w m v p) (G7 (F := Idealize.ShloMosaic.Ideal) w m v p) :=
  .by_grad (funext (gather p shapeCasts_S1x128x256_S128x256)) ⟨rfl, rfl, rfl, rfl⟩

open Cert.Kernel15Ideal Cert.Kernel15Ideal.Gen Cert.Kernel15Ideal.Value in
/-- A gate's weights. -/
theorem one_gate (w m v : Mat 256 256) (p : Parts 256 256) : Updated w m v (grad p)
    (G4 (F := Idealize.ShloMosaic.Ideal) w m v p) (G5 (F := Idealize.ShloMosaic.Ideal) w m v p)
    (G6 (F := Idealize.ShloMosaic.Ideal) w m v p) (G7 (F := Idealize.ShloMosaic.Ideal) w m v p) :=
  .by_grad (funext (gather p shapeCasts_S1x256x256_S256x256)) ⟨rfl, rfl, rfl, rfl⟩

open Cert.Kernel17Ideal Cert.Kernel17Ideal.Gen Cert.Kernel17Ideal.Value in
/-- The recurrence's projection, and the mixer's output projection. -/
theorem one_lru_proj (w m v : Mat 256 2048) (p : Parts 256 2048) : Updated w m v (grad p)
    (G4 (F := Idealize.ShloMosaic.Ideal) w m v p) (G5 (F := Idealize.ShloMosaic.Ideal) w m v p)
    (G6 (F := Idealize.ShloMosaic.Ideal) w m v p) (G7 (F := Idealize.ShloMosaic.Ideal) w m v p) :=
  .by_grad (funext (gather p shapeCasts_S1x256x2048_S256x2048)) ⟨rfl, rfl, rfl, rfl⟩

end Cert.Adam
-- ==== Proof.Adam.PoolProj.lean ====
/- The optimiser's update of the pooling branch's projection: the arrays that the grid of four points leaves. -/
module

public import proofs.«01_k».proof.Proof.Adam.Model
public import proofs.«01_k».proof.Proof.Gen.Kernel16Ideal.Value
public import Idealize.ShloMosaic.Lib.Pipeline.ValueKit

@[expose] public section

set_option maxRecDepth 16384

noncomputable section

namespace Cert.Kernel16Ideal.Adam

open Cert.Kernel16Ideal Cert.Kernel16Ideal.Gen Idealize.ShloMosaic Idealize.ShloMosaic.TcCoe Idealize.SL.Sem Cert.Strips Cert.Adam

/-- The body updates its 256 rows of 256 columns. -/
theorem body (w m v : Mat 256 256) (p : Parts 256 256) : Updated w m v (grad p)
    (out0_4 (F := Idealize.ShloMosaic.Ideal) w m v p) (out0_5 (F := Idealize.ShloMosaic.Ideal) w m v p)
    (out0_6 (F := Idealize.ShloMosaic.Ideal) w m v p) (out0_7 (F := Idealize.ShloMosaic.Ideal) w m v p) := by
  have hz : (![0, 0] : Fin 2 → ℕ) = fun _ => 0 := by funext a; fin_cases a <;> rfl
  unfold out0_4 out0_5 out0_6 out0_7
  rw [show k0_pay5 (F := Idealize.ShloMosaic.Ideal) w m v p = grad p from funext (gather p shapeCasts_S1x256x256_S256x256)]
  simp only [r0_8, ld_whole]
  iterate 4 rw [View.canon_unit_zero hz]
  exact ⟨rfl, rfl, rfl, rfl⟩

variable (m : (ℓ : Loc nD τ sig) → Buf (Elt Idealize.ShloMosaic.Ideal) ℓ) (ρ : Dev nD → PrngReg) (t : Fin cfg0.N)

/-- The point's rows lie inside the 1024. -/
theorem fits : 256 * t.val + 256 ≤ 1024 := by have : t.val < 4 := lt_of_lt_of_eq t.isLt N_0; omega

/-- Point `t` holds block `t` of the matrices and of every part. -/
theorem idx_facts : ∀ t : Fin cfg0.N,
    (win0_0.index t (0 : Fin 2) = t.val ∧ win0_0.index t (1 : Fin 2) = 0)
    ∧ win0_3.index t (0 : Fin 3) = 0 ∧ win0_3.index t (1 : Fin 3) = t.val ∧ win0_3.index t (2 : Fin 3) = 0 :=
  (by decide +kernel : ∀ t : Fin grid0.N, _)

/-- A block of a matrix is its rows; all the matrices are cut alike. -/
theorem cut {a : Mat 1024 256} (t : Fin cfg0.N) : (fun z => a (((cfg0.win 0).blk t).view.emb z)) = pick (row 256 t.val (fits t)) a :=
  funext fun z => congrArg a (at_row (fits t) _ z (idx_facts t).1.1 (idx_facts t).1.2 rfl rfl)

/-- A block of the parts is their rows. -/
theorem cut_parts {a : Parts 1024 256} (t : Fin cfg0.N) :
    (fun z => a (((cfg0.win 3).blk t).view.emb z)) = pickParts (row 256 t.val (fits t)) a :=
  funext fun z => congrArg a (at_part (fits t) _ z (idx_facts t).2.1 (idx_facts t).2.2.1 (idx_facts t).2.2.2 rfl rfl rfl)

/-- The points' blocks cover a matrix. -/
theorem covers : (cfg0.win 4).Covers := by decide +kernel

/-- The run updates the matrix; the arguments are unchanged. -/
theorem run : θ_run defs (onTc (τ := τ) (main (F := Idealize.ShloMosaic.Ideal))) ⟨m, fun _ => 0, ρ⟩ fun r => ∀ c : Dev nD,
      Updated (R := 1024) (C := 256) (m ((c : Thread nD τ).loc main_arg0)) (m ((c : Thread nD τ).loc main_arg1)) (m ((c : Thread nD τ).loc main_arg2))
        (grad (R := 1024) (C := 256) (m ((c : Thread nD τ).loc main_arg3)))
        (r.2.mem ((c : Thread nD τ).loc main_v0_0)) (r.2.mem ((c : Thread nD τ).loc main_v0_1))
        (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (Value.run_blocks m ρ)
  obtain ⟨h4, h5, h6, h7, hargs⟩ := h c
  refine ⟨Updated.whole (e := fun t : Fin cfg0.N => row 256 t.val (fits t))
    (fun t => body (iblk m c 0 t) (iblk m c 1 t) (iblk m c 2 t) (iblk m c 3 t)) cut cut cut cut_parts
    (fun _ h => h4.trans (filled _ 4 covers (Memref.isWhole_whole _) fun t => (Value.flushed4 m c t).trans ((h t).trans (cut t).symm)))
    (fun _ h => h5.trans (filled _ 5 covers (Memref.isWhole_whole _) fun t => (Value.flushed5 m c t).trans ((h t).trans (cut t).symm)))
    (fun _ h => h6.trans (filled _ 6 covers (Memref.isWhole_whole _) fun t => (Value.flushed6 m c t).trans ((h t).trans (cut t).symm)))
    fun _ h => h7.trans (filled _ 7 covers (Memref.isWhole_whole _) fun t => (Value.flushed7 m c t).trans ((h t).trans (cut t).symm)), hargs⟩

end Cert.Kernel16Ideal.Adam
-- ==== Proof.Adam.Up.lean ====
/- The optimiser's update of the feed-forward's first weights: the arrays that the grid of eight points leaves. -/
module

public import proofs.«01_k».proof.Proof.Adam.Model
public import proofs.«01_k».proof.Proof.Gen.Kernel18Ideal.Value
public import Idealize.ShloMosaic.Lib.Pipeline.ValueKit

@[expose] public section

set_option maxRecDepth 16384

noncomputable section

namespace Cert.Kernel18Ideal.Adam

open Cert.Kernel18Ideal Cert.Kernel18Ideal.Gen Idealize.ShloMosaic Idealize.ShloMosaic.TcCoe Idealize.SL.Sem Cert.Strips Cert.Adam

/-- The body updates its 256 rows of 1536 columns. -/
theorem body (w m v : Mat 256 1536) (p : Parts 256 1536) : Updated w m v (grad p)
    (out0_4 (F := Idealize.ShloMosaic.Ideal) w m v p) (out0_5 (F := Idealize.ShloMosaic.Ideal) w m v p)
    (out0_6 (F := Idealize.ShloMosaic.Ideal) w m v p) (out0_7 (F := Idealize.ShloMosaic.Ideal) w m v p) := by
  have hz : (![0, 0] : Fin 2 → ℕ) = fun _ => 0 := by funext a; fin_cases a <;> rfl
  unfold out0_4 out0_5 out0_6 out0_7
  rw [show k0_pay5 (F := Idealize.ShloMosaic.Ideal) w m v p = grad p from funext (gather p shapeCasts_S1x256x1536_S256x1536)]
  simp only [r0_8, ld_whole]
  iterate 4 rw [View.canon_unit_zero hz]
  exact ⟨rfl, rfl, rfl, rfl⟩

variable (m : (ℓ : Loc nD τ sig) → Buf (Elt Idealize.ShloMosaic.Ideal) ℓ) (ρ : Dev nD → PrngReg) (t : Fin cfg0.N)

/-- The point's rows lie inside the 2048. -/
theorem fits : 256 * t.val + 256 ≤ 2048 := by have : t.val < 8 := lt_of_lt_of_eq t.isLt N_0; omega

/-- Point `t` holds block `t` of the matrices and of every part. -/
theorem idx_facts : ∀ t : Fin cfg0.N,
    (win0_0.index t (0 : Fin 2) = t.val ∧ win0_0.index t (1 : Fin 2) = 0)
    ∧ win0_3.index t (0 : Fin 3) = 0 ∧ win0_3.index t (1 : Fin 3) = t.val ∧ win0_3.index t (2 : Fin 3) = 0 :=
  (by decide +kernel : ∀ t : Fin grid0.N, _)

/-- A block of a matrix is its rows; all the matrices are cut alike. -/
theorem cut {a : Mat 2048 1536} (t : Fin cfg0.N) : (fun z => a (((cfg0.win 0).blk t).view.emb z)) = pick (row 256 t.val (fits t)) a :=
  funext fun z => congrArg a (at_row (fits t) _ z (idx_facts t).1.1 (idx_facts t).1.2 rfl rfl)

/-- A block of the parts is their rows. -/
theorem cut_parts {a : Parts 2048 1536} (t : Fin cfg0.N) :
    (fun z => a (((cfg0.win 3).blk t).view.emb z)) = pickParts (row 256 t.val (fits t)) a :=
  funext fun z => congrArg a (at_part (fits t) _ z (idx_facts t).2.1 (idx_facts t).2.2.1 (idx_facts t).2.2.2 rfl rfl rfl)

/-- The points' blocks cover a matrix. -/
theorem covers : (cfg0.win 4).Covers := by decide +kernel

/-- The run updates the matrix; the arguments are unchanged. -/
theorem run : θ_run defs (onTc (τ := τ) (main (F := Idealize.ShloMosaic.Ideal))) ⟨m, fun _ => 0, ρ⟩ fun r => ∀ c : Dev nD,
      Updated (R := 2048) (C := 1536) (m ((c : Thread nD τ).loc main_arg0)) (m ((c : Thread nD τ).loc main_arg1)) (m ((c : Thread nD τ).loc main_arg2))
        (grad (R := 2048) (C := 1536) (m ((c : Thread nD τ).loc main_arg3)))
        (r.2.mem ((c : Thread nD τ).loc main_v0_0)) (r.2.mem ((c : Thread nD τ).loc main_v0_1))
        (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (Value.run_blocks m ρ)
  obtain ⟨h4, h5, h6, h7, hargs⟩ := h c
  refine ⟨Updated.whole (e := fun t : Fin cfg0.N => row 256 t.val (fits t))
    (fun t => body (iblk m c 0 t) (iblk m c 1 t) (iblk m c 2 t) (iblk m c 3 t)) cut cut cut cut_parts
    (fun _ h => h4.trans (filled _ 4 covers (Memref.isWhole_whole _) fun t => (Value.flushed4 m c t).trans ((h t).trans (cut t).symm)))
    (fun _ h => h5.trans (filled _ 5 covers (Memref.isWhole_whole _) fun t => (Value.flushed5 m c t).trans ((h t).trans (cut t).symm)))
    (fun _ h => h6.trans (filled _ 6 covers (Memref.isWhole_whole _) fun t => (Value.flushed6 m c t).trans ((h t).trans (cut t).symm)))
    fun _ h => h7.trans (filled _ 7 covers (Memref.isWhole_whole _) fun t => (Value.flushed7 m c t).trans ((h t).trans (cut t).symm)), hargs⟩

end Cert.Kernel18Ideal.Adam
-- ==== Proof.Adam.Down.lean ====
/- The optimiser's update of the feed-forward's second weights: the arrays that the grid of three points leaves. -/
module

public import proofs.«01_k».proof.Proof.Adam.Model
public import proofs.«01_k».proof.Proof.Gen.Kernel19Ideal.Value
public import Idealize.ShloMosaic.Lib.Pipeline.ValueKit

@[expose] public section

set_option maxRecDepth 16384

noncomputable section

namespace Cert.Kernel19Ideal.Adam

open Cert.Kernel19Ideal Cert.Kernel19Ideal.Gen Idealize.ShloMosaic Idealize.ShloMosaic.TcCoe Idealize.SL.Sem Cert.Strips Cert.Adam

/-- The body updates its 256 rows of 2048 columns. -/
theorem body (w m v : Mat 256 2048) (p : Parts 256 2048) : Updated w m v (grad p)
    (out0_4 (F := Idealize.ShloMosaic.Ideal) w m v p) (out0_5 (F := Idealize.ShloMosaic.Ideal) w m v p)
    (out0_6 (F := Idealize.ShloMosaic.Ideal) w m v p) (out0_7 (F := Idealize.ShloMosaic.Ideal) w m v p) := by
  have hz : (![0, 0] : Fin 2 → ℕ) = fun _ => 0 := by funext a; fin_cases a <;> rfl
  unfold out0_4 out0_5 out0_6 out0_7
  rw [show k0_pay5 (F := Idealize.ShloMosaic.Ideal) w m v p = grad p from funext (gather p shapeCasts_S1x256x2048_S256x2048)]
  simp only [r0_8, ld_whole]
  iterate 4 rw [View.canon_unit_zero hz]
  exact ⟨rfl, rfl, rfl, rfl⟩

variable (m : (ℓ : Loc nD τ sig) → Buf (Elt Idealize.ShloMosaic.Ideal) ℓ) (ρ : Dev nD → PrngReg) (t : Fin cfg0.N)

/-- The point's rows lie inside the 768. -/
theorem fits : 256 * t.val + 256 ≤ 768 := by have : t.val < 3 := lt_of_lt_of_eq t.isLt N_0; omega

/-- Point `t` holds block `t` of the matrices and of every part. -/
theorem idx_facts : ∀ t : Fin cfg0.N,
    (win0_0.index t (0 : Fin 2) = t.val ∧ win0_0.index t (1 : Fin 2) = 0)
    ∧ win0_3.index t (0 : Fin 3) = 0 ∧ win0_3.index t (1 : Fin 3) = t.val ∧ win0_3.index t (2 : Fin 3) = 0 :=
  (by decide +kernel : ∀ t : Fin grid0.N, _)

/-- A block of a matrix is its rows; all the matrices are cut alike. -/
theorem cut {a : Mat 768 2048} (t : Fin cfg0.N) : (fun z => a (((cfg0.win 0).blk t).view.emb z)) = pick (row 256 t.val (fits t)) a :=
  funext fun z => congrArg a (at_row (fits t) _ z (idx_facts t).1.1 (idx_facts t).1.2 rfl rfl)

/-- A block of the parts is their rows. -/
theorem cut_parts {a : Parts 768 2048} (t : Fin cfg0.N) :
    (fun z => a (((cfg0.win 3).blk t).view.emb z)) = pickParts (row 256 t.val (fits t)) a :=
  funext fun z => congrArg a (at_part (fits t) _ z (idx_facts t).2.1 (idx_facts t).2.2.1 (idx_facts t).2.2.2 rfl rfl rfl)

/-- The points' blocks cover a matrix. -/
theorem covers : (cfg0.win 4).Covers := by decide +kernel

/-- The run updates the matrix; the arguments are unchanged. -/
theorem run : θ_run defs (onTc (τ := τ) (main (F := Idealize.ShloMosaic.Ideal))) ⟨m, fun _ => 0, ρ⟩ fun r => ∀ c : Dev nD,
      Updated (R := 768) (C := 2048) (m ((c : Thread nD τ).loc main_arg0)) (m ((c : Thread nD τ).loc main_arg1)) (m ((c : Thread nD τ).loc main_arg2))
        (grad (R := 768) (C := 2048) (m ((c : Thread nD τ).loc main_arg3)))
        (r.2.mem ((c : Thread nD τ).loc main_v0_0)) (r.2.mem ((c : Thread nD τ).loc main_v0_1))
        (r.2.mem ((c : Thread nD τ).loc main_v0_2)) (r.2.mem ((c : Thread nD τ).loc main_v0_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (Value.run_blocks m ρ)
  obtain ⟨h4, h5, h6, h7, hargs⟩ := h c
  refine ⟨Updated.whole (e := fun t : Fin cfg0.N => row 256 t.val (fits t))
    (fun t => body (iblk m c 0 t) (iblk m c 1 t) (iblk m c 2 t) (iblk m c 3 t)) cut cut cut cut_parts
    (fun _ h => h4.trans (filled _ 4 covers (Memref.isWhole_whole _) fun t => (Value.flushed4 m c t).trans ((h t).trans (cut t).symm)))
    (fun _ h => h5.trans (filled _ 5 covers (Memref.isWhole_whole _) fun t => (Value.flushed5 m c t).trans ((h t).trans (cut t).symm)))
    (fun _ h => h6.trans (filled _ 6 covers (Memref.isWhole_whole _) fun t => (Value.flushed6 m c t).trans ((h t).trans (cut t).symm)))
    fun _ h => h7.trans (filled _ 7 covers (Memref.isWhole_whole _) fun t => (Value.flushed7 m c t).trans ((h t).trans (cut t).symm)), hargs⟩

end Cert.Kernel19Ideal.Adam
-- ==== Proof.Adam.Refs.lean ====
/- The optimiser's update as the problem states it, at the seven shapes of the matrices. -/
module

public import proofs.«01_k».proof.Proof.Adam.Model
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Reference19Ideal.Read

@[expose] public section

set_option maxRecDepth 16384

noncomputable section

namespace Cert.Adam

open Idealize.ShloMosaic

open Cert.Reference13Ideal.Read in
/-- The input projection's weights. -/
theorem weight_in (x0 x1 x2 : Mat 2048 1152) (x3 : Parts 2048 1152) : Updated x0 x1 x2 (grad x3)
    (val_main_v1 (F := Idealize.ShloMosaic.Ideal) x3) (val_main_v25 (F := Idealize.ShloMosaic.Ideal) x0 x1 x2 x3)
    (val_main_v6 (F := Idealize.ShloMosaic.Ideal) x1 x3) (val_main_v12 (F := Idealize.ShloMosaic.Ideal) x2 x3) :=
  .by_sum (val_main_v1_apply x3) (fun _ _ => rfl) (fun _ _ => rfl) (fun _ _ => rfl) ⟨rfl, rfl, rfl, rfl⟩

open Cert.Reference14Ideal.Read in
/-- The pooling branch's mixing weights. -/
theorem weight_pool (x0 x1 x2 : Mat 128 256) (x3 : Parts 128 256) : Updated x0 x1 x2 (grad x3)
    (val_main_v1 (F := Idealize.ShloMosaic.Ideal) x3) (val_main_v25 (F := Idealize.ShloMosaic.Ideal) x0 x1 x2 x3)
    (val_main_v6 (F := Idealize.ShloMosaic.Ideal) x1 x3) (val_main_v12 (F := Idealize.ShloMosaic.Ideal) x2 x3) :=
  .by_sum (val_main_v1_apply x3) (fun _ _ => rfl) (fun _ _ => rfl) (fun _ _ => rfl) ⟨rfl, rfl, rfl, rfl⟩

open Cert.Reference15Ideal.Read in
/-- A gate's weights. -/
theorem gate (x0 x1 x2 : Mat 256 256) (x3 : Parts 256 256) : Updated x0 x1 x2 (grad x3)
    (val_main_v1 (F := Idealize.ShloMosaic.Ideal) x3) (val_main_v25 (F := Idealize.ShloMosaic.Ideal) x0 x1 x2 x3)
    (val_main_v6 (F := Idealize.ShloMosaic.Ideal) x1 x3) (val_main_v12 (F := Idealize.ShloMosaic.Ideal) x2 x3) :=
  .by_sum (val_main_v1_apply x3) (fun _ _ => rfl) (fun _ _ => rfl) (fun _ _ => rfl) ⟨rfl, rfl, rfl, rfl⟩

open Cert.Reference16Ideal.Read in
/-- The pooling branch's projection. -/
theorem pool_proj (x0 x1 x2 : Mat 1024 256) (x3 : Parts 1024 256) : Updated x0 x1 x2 (grad x3)
    (val_main_v1 (F := Idealize.ShloMosaic.Ideal) x3) (val_main_v25 (F := Idealize.ShloMosaic.Ideal) x0 x1 x2 x3)
    (val_main_v6 (F := Idealize.ShloMosaic.Ideal) x1 x3) (val_main_v12 (F := Idealize.ShloMosaic.Ideal) x2 x3) :=
  .by_sum (val_main_v1_apply x3) (fun _ _ => rfl) (fun _ _ => rfl) (fun _ _ => rfl) ⟨rfl, rfl, rfl, rfl⟩

open Cert.Reference17Ideal.Read in
/-- The recurrence's projection, and the mixer's output projection. -/
theorem lru_proj (x0 x1 x2 : Mat 256 2048) (x3 : Parts 256 2048) : Updated x0 x1 x2 (grad x3)
    (val_main_v1 (F := Idealize.ShloMosaic.Ideal) x3) (val_main_v25 (F := Idealize.ShloMosaic.Ideal) x0 x1 x2 x3)
    (val_main_v6 (F := Idealize.ShloMosaic.Ideal) x1 x3) (val_main_v12 (F := Idealize.ShloMosaic.Ideal) x2 x3) :=
  .by_sum (val_main_v1_apply x3) (fun _ _ => rfl) (fun _ _ => rfl) (fun _ _ => rfl) ⟨rfl, rfl, rfl, rfl⟩

open Cert.Reference18Ideal.Read in
/-- The feed-forward's first weights. -/
theorem up (x0 x1 x2 : Mat 2048 1536) (x3 : Parts 2048 1536) : Updated x0 x1 x2 (grad x3)
    (val_main_v1 (F := Idealize.ShloMosaic.Ideal) x3) (val_main_v25 (F := Idealize.ShloMosaic.Ideal) x0 x1 x2 x3)
    (val_main_v6 (F := Idealize.ShloMosaic.Ideal) x1 x3) (val_main_v12 (F := Idealize.ShloMosaic.Ideal) x2 x3) :=
  .by_sum (val_main_v1_apply x3) (fun _ _ => rfl) (fun _ _ => rfl) (fun _ _ => rfl) ⟨rfl, rfl, rfl, rfl⟩

open Cert.Reference19Ideal.Read in
/-- The feed-forward's second weights. -/
theorem down (x0 x1 x2 : Mat 768 2048) (x3 : Parts 768 2048) : Updated x0 x1 x2 (grad x3)
    (val_main_v1 (F := Idealize.ShloMosaic.Ideal) x3) (val_main_v25 (F := Idealize.ShloMosaic.Ideal) x0 x1 x2 x3)
    (val_main_v6 (F := Idealize.ShloMosaic.Ideal) x1 x3) (val_main_v12 (F := Idealize.ShloMosaic.Ideal) x2 x3) :=
  .by_sum (val_main_v1_apply x3) (fun _ _ => rfl) (fun _ _ => rfl) (fun _ _ => rfl) ⟨rfl, rfl, rfl, rfl⟩

end Cert.Adam
-- ==== Proof.lean ====
/- The certificate: the kernels run and keep their arguments, and over the extended reals their results are those of the plain gradients of
   the reference's forward lines (the pooling mixer's for finite inputs), of the forward line itself, or of the optimiser's lines. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Pool.Final
public import proofs.«01_k».proof.Proof.Pool.RefBack
public import proofs.«01_k».proof.Proof.Pool.Pre
public import proofs.«01_k».proof.Proof.Norm.Final
public import proofs.«01_k».proof.Proof.Norm.Ref2
public import proofs.«01_k».proof.Proof.Norm.SecondFinal
public import proofs.«01_k».proof.Proof.Norm.Ref3
public import proofs.«01_k».proof.Proof.Prod.OutFinal
public import proofs.«01_k».proof.Proof.Prod.OutRef
public import proofs.«01_k».proof.Proof.Prod.MergeFinal
public import proofs.«01_k».proof.Proof.Prod.MergeRef
public import proofs.«01_k».proof.Proof.Prod.Up
public import proofs.«01_k».proof.Proof.Prod.In
public import proofs.«01_k».proof.Proof.Prod.Down
public import proofs.«01_k».proof.Proof.Prod.UpProj
public import proofs.«01_k».proof.Proof.Prod.Refs
public import proofs.«01_k».proof.Proof.Prod.LruProj
public import proofs.«01_k».proof.Proof.Prod.PoolProj
public import proofs.«01_k».proof.Proof.Prod.LruIn
public import proofs.«01_k».proof.Proof.Prod.PoolIn
public import proofs.«01_k».proof.Proof.Prod.InRange
public import proofs.«01_k».proof.Proof.Prod.InProj
public import proofs.«01_k».proof.Proof.Prod.Refs2
public import proofs.«01_k».proof.Proof.Adam.WeightIn
public import proofs.«01_k».proof.Proof.Adam.OnePoint
public import proofs.«01_k».proof.Proof.Adam.PoolProj
public import proofs.«01_k».proof.Proof.Adam.Up
public import proofs.«01_k».proof.Proof.Adam.Down
public import proofs.«01_k».proof.Proof.Adam.Refs
public import Idealize.ShloMosaic.Adequacy
public import Idealize.ShloMosaic.Init

@[expose] public section

noncomputable section

namespace Cert.Proof

open Idealize.ShloMosaic Idealize.SL.Sem Cert.Pool

/-- The kernel's and the reference's results agree: both are the pooling gradient's formulas, under the precondition. -/
theorem pool : algebraic_KernelIdeal_ReferenceIdeal_pre_finite (hKernelIdeal := Cert.KernelIdeal.Gen.facts) (hReferenceIdeal := Cert.ReferenceIdeal.Gen.facts)
    (hPre_finite := Cert.Pre_finite.Pool.facts) := by
  intro m g m' g' hpre hagree
  refine ⟨fun c => Cert.KernelIdeal.Pool.duArr (Cert.KernelIdeal.Pool.ins m c), fun c => Cert.KernelIdeal.Pool.dwArr (Cert.KernelIdeal.Pool.ins m c),
    fun c => Cert.KernelIdeal.Pool.dsArr (Cert.KernelIdeal.Pool.ins m c), Cert.KernelIdeal.Pool.run m g, ?_⟩
  refine (θ_run Cert.ReferenceIdeal.defs _ _).mono (fun r h c => ?_) (Cert.ReferenceIdeal.Value.run (F := Idealize.ShloMosaic.Ideal) m' g')
  obtain ⟨r0, r1, r2, hargs⟩ := h c
  obtain ⟨a0, a1, a2, a3⟩ := hagree c
  obtain ⟨p0, p1, p2, p3⟩ := hpre c
  have hI := @Cert.Pre_finite.Pool.finite Cert.Pre_finite.Pool.facts _ _ _ _ p0 p1 p2 p3
  refine ⟨r0.trans ?_, r1.trans ?_, r2.trans ?_, hargs⟩
  · rw [Cert.ReferenceIdeal.Read.val_main_v120_eq, a0, a2, a3]
    funext y
    obtain ⟨t, j, rfl⟩ := Cert.Strips.idx2 y
    exact Cert.ReferenceIdeal.Pool.du_at _ _ _ _ hI t j
  · rw [Cert.ReferenceIdeal.Read.val_main_v72_eq, a0, a1, a3]
    funext y
    obtain ⟨k, a, b, rfl⟩ := Cert.Strips.idx3 y
    exact Cert.ReferenceIdeal.Pool.dw_at _ _ _ _ hI.u k a b
  · rw [Cert.ReferenceIdeal.Read.val_main_v64_eq, a0, a1, a2]
    funext y
    obtain ⟨z, j, rfl⟩ := Cert.Strips.idx2 y
    obtain rfl : z = 0 := Subsingleton.elim _ _
    exact Cert.ReferenceIdeal.Pool.ds_at _ _ _ _ hI.u j

/-- The reference runs and keeps its arguments; its program has no semaphores, so their counters are zero. -/
theorem frame_reference : quiescent_ReferenceIdeal (hReferenceIdeal := Cert.ReferenceIdeal.Gen.facts) := fun m ρ _ =>
  (θ_run Cert.ReferenceIdeal.defs _ _).mono (fun r h => And.intro (fun c => (h c).2.2.2) (sem_eq_zero_of_no_sems rfl r.2))
    (Cert.ReferenceIdeal.Value.run (F := Idealize.ShloMosaic.Ideal) m ρ)

/-- The mixer's input gradient: the kernel's and the reference's results are the same formulas. -/
theorem norm : algebraic_Kernel2Ideal_Reference2Ideal (hKernel2Ideal := Cert.Kernel2Ideal.Gen.facts)
    (hReference2Ideal := Cert.Reference2Ideal.Gen.facts) := by
  intro m g m' g' _ hagree
  refine ⟨fun c => Cert.Norm.dxArr (Cert.Kernel2Ideal.Norm.ins m c), fun c => Cert.Norm.dxArr (Cert.Kernel2Ideal.Norm.ins m c),
    fun c => Cert.Norm.dgArr (Cert.Kernel2Ideal.Norm.ins m c), Cert.Kernel2Ideal.Norm.run m g, ?_⟩
  refine (θ_run Cert.Reference2Ideal.defs _ _).mono (fun r h c => ?_) (Cert.Reference2Ideal.Value.run (F := Idealize.ShloMosaic.Ideal) m' g')
  obtain ⟨r0, r1, r2, hargs⟩ := h c
  obtain ⟨a0, a1, a2, a3, a4⟩ := hagree c
  refine ⟨r0.trans ?_, r1.trans ?_, r2.trans ?_, hargs⟩
  · rw [Cert.Reference2Ideal.Read.val_main_v38_eq, a0, a1, a2, a3, a4]
    funext y
    obtain ⟨t, j, rfl⟩ := Cert.Strips.idx2 y
    exact Cert.Reference2Ideal.Norm.dx_at _ _ _ _ _ t j
  · rw [Cert.Reference2Ideal.Read.val_main_v39_eq, a0, a1, a2, a3, a4]
    funext y
    obtain ⟨t, j, rfl⟩ := Cert.Strips.idx2 y
    exact Cert.Reference2Ideal.Norm.dxb_at _ _ _ _ _ t j
  · rw [Cert.Reference2Ideal.Read.val_main_v21_eq, a0, a1, a2]
    funext y
    obtain ⟨z, j, rfl⟩ := Cert.Strips.idx2 y
    obtain rfl : z = 0 := Subsingleton.elim _ _
    exact Cert.Reference2Ideal.Norm.dg_at _ _ _ _ _ j

/-- The second reference runs and keeps its arguments. -/
theorem frame_reference2 : quiescent_Reference2Ideal (hReference2Ideal := Cert.Reference2Ideal.Gen.facts) := fun m ρ _ =>
  (θ_run Cert.Reference2Ideal.defs _ _).mono (fun r h => And.intro (fun c => (h c).2.2.2) (sem_eq_zero_of_no_sems rfl r.2))
    (Cert.Reference2Ideal.Value.run (F := Idealize.ShloMosaic.Ideal) m ρ)

/-- The feed-forward block's input gradient: the same, with the cotangent in two halves. -/
theorem norm2 : algebraic_Kernel3Ideal_Reference3Ideal (hKernel3Ideal := Cert.Kernel3Ideal.Gen.facts)
    (hReference3Ideal := Cert.Reference3Ideal.Gen.facts) := by
  intro m g m' g' _ hagree
  refine ⟨fun c => Cert.Norm.dxArr (Cert.Kernel3Ideal.Norm.ins m c), fun c => Cert.Norm.dxArr (Cert.Kernel3Ideal.Norm.ins m c),
    fun c => Cert.Norm.dgArr (Cert.Kernel3Ideal.Norm.ins m c), Cert.Kernel3Ideal.Norm.run m g, ?_⟩
  refine (θ_run Cert.Reference3Ideal.defs _ _).mono (fun r h c => ?_) (Cert.Reference3Ideal.Value.run (F := Idealize.ShloMosaic.Ideal) m' g')
  obtain ⟨r0, r1, r2, hargs⟩ := h c
  obtain ⟨a0, a1, a2, a3, a4⟩ := hagree c
  refine ⟨r0.trans ?_, r1.trans ?_, r2.trans ?_, hargs⟩
  · rw [Cert.Reference3Ideal.Read.val_main_v43_eq, a0, a1, a2, a3, a4]
    funext y
    obtain ⟨t, j, rfl⟩ := Cert.Strips.idx2 y
    exact Cert.Reference3Ideal.Norm.dx_at _ _ _ _ _ t j
  · rw [Cert.Reference3Ideal.Read.val_main_v44_eq, a0, a1, a2, a3, a4]
    funext y
    obtain ⟨t, j, rfl⟩ := Cert.Strips.idx2 y
    exact Cert.Reference3Ideal.Norm.dxb_at _ _ _ _ _ t j
  · rw [Cert.Reference3Ideal.Read.val_main_v26_eq, a0, a1, a2]
    funext y
    obtain ⟨z, j, rfl⟩ := Cert.Strips.idx2 y
    obtain rfl : z = 0 := Subsingleton.elim _ _
    exact Cert.Reference3Ideal.Norm.dg_at _ _ _ _ _ j

/-- The third reference runs and keeps its arguments. -/
theorem frame_reference3 : quiescent_Reference3Ideal (hReference3Ideal := Cert.Reference3Ideal.Gen.facts) := fun m ρ _ =>
  (θ_run Cert.Reference3Ideal.defs _ _).mono (fun r h => And.intro (fun c => (h c).2.2.2) (sem_eq_zero_of_no_sems rfl r.2))
    (Cert.Reference3Ideal.Value.run (F := Idealize.ShloMosaic.Ideal) m ρ)

/-- The up projection's weight gradient: the kernel's and the reference's product have the same terms. -/
theorem weight_up : algebraic_Kernel4Ideal_Reference4Ideal (hKernel4Ideal := Cert.Kernel4Ideal.Gen.facts)
    (hReference4Ideal := Cert.Reference4Ideal.Gen.facts) := by
  intro m g m' g' _ hagree
  refine ⟨fun c => Cert.Prod.tnArr 2048 12288 8192 (Cert.Kernel4Ideal.Prod.h m c) (Cert.Kernel4Ideal.Prod.y m c), Cert.Kernel4Ideal.Prod.run m g, ?_⟩
  refine (θ_run Cert.Reference4Ideal.defs _ _).mono (fun r h c => ?_) (Cert.Reference4Ideal.Value.run (F := Idealize.ShloMosaic.Ideal) m' g')
  obtain ⟨r0, hargs⟩ := h c
  obtain ⟨a0, a1⟩ := hagree c
  refine ⟨r0.trans ?_, hargs⟩
  rw [Cert.Reference4Ideal.Read.val_main_v11_eq, a0, a1]
  funext y
  obtain ⟨t, j, rfl⟩ := Cert.Strips.idx2 y
  exact Cert.Prod.up_at _ _ t j

/-- Its reference runs and keeps its arguments. -/
theorem frame_reference4 : quiescent_Reference4Ideal (hReference4Ideal := Cert.Reference4Ideal.Gen.facts) := fun m ρ _ =>
  (θ_run Cert.Reference4Ideal.defs _ _).mono (fun r h => And.intro (fun c => (h c).2) (sem_eq_zero_of_no_sems rfl r.2))
    (Cert.Reference4Ideal.Value.run (F := Idealize.ShloMosaic.Ideal) m ρ)

/-- The input projection's weight gradient: the kernel's and the reference's product have the same terms. -/
theorem weight_in : algebraic_Kernel5Ideal_Reference5Ideal (hKernel5Ideal := Cert.Kernel5Ideal.Gen.facts)
    (hReference5Ideal := Cert.Reference5Ideal.Gen.facts) := by
  intro m g m' g' _ hagree
  refine ⟨fun c => Cert.Prod.tnArr 2048 9216 8192 (Cert.Kernel5Ideal.Prod.h m c) (Cert.Kernel5Ideal.Prod.y m c), Cert.Kernel5Ideal.Prod.run m g, ?_⟩
  refine (θ_run Cert.Reference5Ideal.defs _ _).mono (fun r h c => ?_) (Cert.Reference5Ideal.Value.run (F := Idealize.ShloMosaic.Ideal) m' g')
  obtain ⟨r0, hargs⟩ := h c
  obtain ⟨a0, a1⟩ := hagree c
  refine ⟨r0.trans ?_, hargs⟩
  rw [Cert.Reference5Ideal.Read.val_main_v6_eq, a0, a1]
  funext y
  obtain ⟨t, j, rfl⟩ := Cert.Strips.idx2 y
  exact Cert.Prod.in_at _ _ t j

/-- Its reference runs and keeps its arguments. -/
theorem frame_reference5 : quiescent_Reference5Ideal (hReference5Ideal := Cert.Reference5Ideal.Gen.facts) := fun m ρ _ =>
  (θ_run Cert.Reference5Ideal.defs _ _).mono (fun r h => And.intro (fun c => (h c).2) (sem_eq_zero_of_no_sems rfl r.2))
    (Cert.Reference5Ideal.Value.run (F := Idealize.ShloMosaic.Ideal) m ρ)

/-- The down projection's weight gradient: the kernel's and the reference's product have the same terms. -/
theorem weight_down : algebraic_Kernel6Ideal_Reference6Ideal (hKernel6Ideal := Cert.Kernel6Ideal.Gen.facts)
    (hReference6Ideal := Cert.Reference6Ideal.Gen.facts) := by
  intro m g m' g' _ hagree
  refine ⟨fun c => Cert.Prod.tnArr 6144 2048 8192 (Cert.Kernel6Ideal.Prod.h m c) (Cert.Kernel6Ideal.Prod.y m c), Cert.Kernel6Ideal.Prod.run m g, ?_⟩
  refine (θ_run Cert.Reference6Ideal.defs _ _).mono (fun r h c => ?_) (Cert.Reference6Ideal.Value.run (F := Idealize.ShloMosaic.Ideal) m' g')
  obtain ⟨r0, hargs⟩ := h c
  obtain ⟨a0, a1⟩ := hagree c
  refine ⟨r0.trans ?_, hargs⟩
  rw [Cert.Reference6Ideal.Read.val_main_v6_eq, a0, a1]
  funext y
  obtain ⟨t, j, rfl⟩ := Cert.Strips.idx2 y
  exact Cert.Prod.down_at _ _ t j

/-- Its reference runs and keeps its arguments. -/
theorem frame_reference6 : quiescent_Reference6Ideal (hReference6Ideal := Cert.Reference6Ideal.Gen.facts) := fun m ρ _ =>
  (θ_run Cert.Reference6Ideal.defs _ _).mono (fun r h => And.intro (fun c => (h c).2) (sem_eq_zero_of_no_sems rfl r.2))
    (Cert.Reference6Ideal.Value.run (F := Idealize.ShloMosaic.Ideal) m ρ)

/-- The up projection: the kernel's and the reference's product have the same terms. -/
theorem up_projection : algebraic_Kernel7Ideal_Reference7Ideal (hKernel7Ideal := Cert.Kernel7Ideal.Gen.facts)
    (hReference7Ideal := Cert.Reference7Ideal.Gen.facts) := by
  intro m g m' g' _ hagree
  refine ⟨fun c => Cert.Prod.nnArr 8192 12288 2048 (Cert.Kernel7Ideal.Prod.h m c) (Cert.Kernel7Ideal.Prod.w m c), Cert.Kernel7Ideal.Prod.run m g, ?_⟩
  refine (θ_run Cert.Reference7Ideal.defs _ _).mono (fun r h c => ?_) (Cert.Reference7Ideal.Value.run (F := Idealize.ShloMosaic.Ideal) m' g')
  obtain ⟨r0, hargs⟩ := h c
  obtain ⟨a0, a1⟩ := hagree c
  refine ⟨r0.trans ?_, hargs⟩
  rw [Cert.Reference7Ideal.Read.val_main_v2_eq, a0, a1]
  funext y
  obtain ⟨t, j, rfl⟩ := Cert.Strips.idx2 y
  exact Cert.Prod.up_proj_at _ _ t j

/-- Its reference runs and keeps its arguments. -/
theorem frame_reference7 : quiescent_Reference7Ideal (hReference7Ideal := Cert.Reference7Ideal.Gen.facts) := fun m ρ _ =>
  (θ_run Cert.Reference7Ideal.defs _ _).mono (fun r h => And.intro (fun c => (h c).2) (sem_eq_zero_of_no_sems rfl r.2))
    (Cert.Reference7Ideal.Value.run (F := Idealize.ShloMosaic.Ideal) m ρ)

/-- The recurrence's projection's weight gradient, and the mixer's output projection's: the kernel's and the reference's product have the same terms. -/
theorem weight_lru_proj : algebraic_Kernel8Ideal_Reference8Ideal (hKernel8Ideal := Cert.Kernel8Ideal.Gen.facts)
    (hReference8Ideal := Cert.Reference8Ideal.Gen.facts) := by
  intro m g m' g' _ hagree
  refine ⟨fun c => Cert.Prod.tnArr 2048 2048 8192 (Cert.Kernel8Ideal.Prod.h m c) (Cert.Kernel8Ideal.Prod.y m c), Cert.Kernel8Ideal.Prod.run m g, ?_⟩
  refine (θ_run Cert.Reference8Ideal.defs _ _).mono (fun r h c => ?_) (Cert.Reference8Ideal.Value.run (F := Idealize.ShloMosaic.Ideal) m' g')
  obtain ⟨r0, hargs⟩ := h c
  obtain ⟨a0, a1⟩ := hagree c
  refine ⟨r0.trans ?_, hargs⟩
  rw [Cert.Reference8Ideal.Read.val_main_v6_eq, a0, a1]
  funext y
  obtain ⟨t, j, rfl⟩ := Cert.Strips.idx2 y
  exact Cert.Prod.lru_proj_at _ _ t j

/-- Its reference runs and keeps its arguments. -/
theorem frame_reference8 : quiescent_Reference8Ideal (hReference8Ideal := Cert.Reference8Ideal.Gen.facts) := fun m ρ _ =>
  (θ_run Cert.Reference8Ideal.defs _ _).mono (fun r h => And.intro (fun c => (h c).2) (sem_eq_zero_of_no_sems rfl r.2))
    (Cert.Reference8Ideal.Value.run (F := Idealize.ShloMosaic.Ideal) m ρ)

/-- The pooling projection's weight gradient: the kernel's and the reference's product have the same terms. -/
theorem weight_pool_proj : algebraic_Kernel9Ideal_Reference9Ideal (hKernel9Ideal := Cert.Kernel9Ideal.Gen.facts)
    (hReference9Ideal := Cert.Reference9Ideal.Gen.facts) := by
  intro m g m' g' _ hagree
  refine ⟨fun c => Cert.Prod.tnArr 1024 2048 8192 (Cert.Kernel9Ideal.Prod.h m c) (Cert.Kernel9Ideal.Prod.y m c), Cert.Kernel9Ideal.Prod.run m g, ?_⟩
  refine (θ_run Cert.Reference9Ideal.defs _ _).mono (fun r h c => ?_) (Cert.Reference9Ideal.Value.run (F := Idealize.ShloMosaic.Ideal) m' g')
  obtain ⟨r0, hargs⟩ := h c
  obtain ⟨a0, a1⟩ := hagree c
  refine ⟨r0.trans ?_, hargs⟩
  rw [Cert.Reference9Ideal.Read.val_main_v6_eq, a0, a1]
  funext y
  obtain ⟨t, j, rfl⟩ := Cert.Strips.idx2 y
  exact Cert.Prod.pool_proj_at _ _ t j

/-- Its reference runs and keeps its arguments. -/
theorem frame_reference9 : quiescent_Reference9Ideal (hReference9Ideal := Cert.Reference9Ideal.Gen.facts) := fun m ρ _ =>
  (θ_run Cert.Reference9Ideal.defs _ _).mono (fun r h => And.intro (fun c => (h c).2) (sem_eq_zero_of_no_sems rfl r.2))
    (Cert.Reference9Ideal.Value.run (F := Idealize.ShloMosaic.Ideal) m ρ)

/-- The gradient of the recurrence's output: the kernel's and the reference's product have the same terms. -/
theorem lru_output : algebraic_Kernel10Ideal_Reference10Ideal (hKernel10Ideal := Cert.Kernel10Ideal.Gen.facts)
    (hReference10Ideal := Cert.Reference10Ideal.Gen.facts) := by
  intro m g m' g' _ hagree
  refine ⟨fun c => Cert.Prod.ntArr 8192 2048 2048 (Cert.Kernel10Ideal.Prod.y m c) (Cert.Kernel10Ideal.Prod.w m c), Cert.Kernel10Ideal.Prod.run m g, ?_⟩
  refine (θ_run Cert.Reference10Ideal.defs _ _).mono (fun r h c => ?_) (Cert.Reference10Ideal.Value.run (F := Idealize.ShloMosaic.Ideal) m' g')
  obtain ⟨r0, hargs⟩ := h c
  obtain ⟨a0, a1⟩ := hagree c
  refine ⟨r0.trans ?_, hargs⟩
  rw [Cert.Reference10Ideal.Read.val_main_v4_eq, a0, a1]
  funext y
  obtain ⟨t, j, rfl⟩ := Cert.Strips.idx2 y
  exact Cert.Prod.lru_in_at _ _ t j

/-- Its reference runs and keeps its arguments. -/
theorem frame_reference10 : quiescent_Reference10Ideal (hReference10Ideal := Cert.Reference10Ideal.Gen.facts) := fun m ρ _ =>
  (θ_run Cert.Reference10Ideal.defs _ _).mono (fun r h => And.intro (fun c => (h c).2) (sem_eq_zero_of_no_sems rfl r.2))
    (Cert.Reference10Ideal.Value.run (F := Idealize.ShloMosaic.Ideal) m ρ)

/-- The gradient of the pooling branch's output: the kernel's and the reference's product have the same terms. -/
theorem pool_output : algebraic_Kernel11Ideal_Reference11Ideal (hKernel11Ideal := Cert.Kernel11Ideal.Gen.facts)
    (hReference11Ideal := Cert.Reference11Ideal.Gen.facts) := by
  intro m g m' g' _ hagree
  refine ⟨fun c => Cert.Prod.ntArr 8192 1024 2048 (Cert.Kernel11Ideal.Prod.y m c) (Cert.Kernel11Ideal.Prod.w m c), Cert.Kernel11Ideal.Prod.run m g, ?_⟩
  refine (θ_run Cert.Reference11Ideal.defs _ _).mono (fun r h c => ?_) (Cert.Reference11Ideal.Value.run (F := Idealize.ShloMosaic.Ideal) m' g')
  obtain ⟨r0, hargs⟩ := h c
  obtain ⟨a0, a1⟩ := hagree c
  refine ⟨r0.trans ?_, hargs⟩
  rw [Cert.Reference11Ideal.Read.val_main_v4_eq, a0, a1]
  funext y
  obtain ⟨t, j, rfl⟩ := Cert.Strips.idx2 y
  exact Cert.Prod.pool_in_at _ _ t j

/-- Its reference runs and keeps its arguments. -/
theorem frame_reference11 : quiescent_Reference11Ideal (hReference11Ideal := Cert.Reference11Ideal.Gen.facts) := fun m ρ _ =>
  (θ_run Cert.Reference11Ideal.defs _ _).mono (fun r h => And.intro (fun c => (h c).2) (sem_eq_zero_of_no_sems rfl r.2))
    (Cert.Reference11Ideal.Value.run (F := Idealize.ShloMosaic.Ideal) m ρ)

/-- Two column blocks of the input projection: the kernel writes them and keeps the others, as the reference does. -/
theorem in_projection : algebraic_Kernel12Ideal_Reference12Ideal (hKernel12Ideal := Cert.Kernel12Ideal.Gen.facts)
    (hReference12Ideal := Cert.Reference12Ideal.Gen.facts) (hPre_in_range := Cert.Pre_in_range.Proj.facts) := by
  intro m g m' g' hpre hagree
  have hw := @Cert.Pre_in_range.Proj.le_six Cert.Pre_in_range.Proj.facts _ _ _ _ _ _ (hpre 0) Cert.Prod.one1
  refine ⟨fun c => Cert.Prod.partly (Cert.Kernel12Ideal.Prod.b m) (Cert.Kernel12Ideal.Prod.h m c) (Cert.Kernel12Ideal.Prod.w m c)
    (m ((c.tc : Thread Cert.Kernel12Ideal.nD Cert.Kernel12Ideal.τ).loc Cert.Kernel12Ideal.main_arg3)), Cert.Kernel12Ideal.Prod.run m g hw, ?_⟩
  refine (θ_run Cert.Reference12Ideal.defs _ _).mono (fun r h c => ?_) (Cert.Reference12Ideal.Value.run (F := Idealize.ShloMosaic.Ideal) m' g')
  obtain ⟨r0, hargs⟩ := h c
  obtain ⟨a0, a1, a2, a3⟩ := hagree c
  obtain rfl : c = 0 := Subsingleton.elim _ _
  refine ⟨r0.trans ?_, hargs⟩
  rw [Cert.Reference12Ideal.Read.val_main_v15_eq, a0, a1, a2, a3]
  funext y
  obtain ⟨t, j, rfl⟩ := Cert.Strips.idx2 y
  exact Cert.Prod.in_proj_at _ _ _ _ hw t j

/-- The kernel runs and keeps its arguments where the first block's number is at most six. -/
theorem frame_in_projection : quiescent_Kernel12 (hKernel12 := Cert.Kernel12.Gen.facts) (hPre_in_range := Cert.Pre_in_range.Proj.facts) := fun m ρ h =>
  Cert.Kernel12.Gen.frame m ρ (Cert.Kernel12.Prod.ok_of_word m
    (@Cert.Pre_in_range.Proj.le_six Cert.Pre_in_range.Proj.facts _ _ _ _ _ _ (h 0) Cert.Prod.one1))

/-- The same over the extended reals. -/
theorem frame_in_projection_ideal : quiescent_Kernel12Ideal (hKernel12Ideal := Cert.Kernel12Ideal.Gen.facts)
    (hPre_in_range := Cert.Pre_in_range.Proj.facts) := fun m ρ h =>
  Cert.Kernel12Ideal.Gen.frame m ρ (Cert.Kernel12Ideal.Prod.ok_of_word m
    (@Cert.Pre_in_range.Proj.le_six Cert.Pre_in_range.Proj.facts _ _ _ _ _ _ (h 0) Cert.Prod.one1))

/-- Its reference runs and keeps its arguments. -/
theorem frame_reference12 : quiescent_Reference12Ideal (hReference12Ideal := Cert.Reference12Ideal.Gen.facts) := fun m ρ _ =>
  (θ_run Cert.Reference12Ideal.defs _ _).mono (fun r h => And.intro (fun c => (h c).2) (sem_eq_zero_of_no_sems rfl r.2))
    (Cert.Reference12Ideal.Value.run (F := Idealize.ShloMosaic.Ideal) m ρ)

open Cert.Adam in
/-- The update of the input projection's weights: the sum of the parts, the step and the two new means are the reference's. -/
theorem adam_weight_in : algebraic_Kernel13Ideal_Reference13Ideal (hKernel13Ideal := Cert.Kernel13Ideal.Gen.facts)
    (hReference13Ideal := Cert.Reference13Ideal.Gen.facts) := by
  intro m g m' g' _ hagree
  exact Updated.settle (R := 2048) (C := 1152) hagree
    ((θ_run Cert.Kernel13Ideal.defs _ _).mono (fun _ h c => (h c).1.beside (h c).2) (Cert.Kernel13Ideal.Adam.run m g))
    ((θ_run Cert.Reference13Ideal.defs _ _).mono (fun _ h c => Updated.carried Cert.Adam.weight_in (hagree c) (h c)) (Cert.Reference13Ideal.Value.run m' g'))

/-- Its reference runs and keeps its arguments. -/
theorem frame_reference13 : quiescent_Reference13Ideal (hReference13Ideal := Cert.Reference13Ideal.Gen.facts) := fun m ρ _ =>
  (θ_run Cert.Reference13Ideal.defs _ _).mono (fun r h => And.intro (fun c => (h c).2.2.2.2) (sem_eq_zero_of_no_sems rfl r.2))
    (Cert.Reference13Ideal.Value.run (F := Idealize.ShloMosaic.Ideal) m ρ)

open Cert.Adam in
/-- The update of the pooling branch's mixing weights: the sum of the parts, the step and the two new means are the reference's. -/
theorem adam_weight_pool : algebraic_Kernel14Ideal_Reference14Ideal (hKernel14Ideal := Cert.Kernel14Ideal.Gen.facts)
    (hReference14Ideal := Cert.Reference14Ideal.Gen.facts) := by
  intro m g m' g' _ hagree
  exact Updated.settle (R := 128) (C := 256) hagree
    ((θ_run Cert.Kernel14Ideal.defs _ _).mono (fun _ h c => Updated.carried one_weight_pool ⟨rfl, rfl, rfl, rfl⟩ (h c)) (Cert.Kernel14Ideal.Value.run m g))
    ((θ_run Cert.Reference14Ideal.defs _ _).mono (fun _ h c => Updated.carried weight_pool (hagree c) (h c)) (Cert.Reference14Ideal.Value.run m' g'))

/-- Its reference runs and keeps its arguments. -/
theorem frame_reference14 : quiescent_Reference14Ideal (hReference14Ideal := Cert.Reference14Ideal.Gen.facts) := fun m ρ _ =>
  (θ_run Cert.Reference14Ideal.defs _ _).mono (fun r h => And.intro (fun c => (h c).2.2.2.2) (sem_eq_zero_of_no_sems rfl r.2))
    (Cert.Reference14Ideal.Value.run (F := Idealize.ShloMosaic.Ideal) m ρ)

open Cert.Adam in
/-- The update of a gate's weights: the sum of the parts, the step and the two new means are the reference's. -/
theorem adam_gate : algebraic_Kernel15Ideal_Reference15Ideal (hKernel15Ideal := Cert.Kernel15Ideal.Gen.facts)
    (hReference15Ideal := Cert.Reference15Ideal.Gen.facts) := by
  intro m g m' g' _ hagree
  exact Updated.settle (R := 256) (C := 256) hagree
    ((θ_run Cert.Kernel15Ideal.defs _ _).mono (fun _ h c => Updated.carried one_gate ⟨rfl, rfl, rfl, rfl⟩ (h c)) (Cert.Kernel15Ideal.Value.run m g))
    ((θ_run Cert.Reference15Ideal.defs _ _).mono (fun _ h c => Updated.carried gate (hagree c) (h c)) (Cert.Reference15Ideal.Value.run m' g'))

/-- Its reference runs and keeps its arguments. -/
theorem frame_reference15 : quiescent_Reference15Ideal (hReference15Ideal := Cert.Reference15Ideal.Gen.facts) := fun m ρ _ =>
  (θ_run Cert.Reference15Ideal.defs _ _).mono (fun r h => And.intro (fun c => (h c).2.2.2.2) (sem_eq_zero_of_no_sems rfl r.2))
    (Cert.Reference15Ideal.Value.run (F := Idealize.ShloMosaic.Ideal) m ρ)

open Cert.Adam in
/-- The update of the pooling branch's projection: the sum of the parts, the step and the two new means are the reference's. -/
theorem adam_pool_proj : algebraic_Kernel16Ideal_Reference16Ideal (hKernel16Ideal := Cert.Kernel16Ideal.Gen.facts)
    (hReference16Ideal := Cert.Reference16Ideal.Gen.facts) := by
  intro m g m' g' _ hagree
  exact Updated.settle (R := 1024) (C := 256) hagree
    ((θ_run Cert.Kernel16Ideal.defs _ _).mono (fun _ h c => (h c).1.beside (h c).2) (Cert.Kernel16Ideal.Adam.run m g))
    ((θ_run Cert.Reference16Ideal.defs _ _).mono (fun _ h c => Updated.carried pool_proj (hagree c) (h c)) (Cert.Reference16Ideal.Value.run m' g'))

/-- Its reference runs and keeps its arguments. -/
theorem frame_reference16 : quiescent_Reference16Ideal (hReference16Ideal := Cert.Reference16Ideal.Gen.facts) := fun m ρ _ =>
  (θ_run Cert.Reference16Ideal.defs _ _).mono (fun r h => And.intro (fun c => (h c).2.2.2.2) (sem_eq_zero_of_no_sems rfl r.2))
    (Cert.Reference16Ideal.Value.run (F := Idealize.ShloMosaic.Ideal) m ρ)

open Cert.Adam in
/-- The update of the recurrence's projection and of the mixer's output projection: the sum of the parts, the step and the two new means are the reference's. -/
theorem adam_lru_proj : algebraic_Kernel17Ideal_Reference17Ideal (hKernel17Ideal := Cert.Kernel17Ideal.Gen.facts)
    (hReference17Ideal := Cert.Reference17Ideal.Gen.facts) := by
  intro m g m' g' _ hagree
  exact Updated.settle (R := 256) (C := 2048) hagree
    ((θ_run Cert.Kernel17Ideal.defs _ _).mono (fun _ h c => Updated.carried one_lru_proj ⟨rfl, rfl, rfl, rfl⟩ (h c)) (Cert.Kernel17Ideal.Value.run m g))
    ((θ_run Cert.Reference17Ideal.defs _ _).mono (fun _ h c => Updated.carried lru_proj (hagree c) (h c)) (Cert.Reference17Ideal.Value.run m' g'))

/-- Its reference runs and keeps its arguments. -/
theorem frame_reference17 : quiescent_Reference17Ideal (hReference17Ideal := Cert.Reference17Ideal.Gen.facts) := fun m ρ _ =>
  (θ_run Cert.Reference17Ideal.defs _ _).mono (fun r h => And.intro (fun c => (h c).2.2.2.2) (sem_eq_zero_of_no_sems rfl r.2))
    (Cert.Reference17Ideal.Value.run (F := Idealize.ShloMosaic.Ideal) m ρ)

open Cert.Adam in
/-- The update of the feed-forward's first weights: the sum of the parts, the step and the two new means are the reference's. -/
theorem adam_up : algebraic_Kernel18Ideal_Reference18Ideal (hKernel18Ideal := Cert.Kernel18Ideal.Gen.facts)
    (hReference18Ideal := Cert.Reference18Ideal.Gen.facts) := by
  intro m g m' g' _ hagree
  exact Updated.settle (R := 2048) (C := 1536) hagree
    ((θ_run Cert.Kernel18Ideal.defs _ _).mono (fun _ h c => (h c).1.beside (h c).2) (Cert.Kernel18Ideal.Adam.run m g))
    ((θ_run Cert.Reference18Ideal.defs _ _).mono (fun _ h c => Updated.carried up (hagree c) (h c)) (Cert.Reference18Ideal.Value.run m' g'))

/-- Its reference runs and keeps its arguments. -/
theorem frame_reference18 : quiescent_Reference18Ideal (hReference18Ideal := Cert.Reference18Ideal.Gen.facts) := fun m ρ _ =>
  (θ_run Cert.Reference18Ideal.defs _ _).mono (fun r h => And.intro (fun c => (h c).2.2.2.2) (sem_eq_zero_of_no_sems rfl r.2))
    (Cert.Reference18Ideal.Value.run (F := Idealize.ShloMosaic.Ideal) m ρ)

open Cert.Adam in
/-- The update of the feed-forward's second weights: the sum of the parts, the step and the two new means are the reference's. -/
theorem adam_down : algebraic_Kernel19Ideal_Reference19Ideal (hKernel19Ideal := Cert.Kernel19Ideal.Gen.facts)
    (hReference19Ideal := Cert.Reference19Ideal.Gen.facts) := by
  intro m g m' g' _ hagree
  exact Updated.settle (R := 768) (C := 2048) hagree
    ((θ_run Cert.Kernel19Ideal.defs _ _).mono (fun _ h c => (h c).1.beside (h c).2) (Cert.Kernel19Ideal.Adam.run m g))
    ((θ_run Cert.Reference19Ideal.defs _ _).mono (fun _ h c => Updated.carried down (hagree c) (h c)) (Cert.Reference19Ideal.Value.run m' g'))

/-- Its reference runs and keeps its arguments. -/
theorem frame_reference19 : quiescent_Reference19Ideal (hReference19Ideal := Cert.Reference19Ideal.Gen.facts) := fun m ρ _ =>
  (θ_run Cert.Reference19Ideal.defs _ _).mono (fun r h => And.intro (fun c => (h c).2.2.2.2) (sem_eq_zero_of_no_sems rfl r.2))
    (Cert.Reference19Ideal.Value.run (F := Idealize.ShloMosaic.Ideal) m ρ)

/-- The mixer's output projection added to the residual stream, and the norm of the sum: the kernel and the reference leave the same arrays. -/
theorem out_projection : algebraic_Kernel20Ideal_Reference20Ideal (hKernel20Ideal := Cert.Kernel20Ideal.Gen.facts)
    (hReference20Ideal := Cert.Reference20Ideal.Gen.facts) := by
  intro m g m' g' _ hagree
  refine ⟨fun c => Cert.Prod.streamArr (Cert.Kernel20Ideal.Prod.a m c) (Cert.Kernel20Ideal.Prod.w m c) (Cert.Kernel20Ideal.Prod.x m c),
    fun c => Cert.Prod.normedArr (Cert.Kernel20Ideal.Prod.a m c) (Cert.Kernel20Ideal.Prod.w m c) (Cert.Kernel20Ideal.Prod.x m c) (Cert.Kernel20Ideal.Prod.g m c),
    Cert.Kernel20Ideal.Prod.run m g, ?_⟩
  refine (θ_run Cert.Reference20Ideal.defs _ _).mono (fun r h c => ?_) (Cert.Reference20Ideal.Value.run (F := Idealize.ShloMosaic.Ideal) m' g')
  obtain ⟨r0, r1, hargs⟩ := h c
  obtain ⟨a0, a1, a2, a3⟩ := hagree c
  refine ⟨r0.trans ?_, r1.trans ?_, hargs⟩
  · rw [Cert.Reference20Ideal.Read.val_main_v3_eq, a0, a1, a2]
    exact (Cert.Reference20Ideal.Prod.arrays _ _ _ (m ((c.tc : Thread Cert.Kernel20Ideal.nD Cert.Kernel20Ideal.τ).loc Cert.Kernel20Ideal.main_arg3))).1
  · rw [Cert.Reference20Ideal.Read.val_main_v16_eq, a0, a1, a2, a3]
    exact (Cert.Reference20Ideal.Prod.arrays _ _ _ _).2

/-- Its reference runs and keeps its arguments. -/
theorem frame_reference20 : quiescent_Reference20Ideal (hReference20Ideal := Cert.Reference20Ideal.Gen.facts) := fun m ρ _ =>
  (θ_run Cert.Reference20Ideal.defs _ _).mono (fun r h => And.intro (fun c => (h c).2.2) (sem_eq_zero_of_no_sems rfl r.2))
    (Cert.Reference20Ideal.Value.run (F := Idealize.ShloMosaic.Ideal) m ρ)

/-- The mixer's two branches, projected and added with their gates: the kernel and the reference leave the same arrays. -/
theorem merge : algebraic_Kernel21Ideal_Reference21Ideal (hKernel21Ideal := Cert.Kernel21Ideal.Gen.facts)
    (hReference21Ideal := Cert.Reference21Ideal.Gen.facts) := by
  intro m g m' g' _ hagree
  refine ⟨fun c => Cert.Prod.tokens (Cert.Prod.nn 1024 (Cert.Kernel21Ideal.Prod.yp m c) (Cert.Kernel21Ideal.Prod.wp m c)),
    fun c => Cert.Prod.tokens (Cert.Prod.nn 2048 (Cert.Kernel21Ideal.Prod.yl m c) (Cert.Kernel21Ideal.Prod.wl m c)),
    fun c => Cert.Prod.tokens (Cert.Prod.merged (Cert.Kernel21Ideal.Prod.yp m c) (Cert.Kernel21Ideal.Prod.yl m c) (Cert.Kernel21Ideal.Prod.wp m c)
      (Cert.Kernel21Ideal.Prod.wl m c) (Cert.Kernel21Ideal.Prod.s m c) (Cert.Kernel21Ideal.Prod.b m c)), Cert.Kernel21Ideal.Prod.run m g, ?_⟩
  refine (θ_run Cert.Reference21Ideal.defs _ _).mono (fun r h c => ?_) (Cert.Reference21Ideal.Value.run (F := Idealize.ShloMosaic.Ideal) m' g')
  obtain ⟨r0, r1, r2, hargs⟩ := h c
  obtain ⟨a0, a1, a2, a3, a4, a5⟩ := hagree c
  have e := Cert.Reference21Ideal.Prod.arrays (m ((c.tc : Thread Cert.Kernel21Ideal.nD Cert.Kernel21Ideal.τ).loc Cert.Kernel21Ideal.main_arg0))
    (m ((c.tc : Thread Cert.Kernel21Ideal.nD Cert.Kernel21Ideal.τ).loc Cert.Kernel21Ideal.main_arg1))
    (m ((c.tc : Thread Cert.Kernel21Ideal.nD Cert.Kernel21Ideal.τ).loc Cert.Kernel21Ideal.main_arg2))
    (m ((c.tc : Thread Cert.Kernel21Ideal.nD Cert.Kernel21Ideal.τ).loc Cert.Kernel21Ideal.main_arg3))
    (m ((c.tc : Thread Cert.Kernel21Ideal.nD Cert.Kernel21Ideal.τ).loc Cert.Kernel21Ideal.main_arg4))
    (m ((c.tc : Thread Cert.Kernel21Ideal.nD Cert.Kernel21Ideal.τ).loc Cert.Kernel21Ideal.main_arg5))
  refine ⟨r0.trans ?_, r1.trans ?_, r2.trans ?_, hargs⟩
  · rw [Cert.Reference21Ideal.Read.val_main_v20_eq, a0, a2]
    exact e.1
  · rw [Cert.Reference21Ideal.Read.val_main_v21_eq, a1, a3]
    exact e.2.1
  · rw [Cert.Reference21Ideal.Read.val_main_v22_eq, a0, a1, a2, a3, a4, a5]
    exact e.2.2

/-- Its reference runs and keeps its arguments. -/
theorem frame_reference21 : quiescent_Reference21Ideal (hReference21Ideal := Cert.Reference21Ideal.Gen.facts) := fun m ρ _ =>
  (θ_run Cert.Reference21Ideal.defs _ _).mono (fun r h => And.intro (fun c => (h c).2.2.2) (sem_eq_zero_of_no_sems rfl r.2))
    (Cert.Reference21Ideal.Value.run (F := Idealize.ShloMosaic.Ideal) m ρ)

/-- The certificate's claims, from the frames and the equalities above. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Kernel7.Gen.facts,
  Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite.Pool.facts, Cert.Pre_in_range.Proj.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  frame_in_projection, frame_in_projection_ideal, frame_reference12, fun m ρ _ => frame_reference12 m ρ trivial,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  trivial, pool, trivial, norm, trivial, norm2, trivial, weight_up, trivial, weight_in, trivial, weight_down, trivial, up_projection,
  trivial, weight_lru_proj, trivial, weight_pool_proj, trivial, lru_output, trivial, pool_output, trivial, in_projection, trivial, adam_weight_in, trivial, adam_weight_pool, trivial, adam_gate, trivial, adam_pool_proj, trivial, adam_lru_proj, trivial, adam_up, trivial, adam_down,
  trivial, out_projection, trivial, merge⟩

end Cert.Proof

end
